-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_within [hPre_lens_within : Cert.Pre_lens_within.Facts] (m : (ℓ : Loc Cert.KernelIdeal.nD Cert.KernelIdeal.τ Cert.KernelIdeal.sig) → Buf (Elt Ideal) ℓ) : Prop :=
  ∀ c : Dev Cert.KernelIdeal.nD,
    (Cert.Pre_lens_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_within [hPre_lens_within : Cert.Pre_lens_within.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Kernel0Ideal_inputs_within [hPre_inputs_within : Cert.Pre_inputs_within.Facts] (m : (ℓ : Loc Cert.Kernel0Ideal.nD Cert.Kernel0Ideal.τ Cert.Kernel0Ideal.sig) → Buf (Elt Ideal) ℓ) : Prop :=
  ∀ c : Dev Cert.Kernel0Ideal.nD,
    (Cert.Pre_inputs_within.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4)) (m ((c.tc : Thread Cert.Kernel0Ideal.nD Cert.Kernel0Ideal.τ).loc Cert.Kernel0Ideal.main_arg5)) (m ((c.tc : Thread Cert.Kernel0Ideal.nD Cert.Kernel0Ideal.τ).loc Cert.Kernel0Ideal.main_arg6)) (m ((c.tc : Thread Cert.Kernel0Ideal.nD Cert.Kernel0Ideal.τ).loc Cert.Kernel0Ideal.main_arg7)) (m ((c.tc : Thread Cert.Kernel0Ideal.nD Cert.Kernel0Ideal.τ).loc Cert.Kernel0Ideal.main_arg8)) (m ((c.tc : Thread Cert.Kernel0Ideal.nD Cert.Kernel0Ideal.τ).loc Cert.Kernel0Ideal.main_arg9)) (m ((c.tc : Thread Cert.Kernel0Ideal.nD Cert.Kernel0Ideal.τ).loc Cert.Kernel0Ideal.main_arg10))) = (fun _ => 1#1)

def Pre_Reference0Ideal (m : (ℓ : Loc Cert.Reference0Ideal.nD Cert.Reference0Ideal.τ Cert.Reference0Ideal.sig) → Buf (Elt Ideal) ℓ) : Prop :=
  True

def Pre_Reference0Ideal_inputs_within [hPre_inputs_within : Cert.Pre_inputs_within.Facts] (m : (ℓ : Loc Cert.Reference0Ideal.nD Cert.Reference0Ideal.τ Cert.Reference0Ideal.sig) → Buf (Elt Ideal) ℓ) : Prop :=
  ∀ c : Dev Cert.Reference0Ideal.nD,
    (Cert.Pre_inputs_within.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2)) (m ((c.tc : Thread Cert.Reference0Ideal.nD Cert.Reference0Ideal.τ).loc Cert.Reference0Ideal.main_arg3)) (m ((c.tc : Thread Cert.Reference0Ideal.nD Cert.Reference0Ideal.τ).loc Cert.Reference0Ideal.main_arg4)) (m ((c.tc : Thread Cert.Reference0Ideal.nD Cert.Reference0Ideal.τ).loc Cert.Reference0Ideal.main_arg5)) (m ((c.tc : Thread Cert.Reference0Ideal.nD Cert.Reference0Ideal.τ).loc Cert.Reference0Ideal.main_arg6)) (m ((c.tc : Thread Cert.Reference0Ideal.nD Cert.Reference0Ideal.τ).loc Cert.Reference0Ideal.main_arg7)) (m ((c.tc : Thread Cert.Reference0Ideal.nD Cert.Reference0Ideal.τ).loc Cert.Reference0Ideal.main_arg8)) (m ((c.tc : Thread Cert.Reference0Ideal.nD Cert.Reference0Ideal.τ).loc Cert.Reference0Ideal.main_arg9)) (m ((c.tc : Thread Cert.Reference0Ideal.nD Cert.Reference0Ideal.τ).loc Cert.Reference0Ideal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_head_within [hPre_head_within : Cert.Pre_head_within.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_head_within.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_head_within [hPre_head_within : Cert.Pre_head_within.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_head_within.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_lens_within [hKernelIdeal : Cert.KernelIdeal.Facts] [hPre_lens_within : Cert.Pre_lens_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_within m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_lens_within [hReferenceIdeal : Cert.ReferenceIdeal.Facts] [hPre_lens_within : Cert.Pre_lens_within.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_within m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5)
      ∧ r.2.mem ((c.tc : Thread Cert.Kernel0.nD Cert.Kernel0.τ).loc Cert.Kernel0.main_arg6) = m ((c.tc : Thread Cert.Kernel0.nD Cert.Kernel0.τ).loc Cert.Kernel0.main_arg6)
      ∧ r.2.mem ((c.tc : Thread Cert.Kernel0.nD Cert.Kernel0.τ).loc Cert.Kernel0.main_arg7) = m ((c.tc : Thread Cert.Kernel0.nD Cert.Kernel0.τ).loc Cert.Kernel0.main_arg7)
      ∧ r.2.mem ((c.tc : Thread Cert.Kernel0.nD Cert.Kernel0.τ).loc Cert.Kernel0.main_arg8) = m ((c.tc : Thread Cert.Kernel0.nD Cert.Kernel0.τ).loc Cert.Kernel0.main_arg8)
      ∧ r.2.mem ((c.tc : Thread Cert.Kernel0.nD Cert.Kernel0.τ).loc Cert.Kernel0.main_arg9) = m ((c.tc : Thread Cert.Kernel0.nD Cert.Kernel0.τ).loc Cert.Kernel0.main_arg9)
      ∧ r.2.mem ((c.tc : Thread Cert.Kernel0.nD Cert.Kernel0.τ).loc Cert.Kernel0.main_arg10) = m ((c.tc : Thread Cert.Kernel0.nD Cert.Kernel0.τ).loc Cert.Kernel0.main_arg10))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
      ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8)
      ∧ r.2.mem ((c.tc : Thread Cert.Kernel0Ideal.nD Cert.Kernel0Ideal.τ).loc Cert.Kernel0Ideal.main_arg9) = m ((c.tc : Thread Cert.Kernel0Ideal.nD Cert.Kernel0Ideal.τ).loc Cert.Kernel0Ideal.main_arg9)
      ∧ r.2.mem ((c.tc : Thread Cert.Kernel0Ideal.nD Cert.Kernel0Ideal.τ).loc Cert.Kernel0Ideal.main_arg10) = m ((c.tc : Thread Cert.Kernel0Ideal.nD Cert.Kernel0Ideal.τ).loc Cert.Kernel0Ideal.main_arg10))
      ∧ r.2.sem = fun _ => 0)

def quiescent_Kernel0Ideal_pre_inputs_within [hKernel0Ideal : Cert.Kernel0Ideal.Facts] [hPre_inputs_within : Cert.Pre_inputs_within.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal_inputs_within m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
      ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8)
      ∧ r.2.mem ((c.tc : Thread Cert.Kernel0Ideal.nD Cert.Kernel0Ideal.τ).loc Cert.Kernel0Ideal.main_arg9) = m ((c.tc : Thread Cert.Kernel0Ideal.nD Cert.Kernel0Ideal.τ).loc Cert.Kernel0Ideal.main_arg9)
      ∧ r.2.mem ((c.tc : Thread Cert.Kernel0Ideal.nD Cert.Kernel0Ideal.τ).loc Cert.Kernel0Ideal.main_arg10) = m ((c.tc : Thread Cert.Kernel0Ideal.nD Cert.Kernel0Ideal.τ).loc Cert.Kernel0Ideal.main_arg10))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7)
      ∧ r.2.mem ((c.tc : Thread Cert.Reference0Ideal.nD Cert.Reference0Ideal.τ).loc Cert.Reference0Ideal.main_arg8) = m ((c.tc : Thread Cert.Reference0Ideal.nD Cert.Reference0Ideal.τ).loc Cert.Reference0Ideal.main_arg8)
      ∧ r.2.mem ((c.tc : Thread Cert.Reference0Ideal.nD Cert.Reference0Ideal.τ).loc Cert.Reference0Ideal.main_arg9) = m ((c.tc : Thread Cert.Reference0Ideal.nD Cert.Reference0Ideal.τ).loc Cert.Reference0Ideal.main_arg9)
      ∧ r.2.mem ((c.tc : Thread Cert.Reference0Ideal.nD Cert.Reference0Ideal.τ).loc Cert.Reference0Ideal.main_arg10) = m ((c.tc : Thread Cert.Reference0Ideal.nD Cert.Reference0Ideal.τ).loc Cert.Reference0Ideal.main_arg10))
      ∧ r.2.sem = fun _ => 0)

def quiescent_Reference0Ideal_pre_inputs_within [hReference0Ideal : Cert.Reference0Ideal.Facts] [hPre_inputs_within : Cert.Pre_inputs_within.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal_inputs_within m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7)
      ∧ r.2.mem ((c.tc : Thread Cert.Reference0Ideal.nD Cert.Reference0Ideal.τ).loc Cert.Reference0Ideal.main_arg8) = m ((c.tc : Thread Cert.Reference0Ideal.nD Cert.Reference0Ideal.τ).loc Cert.Reference0Ideal.main_arg8)
      ∧ r.2.mem ((c.tc : Thread Cert.Reference0Ideal.nD Cert.Reference0Ideal.τ).loc Cert.Reference0Ideal.main_arg9) = m ((c.tc : Thread Cert.Reference0Ideal.nD Cert.Reference0Ideal.τ).loc Cert.Reference0Ideal.main_arg9)
      ∧ r.2.mem ((c.tc : Thread Cert.Reference0Ideal.nD Cert.Reference0Ideal.τ).loc Cert.Reference0Ideal.main_arg10) = m ((c.tc : Thread Cert.Reference0Ideal.nD Cert.Reference0Ideal.τ).loc Cert.Reference0Ideal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Kernel2Ideal_pre_head_within [hKernel2Ideal : Cert.Kernel2Ideal.Facts] [hPre_head_within : Cert.Pre_head_within.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_head_within m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Reference2Ideal_pre_head_within [hReference2Ideal : Cert.Reference2Ideal.Facts] [hPre_head_within : Cert.Pre_head_within.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_head_within m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def preserves_Kernel_KernelIdeal : Prop :=
  True

def algebraic_KernelIdeal_ReferenceIdeal_pre_lens_within [hKernelIdeal : Cert.KernelIdeal.Facts] [hReferenceIdeal : Cert.ReferenceIdeal.Facts] [hPre_lens_within : Cert.Pre_lens_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_within m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel0_Kernel0Ideal : Prop :=
  True

def algebraic_Kernel0Ideal_Reference0Ideal_pre_inputs_within [hKernel0Ideal : Cert.Kernel0Ideal.Facts] [hReference0Ideal : Cert.Reference0Ideal.Facts] [hPre_inputs_within : Cert.Pre_inputs_within.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal_inputs_within m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)
      ∧ m' ((c.tc : Thread Cert.Reference0Ideal.nD Cert.Reference0Ideal.τ).loc Cert.Reference0Ideal.main_arg6) = m ((c.tc : Thread Cert.Kernel0Ideal.nD Cert.Kernel0Ideal.τ).loc Cert.Kernel0Ideal.main_arg6)
      ∧ m' ((c.tc : Thread Cert.Reference0Ideal.nD Cert.Reference0Ideal.τ).loc Cert.Reference0Ideal.main_arg7) = m ((c.tc : Thread Cert.Kernel0Ideal.nD Cert.Kernel0Ideal.τ).loc Cert.Kernel0Ideal.main_arg7)
      ∧ m' ((c.tc : Thread Cert.Reference0Ideal.nD Cert.Reference0Ideal.τ).loc Cert.Reference0Ideal.main_arg8) = m ((c.tc : Thread Cert.Kernel0Ideal.nD Cert.Kernel0Ideal.τ).loc Cert.Kernel0Ideal.main_arg8)
      ∧ m' ((c.tc : Thread Cert.Reference0Ideal.nD Cert.Reference0Ideal.τ).loc Cert.Reference0Ideal.main_arg9) = m ((c.tc : Thread Cert.Kernel0Ideal.nD Cert.Kernel0Ideal.τ).loc Cert.Kernel0Ideal.main_arg9)
      ∧ m' ((c.tc : Thread Cert.Reference0Ideal.nD Cert.Reference0Ideal.τ).loc Cert.Reference0Ideal.main_arg10) = m ((c.tc : Thread Cert.Kernel0Ideal.nD Cert.Kernel0Ideal.τ).loc Cert.Kernel0Ideal.main_arg10)) →
    ∃ (v0 : (c : Dev Cert.Kernel0Ideal.nD) → Buf (Elt Ideal) ((c.tc : Thread Cert.Kernel0Ideal.nD Cert.Kernel0Ideal.τ).loc Cert.Kernel0Ideal.main_v18)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v18) = v0 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
          ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
          ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
          ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8)
          ∧ r.2.mem ((c.tc : Thread Cert.Kernel0Ideal.nD Cert.Kernel0Ideal.τ).loc Cert.Kernel0Ideal.main_arg9) = m ((c.tc : Thread Cert.Kernel0Ideal.nD Cert.Kernel0Ideal.τ).loc Cert.Kernel0Ideal.main_arg9)
          ∧ r.2.mem ((c.tc : Thread Cert.Kernel0Ideal.nD Cert.Kernel0Ideal.τ).loc Cert.Kernel0Ideal.main_arg10) = m ((c.tc : Thread Cert.Kernel0Ideal.nD Cert.Kernel0Ideal.τ).loc Cert.Kernel0Ideal.main_arg10))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v56) = v0 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5)
          ∧ r.2.mem ((c.tc : Thread Cert.Reference0Ideal.nD Cert.Reference0Ideal.τ).loc Cert.Reference0Ideal.main_arg6) = m' ((c.tc : Thread Cert.Reference0Ideal.nD Cert.Reference0Ideal.τ).loc Cert.Reference0Ideal.main_arg6)
          ∧ r.2.mem ((c.tc : Thread Cert.Reference0Ideal.nD Cert.Reference0Ideal.τ).loc Cert.Reference0Ideal.main_arg7) = m' ((c.tc : Thread Cert.Reference0Ideal.nD Cert.Reference0Ideal.τ).loc Cert.Reference0Ideal.main_arg7)
          ∧ r.2.mem ((c.tc : Thread Cert.Reference0Ideal.nD Cert.Reference0Ideal.τ).loc Cert.Reference0Ideal.main_arg8) = m' ((c.tc : Thread Cert.Reference0Ideal.nD Cert.Reference0Ideal.τ).loc Cert.Reference0Ideal.main_arg8)
          ∧ r.2.mem ((c.tc : Thread Cert.Reference0Ideal.nD Cert.Reference0Ideal.τ).loc Cert.Reference0Ideal.main_arg9) = m' ((c.tc : Thread Cert.Reference0Ideal.nD Cert.Reference0Ideal.τ).loc Cert.Reference0Ideal.main_arg9)
          ∧ r.2.mem ((c.tc : Thread Cert.Reference0Ideal.nD Cert.Reference0Ideal.τ).loc Cert.Reference0Ideal.main_arg10) = m' ((c.tc : Thread Cert.Reference0Ideal.nD Cert.Reference0Ideal.τ).loc Cert.Reference0Ideal.main_arg10))

def preserves_Kernel2_Kernel2Ideal : Prop :=
  True

def algebraic_Kernel2Ideal_Reference2Ideal_pre_head_within [hKernel2Ideal : Cert.Kernel2Ideal.Facts] [hReference2Ideal : Cert.Reference2Ideal.Facts] [hPre_head_within : Cert.Pre_head_within.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_head_within m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def Claim : Prop :=
  ∃ (hKernel : Cert.Kernel.Facts) (hKernelIdeal : Cert.KernelIdeal.Facts) (hReferenceIdeal : Cert.ReferenceIdeal.Facts) (hKernel0 : Cert.Kernel0.Facts) (hKernel0Ideal : Cert.Kernel0Ideal.Facts) (hReference0Ideal : Cert.Reference0Ideal.Facts) (hKernel2 : Cert.Kernel2.Facts) (hKernel2Ideal : Cert.Kernel2Ideal.Facts) (hReference2Ideal : Cert.Reference2Ideal.Facts) (hPre_lens_within : Cert.Pre_lens_within.Facts) (hPre_inputs_within : Cert.Pre_inputs_within.Facts) (hPre_head_within : Cert.Pre_head_within.Facts),
    quiescent_Kernel (hKernel := hKernel)
    ∧ quiescent_KernelIdeal (hKernelIdeal := hKernelIdeal)
    ∧ quiescent_KernelIdeal_pre_lens_within (hKernelIdeal := hKernelIdeal) (hPre_lens_within := hPre_lens_within)
    ∧ quiescent_ReferenceIdeal (hReferenceIdeal := hReferenceIdeal)
    ∧ quiescent_ReferenceIdeal_pre_lens_within (hReferenceIdeal := hReferenceIdeal) (hPre_lens_within := hPre_lens_within)
    ∧ quiescent_Kernel0 (hKernel0 := hKernel0)
    ∧ quiescent_Kernel0Ideal (hKernel0Ideal := hKernel0Ideal)
    ∧ quiescent_Kernel0Ideal_pre_inputs_within (hKernel0Ideal := hKernel0Ideal) (hPre_inputs_within := hPre_inputs_within)
    ∧ quiescent_Reference0Ideal (hReference0Ideal := hReference0Ideal)
    ∧ quiescent_Reference0Ideal_pre_inputs_within (hReference0Ideal := hReference0Ideal) (hPre_inputs_within := hPre_inputs_within)
    ∧ quiescent_Kernel2 (hKernel2 := hKernel2)
    ∧ quiescent_Kernel2Ideal (hKernel2Ideal := hKernel2Ideal)
    ∧ quiescent_Kernel2Ideal_pre_head_within (hKernel2Ideal := hKernel2Ideal) (hPre_head_within := hPre_head_within)
    ∧ quiescent_Reference2Ideal (hReference2Ideal := hReference2Ideal)
    ∧ quiescent_Reference2Ideal_pre_head_within (hReference2Ideal := hReference2Ideal) (hPre_head_within := hPre_head_within)
    ∧ preserves_Kernel_KernelIdeal
    ∧ algebraic_KernelIdeal_ReferenceIdeal_pre_lens_within (hKernelIdeal := hKernelIdeal) (hReferenceIdeal := hReferenceIdeal) (hPre_lens_within := hPre_lens_within)
    ∧ preserves_Kernel0_Kernel0Ideal
    ∧ algebraic_Kernel0Ideal_Reference0Ideal_pre_inputs_within (hKernel0Ideal := hKernel0Ideal) (hReference0Ideal := hReference0Ideal) (hPre_inputs_within := hPre_inputs_within)
    ∧ preserves_Kernel2_Kernel2Ideal
    ∧ algebraic_Kernel2Ideal_Reference2Ideal_pre_head_within (hKernel2Ideal := hKernel2Ideal) (hReference2Ideal := hReference2Ideal) (hPre_head_within := hPre_head_within)
-- ==== Pre_head_within.lean ====
abbrev S4096x64x256 : Shape := ⟨3, ![4096, 64, 256]⟩
abbrev S64x2048 : Shape := ⟨2, ![64, 2048]⟩
abbrev S64 : Shape := ⟨1, ![64]⟩
abbrev S128x512 : Shape := ⟨2, ![128, 512]⟩
abbrev S128 : Shape := ⟨1, ![128]⟩
abbrev S256x128 : Shape := ⟨2, ![256, 128]⟩
abbrev S256 : Shape := ⟨1, ![256]⟩
abbrev S128x256 : Shape := ⟨2, ![128, 256]⟩
abbrev S61x128 : Shape := ⟨2, ![61, 128]⟩
abbrev S61 : Shape := ⟨1, ![61]⟩
abbrev S2048 : Shape := ⟨1, ![2048]⟩
abbrev S1x2048 : Shape := ⟨2, ![1, 2048]⟩
abbrev S64x1 : Shape := ⟨2, ![64, 1]⟩
abbrev S_ : Shape := ⟨0, ![]⟩

class Facts : Prop where
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  bcast_S_S64x2048 : S_.BroadcastsInDim S64x2048 (![] : Fin 0 → Fin S64x2048.rank)
  reducesTo_S64x2048_S_d0_1 : S64x2048.ReducesTo [0, 1] S_
  h_S_ : 0 < S_.numel
  bcast_S_S4096x64x256 : S_.BroadcastsInDim S4096x64x256 (![] : Fin 0 → Fin S4096x64x256.rank)
  reducesTo_S4096x64x256_S_d0_1_2 : S4096x64x256.ReducesTo [0, 1, 2] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_where {F : FTy → Type} [FloatOps F] (arg0 : IVec S64x2048 1) (arg1 : IVec S64x2048 1) (arg2 : IVec S64x2048 1) : IVec S64x2048 1 :=
  let v0 : IVec S64x2048 1 := select arg0 arg1 arg2
  v0

def fn_part5 {F : FTy → Type} [FloatOps F] (main_arg12 : FVec F S128 .f32) (main_v84 : IVec S_ 1) (main_cst_32 : FVec F S_ .f32) : IVec S_ 1 :=
  let main_v85 : FVec F S128 .f32 := broadcastInDim S128 ![] bcast_S_S128 main_cst_32
  let main_v86 : IVec S128 1 := cmpf .olt main_arg12 main_v85
  let main_cst_33 : FVec F S_ .f32 := constant S_ .f32 0xFF800000#32
  let main_v87 : FVec F S128 .f32 := broadcastInDim S128 ![] bcast_S_S128 main_cst_33
  let main_v88 : IVec S128 1 := cmpf .ogt main_arg12 main_v87
  let main_v89 : IVec S128 1 := andi main_v86 main_v88
  let main_c_34 : IVec S_ 1 := constantI S_ 1 1#1
  let main_v90 : IVec S_ 1 := (fun x v => Host.reduce IntOp.andi x v reducesTo_S128_S_d0 h_S_) main_v89 main_c_34
  let main_v91 : IVec S_ 1 := andi main_v84 main_v90
  main_v91

def fn_part4 {F : FTy → Type} [FloatOps F] (main_arg10 : FVec F S256 .f32) (main_arg11 : FVec F S128x256 .f32) (main_arg12 : FVec F S128 .f32) (main_v63 : IVec S_ 1) (main_v68 : IVec S256 1) : IVec S_ 1 :=
  let main_c_25 : IVec S_ 1 := constantI S_ 1 1#1
  let main_v69 : IVec S_ 1 := (fun x v => Host.reduce IntOp.andi x v reducesTo_S256_S_d0 h_S_) main_v68 main_c_25
  let main_v70 : IVec S_ 1 := andi main_v63 main_v69
  let main_cst_26 : FVec F S_ .f32 := constant S_ .f32 0x7F800000#32
  let main_v71 : FVec F S256 .f32 := broadcastInDim S256 ![] bcast_S_S256 main_cst_26
  let main_v72 : IVec S256 1 := cmpf .olt main_arg10 main_v71
  let main_cst_27 : FVec F S_ .f32 := constant S_ .f32 0xFF800000#32
  let main_v73 : FVec F S256 .f32 := broadcastInDim S256 ![] bcast_S_S256 main_cst_27
  let main_v74 : IVec S256 1 := cmpf .ogt main_arg10 main_v73
  let main_v75 : IVec S256 1 := andi main_v72 main_v74
  let main_c_28 : IVec S_ 1 := constantI S_ 1 1#1
  let main_v76 : IVec S_ 1 := (fun x v => Host.reduce IntOp.andi x v reducesTo_S256_S_d0 h_S_) main_v75 main_c_28
  let main_v77 : IVec S_ 1 := andi main_v70 main_v76
  let main_cst_29 : FVec F S_ .f32 := constant S_ .f32 0x7F800000#32
  let main_v78 : FVec F S128x256 .f32 := broadcastInDim S128x256 ![] bcast_S_S128x256 main_cst_29
  let main_v79 : IVec S128x256 1 := cmpf .olt main_arg11 main_v78
  let main_cst_30 : FVec F S_ .f32 := constant S_ .f32 0xFF800000#32
  let main_v80 : FVec F S128x256 .f32 := broadcastInDim S128x256 ![] bcast_S_S128x256 main_cst_30
  let main_v81 : IVec S128x256 1 := cmpf .ogt main_arg11 main_v80
  let main_v82 : IVec S128x256 1 := andi main_v79 main_v81
  let main_c_31 : IVec S_ 1 := constantI S_ 1 1#1
  let main_v83 : IVec S_ 1 := (fun x v => Host.reduce IntOp.andi x v reducesTo_S128x256_S_d0_1 h_S_) main_v82 main_c_31
  let main_v84 : IVec S_ 1 := andi main_v77 main_v83
  let main_cst_32 : FVec F S_ .f32 := constant S_ .f32 0x7F800000#32
  fn_part5 (F := F) main_arg12 main_v84 main_cst_32

def fn_part3 {F : FTy → Type} [FloatOps F] (main_arg7 : FVec F S256x128 .f32) (main_arg8 : FVec F S256 .f32) (main_arg9 : FVec F S256 .f32) (main_arg10 : FVec F S256 .f32) (main_arg11 : FVec F S128x256 .f32) (main_arg12 : FVec F S128 .f32) (main_v49 : IVec S_ 1) (main_v51 : IVec S256x128 1) : IVec S_ 1 :=
  let main_cst_18 : FVec F S_ .f32 := constant S_ .f32 0xFF800000#32
  let main_v52 : FVec F S256x128 .f32 := broadcastInDim S256x128 ![] bcast_S_S256x128 main_cst_18
  let main_v53 : IVec S256x128 1 := cmpf .ogt main_arg7 main_v52
  let main_v54 : IVec S256x128 1 := andi main_v51 main_v53
  let main_c_19 : IVec S_ 1 := constantI S_ 1 1#1
  let main_v55 : IVec S_ 1 := (fun x v => Host.reduce IntOp.andi x v reducesTo_S256x128_S_d0_1 h_S_) main_v54 main_c_19
  let main_v56 : IVec S_ 1 := andi main_v49 main_v55
  let main_cst_20 : FVec F S_ .f32 := constant S_ .f32 0x7F800000#32
  let main_v57 : FVec F S256 .f32 := broadcastInDim S256 ![] bcast_S_S256 main_cst_20
  let main_v58 : IVec S256 1 := cmpf .olt main_arg8 main_v57
  let main_cst_21 : FVec F S_ .f32 := constant S_ .f32 0xFF800000#32
  let main_v59 : FVec F S256 .f32 := broadcastInDim S256 ![] bcast_S_S256 main_cst_21
  let main_v60 : IVec S256 1 := cmpf .ogt main_arg8 main_v59
  let main_v61 : IVec S256 1 := andi main_v58 main_v60
  let main_c_22 : IVec S_ 1 := constantI S_ 1 1#1
  let main_v62 : IVec S_ 1 := (fun x v => Host.reduce IntOp.andi x v reducesTo_S256_S_d0 h_S_) main_v61 main_c_22
  let main_v63 : IVec S_ 1 := andi main_v56 main_v62
  let main_cst_23 : FVec F S_ .f32 := constant S_ .f32 0x7F800000#32
  let main_v64 : FVec F S256 .f32 := broadcastInDim S256 ![] bcast_S_S256 main_cst_23
  let main_v65 : IVec S256 1 := cmpf .olt main_arg9 main_v64
  let main_cst_24 : FVec F S_ .f32 := constant S_ .f32 0xFF800000#32
  let main_v66 : FVec F S256 .f32 := broadcastInDim S256 ![] bcast_S_S256 main_cst_24
  let main_v67 : IVec S256 1 := cmpf .ogt main_arg9 main_v66
  let main_v68 : IVec S256 1 := andi main_v65 main_v67
  fn_part4 (F := F) main_arg10 main_arg11 main_arg12 main_v63 main_v68

def fn_part2 {F : FTy → Type} [FloatOps F] (main_arg5 : FVec F S128 .f32) (main_arg6 : FVec F S128 .f32) (main_arg7 : FVec F S256x128 .f32) (main_arg8 : FVec F S256 .f32) (main_arg9 : FVec F S256 .f32) (main_arg10 : FVec F S256 .f32) (main_arg11 : FVec F S128x256 .f32) (main_arg12 : FVec F S128 .f32) (main_v28 : IVec S_ 1) (main_v34 : IVec S_ 1) : IVec S_ 1 :=
  let main_v35 : IVec S_ 1 := andi main_v28 main_v34
  let main_cst_11 : FVec F S_ .f32 := constant S_ .f32 0x7F800000#32
  let main_v36 : FVec F S128 .f32 := broadcastInDim S128 ![] bcast_S_S128 main_cst_11
  let main_v37 : IVec S128 1 := cmpf .olt main_arg5 main_v36
  let main_cst_12 : FVec F S_ .f32 := constant S_ .f32 0xFF800000#32
  let main_v38 : FVec F S128 .f32 := broadcastInDim S128 ![] bcast_S_S128 main_cst_12
  let main_v39 : IVec S128 1 := cmpf .ogt main_arg5 main_v38
  let main_v40 : IVec S128 1 := andi main_v37 main_v39
  let main_c_13 : IVec S_ 1 := constantI S_ 1 1#1
  let main_v41 : IVec S_ 1 := (fun x v => Host.reduce IntOp.andi x v reducesTo_S128_S_d0 h_S_) main_v40 main_c_13
  let main_v42 : IVec S_ 1 := andi main_v35 main_v41
  let main_cst_14 : FVec F S_ .f32 := constant S_ .f32 0x7F800000#32
  let main_v43 : FVec F S128 .f32 := broadcastInDim S128 ![] bcast_S_S128 main_cst_14
  let main_v44 : IVec S128 1 := cmpf .olt main_arg6 main_v43
  let main_cst_15 : FVec F S_ .f32 := constant S_ .f32 0xFF800000#32
  let main_v45 : FVec F S128 .f32 := broadcastInDim S128 ![] bcast_S_S128 main_cst_15
  let main_v46 : IVec S128 1 := cmpf .ogt main_arg6 main_v45
  let main_v47 : IVec S128 1 := andi main_v44 main_v46
  let main_c_16 : IVec S_ 1 := constantI S_ 1 1#1
  let main_v48 : IVec S_ 1 := (fun x v => Host.reduce IntOp.andi x v reducesTo_S128_S_d0 h_S_) main_v47 main_c_16
  let main_v49 : IVec S_ 1 := andi main_v42 main_v48
  let main_cst_17 : FVec F S_ .f32 := constant S_ .f32 0x7F800000#32
  let main_v50 : FVec F S256x128 .f32 := broadcastInDim S256x128 ![] bcast_S_S256x128 main_cst_17
  let main_v51 : IVec S256x128 1 := cmpf .olt main_arg7 main_v50
  fn_part3 (F := F) main_arg7 main_arg8 main_arg9 main_arg10 main_arg11 main_arg12 main_v49 main_v51

def fn_part1 {F : FTy → Type} [FloatOps F] (main_arg0 : FVec F S4096x64x256 .f32) (main_arg3 : FVec F S128x512 .f32) (main_arg4 : FVec F S128 .f32) (main_arg5 : FVec F S128 .f32) (main_arg6 : FVec F S128 .f32) (main_arg7 : FVec F S256x128 .f32) (main_arg8 : FVec F S256 .f32) (main_arg9 : FVec F S256 .f32) (main_arg10 : FVec F S256 .f32) (main_arg11 : FVec F S128x256 .f32) (main_arg12 : FVec F S128 .f32) (main_v14 : IVec S_ 1) (main_v16 : IVec S4096x64x256 1) (main_v17 : FVec F S4096x64x256 .f32) : IVec S_ 1 :=
  let main_v18 : IVec S4096x64x256 1 := cmpf .ogt main_arg0 main_v17
  let main_v19 : IVec S4096x64x256 1 := andi main_v16 main_v18
  let main_c_4 : IVec S_ 1 := constantI S_ 1 1#1
  let main_v20 : IVec S_ 1 := (fun x v => Host.reduce IntOp.andi x v reducesTo_S4096x64x256_S_d0_1_2 h_S_) main_v19 main_c_4
  let main_v21 : IVec S_ 1 := andi main_v14 main_v20
  let main_cst_5 : FVec F S_ .f32 := constant S_ .f32 0x7F800000#32
  let main_v22 : FVec F S128x512 .f32 := broadcastInDim S128x512 ![] bcast_S_S128x512 main_cst_5
  let main_v23 : IVec S128x512 1 := cmpf .olt main_arg3 main_v22
  let main_cst_6 : FVec F S_ .f32 := constant S_ .f32 0xFF800000#32
  let main_v24 : FVec F S128x512 .f32 := broadcastInDim S128x512 ![] bcast_S_S128x512 main_cst_6
  let main_v25 : IVec S128x512 1 := cmpf .ogt main_arg3 main_v24
  let main_v26 : IVec S128x512 1 := andi main_v23 main_v25
  let main_c_7 : IVec S_ 1 := constantI S_ 1 1#1
  let main_v27 : IVec S_ 1 := (fun x v => Host.reduce IntOp.andi x v reducesTo_S128x512_S_d0_1 h_S_) main_v26 main_c_7
  let main_v28 : IVec S_ 1 := andi main_v21 main_v27
  let main_cst_8 : FVec F S_ .f32 := constant S_ .f32 0x7F800000#32
  let main_v29 : FVec F S128 .f32 := broadcastInDim S128 ![] bcast_S_S128 main_cst_8
  let main_v30 : IVec S128 1 := cmpf .olt main_arg4 main_v29
  let main_cst_9 : FVec F S_ .f32 := constant S_ .f32 0xFF800000#32
  let main_v31 : FVec F S128 .f32 := broadcastInDim S128 ![] bcast_S_S128 main_cst_9
  let main_v32 : IVec S128 1 := cmpf .ogt main_arg4 main_v31
  let main_v33 : IVec S128 1 := andi main_v30 main_v32
  let main_c_10 : IVec S_ 1 := constantI S_ 1 1#1
  let main_v34 : IVec S_ 1 := (fun x v => Host.reduce IntOp.andi x v reducesTo_S128_S_d0 h_S_) main_v33 main_c_10
  fn_part2 (F := F) main_arg5 main_arg6 main_arg7 main_arg8 main_arg9 main_arg10 main_arg11 main_arg12 main_v28 main_v34

def fn {F : FTy → Type} [FloatOps F] (main_arg0 : FVec F S4096x64x256 .f32) (main_arg1 : IVec S64x2048 32) (main_arg2 : IVec S64 32) (main_arg3 : FVec F S128x512 .f32) (main_arg4 : FVec F S128 .f32) (main_arg5 : FVec F S128 .f32) (main_arg6 : FVec F S128 .f32) (main_arg7 : FVec F S256x128 .f32) (main_arg8 : FVec F S256 .f32) (main_arg9 : FVec F S256 .f32) (main_arg10 : FVec F S256 .f32) (main_arg11 : FVec F S128x256 .f32) (main_arg12 : FVec F S128 .f32) (main_arg13 : FVec F S128 .f32) (main_arg14 : FVec F S128 .f32) (main_arg15 : FVec F S61x128 .f32) (main_arg16 : FVec F S61 .f32) : IVec S_ 1 :=
  let main_v0 : IVec S2048 32 := iotaInDim S2048 32 0
  let main_v1 : IVec S1x2048 32 := broadcastInDim S1x2048 ![1] bcast_S2048_S1x2048_1 main_v0
  let main_v2 : IVec S64x1 32 := broadcastInDim S64x1 ![0] bcast_S64_S64x1_0 main_arg2
  let main_v3 : IVec S64x2048 32 := broadcastInDim S64x2048 ![0, 1] bcast_S1x2048_S64x2048_0_1 main_v1
  let main_v4 : IVec S64x2048 32 := broadcastInDim S64x2048 ![0, 1] bcast_S64x1_S64x2048_0_1 main_v2
  let main_v5 : IVec S64x2048 1 := cmpi .slt main_v3 main_v4
  let main_c : IVec S_ 32 := constantI S_ 32 0#32
  let main_v6 : IVec S64x2048 32 := broadcastInDim S64x2048 ![] bcast_S_S64x2048 main_c
  let main_v7 : IVec S64x2048 1 := cmpi .sge main_arg1 main_v6
  let main_c_0 : IVec S_ 32 := constantI S_ 32 21#32
  let main_v8 : IVec S64x2048 32 := broadcastInDim S64x2048 ![] bcast_S_S64x2048 main_c_0
  let main_v9 : IVec S64x2048 1 := cmpi .slt main_arg1 main_v8
  let main_v10 : IVec S64x2048 1 := andi main_v7 main_v9
  let main_c_1 : IVec S_ 32 := constantI S_ 32 0#32
  let main_v11 : IVec S64x2048 32 := broadcastInDim S64x2048 ![] bcast_S_S64x2048 main_c_1
  let main_v12 : IVec S64x2048 1 := cmpi .eq main_arg1 main_v11
  let main_v13 : IVec S64x2048 1 := fn_where (F := F) main_v5 main_v10 main_v12
  let main_c_2 : IVec S_ 1 := constantI S_ 1 1#1
  let main_v14 : IVec S_ 1 := (fun x v => Host.reduce IntOp.andi x v reducesTo_S64x2048_S_d0_1 h_S_) main_v13 main_c_2
  let main_cst : FVec F S_ .f32 := constant S_ .f32 0x7F800000#32
  let main_v15 : FVec F S4096x64x256 .f32 := broadcastInDim S4096x64x256 ![] bcast_S_S4096x64x256 main_cst
  let main_v16 : IVec S4096x64x256 1 := cmpf .olt main_arg0 main_v15
  let main_cst_3 : FVec F S_ .f32 := constant S_ .f32 0xFF800000#32
  let main_v17 : FVec F S4096x64x256 .f32 := broadcastInDim S4096x64x256 ![] bcast_S_S4096x64x256 main_cst_3
  fn_part1 (F := F) main_arg0 main_arg3 main_arg4 main_arg5 main_arg6 main_arg7 main_arg8 main_arg9 main_arg10 main_arg11 main_arg12 main_v14 main_v16 main_v17
-- ==== Pre_inputs_within.lean ====
abbrev S64x2048 : Shape := ⟨2, ![64, 2048]⟩
abbrev S64 : Shape := ⟨1, ![64]⟩
abbrev S21x128 : Shape := ⟨2, ![21, 128]⟩
abbrev S768x128 : Shape := ⟨2, ![768, 128]⟩
abbrev S768x256 : Shape := ⟨2, ![768, 256]⟩
abbrev S768 : Shape := ⟨1, ![768]⟩
abbrev S_ : Shape := ⟨0, ![]⟩
abbrev S64x1 : Shape := ⟨2, ![64, 1]⟩

class Facts : Prop where
  bcast_S_S64x2048 : S_.BroadcastsInDim S64x2048 (![] : Fin 0 → Fin S64x2048.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x2048_0_1 : S64x1.BroadcastsInDim S64x2048 (![0, 1] : Fin 2 → Fin S64x2048.rank)

variable [Facts]

def fn {F : FTy → Type} [FloatOps F] (main_arg0 : IVec S64x2048 32) (main_arg1 : IVec S64 32) (main_arg2 : FVec F S21x128 .f32) (main_arg3 : FVec F S768x128 .f32) (main_arg4 : FVec F S768x256 .f32) (main_arg5 : FVec F S768 .f32) (main_arg6 : FVec F S768 .f32) (main_arg7 : FVec F S768x128 .f32) (main_arg8 : FVec F S768x256 .f32) (main_arg9 : FVec F S768 .f32) (main_arg10 : FVec F S768 .f32) : IVec S64x2048 1 :=
  let main_c : IVec S_ 32 := constantI S_ 32 0#32
  let main_v0 : IVec S64x2048 32 := broadcastInDim S64x2048 ![] bcast_S_S64x2048 main_c
  let main_v1 : IVec S64x2048 1 := cmpi .sge main_arg0 main_v0
  let main_c_0 : IVec S_ 32 := constantI S_ 32 21#32
  let main_v2 : IVec S64x2048 32 := broadcastInDim S64x2048 ![] bcast_S_S64x2048 main_c_0
  let main_v3 : IVec S64x2048 1 := cmpi .slt main_arg0 main_v2
  let main_v4 : IVec S64x2048 1 := andi main_v1 main_v3
  let main_v5 : IVec S64x1 32 := broadcastInDim S64x1 ![0] bcast_S64_S64x1_0 main_arg1
  let main_c_1 : IVec S_ 32 := constantI S_ 32 2048#32
  let main_v6 : IVec S64x1 32 := broadcastInDim S64x1 ![] bcast_S_S64x1 main_c_1
  let main_v7 : IVec S64x1 1 := cmpi .sle main_v5 main_v6
  let main_v8 : IVec S64x2048 1 := broadcastInDim S64x2048 ![0, 1] bcast_S64x1_S64x2048_0_1 main_v7
  let main_v9 : IVec S64x2048 1 := andi main_v4 main_v8
  main_v9
-- ==== Pre_lens_within.lean ====
abbrev S4096x64x256 : Shape := ⟨3, ![4096, 64, 256]⟩
abbrev S64 : Shape := ⟨1, ![64]⟩
abbrev S768x512 : Shape := ⟨2, ![768, 512]⟩
abbrev S768x256 : Shape := ⟨2, ![768, 256]⟩
abbrev S768 : Shape := ⟨1, ![768]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4096x64x256 .f32) (main_arg1 : IVec S64 32) (main_arg2 : FVec F S768x512 .f32) (main_arg3 : FVec F S768x256 .f32) (main_arg4 : FVec F S768 .f32) (main_arg5 : FVec F S768 .f32) (main_arg6 : FVec F S768x512 .f32) (main_arg7 : FVec F S768x256 .f32) (main_arg8 : FVec F S768 .f32) (main_arg9 : FVec F S768 .f32) : IVec S64 1 :=
  let main_c : IVec S_ 32 := constantI S_ 32 2048#32
  let main_v0 : IVec S64 32 := broadcastInDim S64 ![] bcast_S_S64 main_c
  let main_v1 : IVec S64 1 := cmpi .sle main_arg1 main_v0
  main_v1
-- ==== Kernel.lean ====
abbrev S4096x64x256 : Shape := ⟨3, ![4096, 64, 256]⟩
abbrev S64 : Shape := ⟨1, ![64]⟩
abbrev S768x512 : Shape := ⟨2, ![768, 512]⟩
abbrev S768x256 : Shape := ⟨2, ![768, 256]⟩
abbrev S768 : Shape := ⟨1, ![768]⟩
abbrev S64x1 : Shape := ⟨2, ![64, 1]⟩
abbrev S512x768 : Shape := ⟨2, ![512, 768]⟩
abbrev S1x512x768 : Shape := ⟨3, ![1, 512, 768]⟩
abbrev S2x512x768 : Shape := ⟨3, ![2, 512, 768]⟩
abbrev S1x768 : Shape := ⟨2, ![1, 768]⟩
abbrev S2x768 : Shape := ⟨2, ![2, 768]⟩
abbrev S2x1x768 : Shape := ⟨3, ![2, 1, 768]⟩
abbrev S256x768 : Shape := ⟨2, ![256, 768]⟩
abbrev S1x256x768 : Shape := ⟨3, ![1, 256, 768]⟩
abbrev S2x256x768 : Shape := ⟨3, ![2, 256, 768]⟩
abbrev S64x64x256 : Shape := ⟨3, ![64, 64, 256]⟩
abbrev S1x1x768 : Shape := ⟨3, ![1, 1, 768]⟩
abbrev S64x256 : Shape := ⟨2, ![64, 256]⟩
abbrev S64x64x768 : Shape := ⟨3, ![64, 64, 768]⟩
abbrev S16x64x256 : Shape := ⟨3, ![16, 64, 256]⟩
abbrev S1024x256 : Shape := ⟨2, ![1024, 256]⟩
abbrev S1024x768 : Shape := ⟨2, ![1024, 768]⟩
abbrev S16x64x768 : Shape := ⟨3, ![16, 64, 768]⟩
abbrev S1x64x768 : Shape := ⟨3, ![1, 64, 768]⟩
abbrev S64x768 : Shape := ⟨2, ![64, 768]⟩
abbrev S1x64x256 : Shape := ⟨3, ![1, 64, 256]⟩

abbrev nBuf : Space → Nat
  | .hbm => 30
  | .vmem => 17
  | .smem => 0
  | _ => 0

abbrev bufTy : (tb : Table) → Fin (tcTables nBuf tb) → BufTy
  | .hbm, ⟨0, _⟩ => ⟨S4096x64x256, .f32⟩
  | .hbm, ⟨1, _⟩ => ⟨S64, .i32⟩
  | .hbm, ⟨2, _⟩ => ⟨S768x512, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S768x512, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S64x1, .i32⟩
  | .hbm, ⟨11, _⟩ => ⟨S512x768, .f32⟩
  | .hbm, ⟨12, _⟩ => ⟨S512x768, .f32⟩
  | .hbm, ⟨13, _⟩ => ⟨S1x512x768, .f32⟩
  | .hbm, ⟨14, _⟩ => ⟨S1x512x768, .f32⟩
  | .hbm, ⟨15, _⟩ => ⟨S2x512x768, .f32⟩
  | .hbm, ⟨16, _⟩ => ⟨S1x768, .f32⟩
  | .hbm, ⟨17, _⟩ => ⟨S1x768, .f32⟩
  | .hbm, ⟨18, _⟩ => ⟨S2x768, .f32⟩
  | .hbm, ⟨19, _⟩ => ⟨S2x1x768, .f32⟩
  | .hbm, ⟨20, _⟩ => ⟨S256x768, .f32⟩
  | .hbm, ⟨21, _⟩ => ⟨S256x768, .f32⟩
  | .hbm, ⟨22, _⟩ => ⟨S1x256x768, .f32⟩
  | .hbm, ⟨23, _⟩ => ⟨S1x256x768, .f32⟩
  | .hbm, ⟨24, _⟩ => ⟨S2x256x768, .f32⟩
  | .hbm, ⟨25, _⟩ => ⟨S1x768, .f32⟩
  | .hbm, ⟨26, _⟩ => ⟨S1x768, .f32⟩
  | .hbm, ⟨27, _⟩ => ⟨S2x768, .f32⟩
  | .hbm, ⟨28, _⟩ => ⟨S2x1x768, .f32⟩
  | .hbm, ⟨29, _⟩ => ⟨S4096x64x256, .f32⟩
  | .local _ .vmem, ⟨0, _⟩ => ⟨S64x64x256, .f32⟩
  | .local _ .vmem, ⟨1, _⟩ => ⟨S64x64x256, .f32⟩
  | .local _ .vmem, ⟨2, _⟩ => ⟨S64x64x256, .f32⟩
  | .local _ .vmem, ⟨3, _⟩ => ⟨S64x64x256, .f32⟩
  | .local _ .vmem, ⟨4, _⟩ => ⟨S64x1, .i32⟩
  | .local _ .vmem, ⟨5, _⟩ => ⟨S1x512x768, .f32⟩
  | .local _ .vmem, ⟨6, _⟩ => ⟨S1x512x768, .f32⟩
  | .local _ .vmem, ⟨7, _⟩ => ⟨S1x1x768, .f32⟩
  | .local _ .vmem, ⟨8, _⟩ => ⟨S1x1x768, .f32⟩
  | .local _ .vmem, ⟨9, _⟩ => ⟨S1x256x768, .f32⟩
  | .local _ .vmem, ⟨10, _⟩ => ⟨S1x256x768, .f32⟩
  | .local _ .vmem, ⟨11, _⟩ => ⟨S1x1x768, .f32⟩
  | .local _ .vmem, ⟨12, _⟩ => ⟨S1x1x768, .f32⟩
  | .local _ .vmem, ⟨13, _⟩ => ⟨S64x64x256, .f32⟩
  | .local _ .vmem, ⟨14, _⟩ => ⟨S64x64x256, .f32⟩
  | .local _ .vmem, ⟨15, _⟩ => ⟨S64x256, .f32⟩
  | .local _ .vmem, ⟨16, _⟩ => ⟨S64x64x768, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_58 : BitVec 32 := 0#32
  let c64_i32_59 : BitVec 32 := 64#32
  let v73 : BitVec 32 := Scalar.addi c0_i32_58 c64_i32_59
  let c1_i32 : BitVec 32 := 1#32
  ⟨c0_i32_58, v73, c1_i32⟩
def k0_off1 (i : grid0.Coords) (k0_t1 : Fin k0_t1_loop.trips) : Fin 3 → Nat :=
  let c0_i32_58 : BitVec 32 := 0#32
  let c1_i32 : BitVec 32 := 1#32
  let arg12 : BitVec 32 := Scf.iv c0_i32_58 c1_i32 k0_t1
  let arg0 : BitVec 32 := BitVec.ofNat 32 (i 0).val
  let c63_i32 : BitVec 32 := 63#32
  let c2_i32_63 : BitVec 32 := 2#32
  let v78 : BitVec 32 := Scalar.muli c2_i32_63 arg12
  let v79 : BitVec 32 := Scalar.subi c63_i32 v78
  let v80 : BitVec 32 := Scalar.muli arg0 v79
  let v81 : BitVec 32 := Scalar.addi arg12 v80
  let v82 : Index := Scalar.indexCast v81
  let c0_64 : Index := 0#32
  let c0_65 : Index := 0#32
  ![v82.toNat, 0, 0]
def k0_off2 (i : grid0.Coords) (k0_t1 : Fin k0_t1_loop.trips) : Fin 3 → Nat :=
  let c0_i32_58 : BitVec 32 := 0#32
  let c1_i32 : BitVec 32 := 1#32
  let arg12 : BitVec 32 := Scf.iv c0_i32_58 c1_i32 k0_t1
  let arg0 : BitVec 32 := BitVec.ofNat 32 (i 0).val
  let c63_i32 : BitVec 32 := 63#32
  let c2_i32_63 : BitVec 32 := 2#32
  let v78 : BitVec 32 := Scalar.muli c2_i32_63 arg12
  let v79 : BitVec 32 := Scalar.subi c63_i32 v78
  let v80 : BitVec 32 := Scalar.muli arg0 v79
  let v81 : BitVec 32 := Scalar.addi arg12 v80
  let v113 : Index := Scalar.indexCast v81
  let c0_69 : Index := 0#32
  let c0_70 : Index := 0#32
  ![v113.toNat, 0, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c31_i32 : BitVec 32 := 31#32
  let v1 : BitVec 32 := Scalar.subi c31_i32 v0
  let v2 : BitVec 32 := Scalar.muli arg0 v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli arg0 v2
  let v4 : BitVec 32 := Scalar.addi v0 v3
  let c0_i32 : BitVec 32 := 0#32
  let c0_i32_0 : BitVec 32 := 0#32
  let c0_i32_1 : BitVec 32 := 0#32
  ![v4.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 arg1
  let c31_i32 : BitVec 32 := 31#32
  let v3 : BitVec 32 := Scalar.subi c31_i32 v2
  let v4 : BitVec 32 := Scalar.muli arg0 v3
  let v5 : BitVec 32 := Scalar.addi v1 v4
  let c0_i32 : BitVec 32 := 0#32
  let c0_i32_0 : BitVec 32 := 0#32
  let c0_i32_1 : BitVec 32 := 0#32
  ![v5.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4096x64x256 : Shape := ⟨3, ![4096, 64, 256]⟩
abbrev S64 : Shape := ⟨1, ![64]⟩
abbrev S768x512 : Shape := ⟨2, ![768, 512]⟩
abbrev S768x256 : Shape := ⟨2, ![768, 256]⟩
abbrev S768 : Shape := ⟨1, ![768]⟩
abbrev S2048x64x256 : Shape := ⟨3, ![2048, 64, 256]⟩
abbrev S2048x64x512 : Shape := ⟨3, ![2048, 64, 512]⟩
abbrev S64x2048x512 : Shape := ⟨3, ![64, 2048, 512]⟩
abbrev S1x768x512 : Shape := ⟨3, ![1, 768, 512]⟩
abbrev S2x768x512 : Shape := ⟨3, ![2, 768, 512]⟩
abbrev S1x768x256 : Shape := ⟨3, ![1, 768, 256]⟩
abbrev S2x768x256 : Shape := ⟨3, ![2, 768, 256]⟩
abbrev S1x768 : Shape := ⟨2, ![1, 768]⟩
abbrev S2x768 : Shape := ⟨2, ![2, 768]⟩
abbrev S2048 : Shape := ⟨1, ![2048]⟩
abbrev S1x2048 : Shape := ⟨2, ![1, 2048]⟩
abbrev S64x1 : Shape := ⟨2, ![64, 1]⟩
abbrev S64x2048 : Shape := ⟨2, ![64, 2048]⟩
abbrev S_ : Shape := ⟨0, ![]⟩
abbrev S64x2048x1 : Shape := ⟨3, ![64, 2048, 1]⟩
abbrev S1 : Shape := ⟨1, ![1]⟩
abbrev S1x1x1 : Shape := ⟨3, ![1, 1, 1]⟩
abbrev S2048x1x64x512 : Shape := ⟨4, ![2048, 1, 64, 512]⟩
abbrev S2048x2x64x512 : Shape := ⟨4, ![2048, 2, 64, 512]⟩
abbrev S2x64x256 : Shape := ⟨3, ![2, 64, 256]⟩
abbrev S2048x64 : Shape := ⟨2, ![2048, 64]⟩
abbrev S2048x2x64x256 : Shape := ⟨4, ![2048, 2, 64, 256]⟩
abbrev S1x2x64x512 : Shape := ⟨4, ![1, 2, 64, 512]⟩
abbrev S2x64x512 : Shape := ⟨3, ![2, 64, 512]⟩
abbrev S1x64 : Shape := ⟨2, ![1, 64]⟩
abbrev S2x64x768 : Shape := ⟨3, ![2, 64, 768]⟩
abbrev S2x1x768 : Shape := ⟨3, ![2, 1, 768]⟩
abbrev S1x64x1 : Shape := ⟨3, ![1, 64, 1]⟩
abbrev S1x2x64x256 : Shape := ⟨4, ![1, 2, 64, 256]⟩
abbrev S2048x1x64x256 : Shape := ⟨4, ![2048, 1, 64, 256]⟩
abbrev S64x2048x256 : Shape := ⟨3, ![64, 2048, 256]⟩

abbrev nBuf : Space → Nat
  | .hbm => 191
  | .vmem => 0
  | .smem => 0
  | _ => 0

abbrev hbmTy0_0 (i : Nat) : BufTy := match i % 128 with
  | 0 => ⟨S4096x64x256, .f32⟩
  | 1 => ⟨S64, .i32⟩
  | 2 => ⟨S768x512, .f32⟩
  | 3 => ⟨S768x256, .f32⟩
  | 4 => ⟨S768, .f32⟩
  | 5 => ⟨S768, .f32⟩
  | 6 => ⟨S768x512, .f32⟩
  | 7 => ⟨S768x256, .f32⟩
  | 8 => ⟨S768, .f32⟩
  | 9 => ⟨S768, .f32⟩
  | 10 => ⟨S2048x64x256, .f32⟩
  | 11 => ⟨S2048x64x256, .f32⟩
  | 12 => ⟨S2048x64x512, .f32⟩
  | 13 => ⟨S64x2048x512, .f32⟩
  | 14 => ⟨S1x768x512, .f32⟩
  | 15 => ⟨S1x768x512, .f32⟩
  | 16 => ⟨S2x768x512, .f32⟩
  | 17 => ⟨S1x768x256, .f32⟩
  | 18 => ⟨S1x768x256, .f32⟩
  | 19 => ⟨S2x768x256, .f32⟩
  | 20 => ⟨S1x768, .f32⟩
  | 21 => ⟨S1x768, .f32⟩
  | 22 => ⟨S2x768, .f32⟩
  | 23 => ⟨S1x768, .f32⟩
  | 24 => ⟨S1x768, .f32⟩
  | 25 => ⟨S2x768, .f32⟩
  | 26 => ⟨S2048, .i32⟩
  | 27 => ⟨S1x2048, .i32⟩
  | 28 => ⟨S64x1, .i32⟩
  | 29 => ⟨S64x2048, .i32⟩
  | 30 => ⟨S64x2048, .i32⟩
  | 31 => ⟨S64x2048, .i1⟩
  | 32 => ⟨S64x1, .i32⟩
  | 33 => ⟨S_, .i32⟩
  | 34 => ⟨S64x1, .i32⟩
  | 35 => ⟨S64x1, .i32⟩
  | 36 => ⟨S1x2048, .i32⟩
  | 37 => ⟨S64x2048, .i32⟩
  | 38 => ⟨S64x2048, .i32⟩
  | 39 => ⟨S64x2048, .i32⟩
  | 40 => ⟨S_, .i32⟩
  | 41 => ⟨S_, .i32⟩
  | 42 => ⟨S64x2048, .i32⟩
  | 43 => ⟨S64x2048, .i32⟩
  | 44 => ⟨S64x2048x1, .i32⟩
  | 45 => ⟨S_, .i32⟩
  | 46 => ⟨S64x2048x1, .i32⟩
  | 47 => ⟨S64x2048x1, .i1⟩
  | 48 => ⟨S_, .i32⟩
  | 49 => ⟨S64x2048x1, .i32⟩
  | 50 => ⟨S64x2048x1, .i32⟩
  | 51 => ⟨S64x2048x1, .i32⟩
  | 52 => ⟨S1, .i32⟩
  | 53 => ⟨S_, .i32⟩
  | 54 => ⟨S64x2048x1, .i32⟩
  | 55 => ⟨S64x2048x1, .i1⟩
  | 56 => ⟨S1x1x1, .i32⟩
  | 57 => ⟨S64x2048x1, .i32⟩
  | 58 => ⟨S64x2048x1, .i1⟩
  | 59 => ⟨S64x2048x1, .i1⟩
  | 60 => ⟨S_, .i1⟩
  | 61 => ⟨S64x2048, .i1⟩
  | 62 => ⟨S64x2048x512, .f32⟩
  | 63 => ⟨S64x2048x512, .i1⟩
  | 64 => ⟨S_, .f32⟩
  | 65 => ⟨S64x2048x512, .f32⟩
  | 66 => ⟨S64x2048x512, .f32⟩
  | 67 => ⟨S2048x64x512, .f32⟩
  | 68 => ⟨S2048x64x512, .f32⟩
  | 69 => ⟨S2048x1x64x512, .f32⟩
  | 70 => ⟨S2048x1x64x512, .f32⟩
  | 71 => ⟨S2048x2x64x512, .f32⟩
  | 72 => ⟨S_, .f32⟩
  | 73 => ⟨S2x64x256, .f32⟩
  | 74 => ⟨S2048x64, .i1⟩
  | 75 => ⟨S_, .f32⟩
  | 76 => ⟨S2048x2x64x256, .f32⟩
  | 77 => ⟨S_, .i32⟩
  | 78 => ⟨S2048x2x64x512, .f32⟩
  | 79 => ⟨S2048x64, .i1⟩
  | 80 => ⟨S2x768x512, .f32⟩
  | 81 => ⟨S2x768, .f32⟩
  | 82 => ⟨S2x768x256, .f32⟩
  | 83 => ⟨S2x768, .f32⟩
  | 84 => ⟨S_, .i32⟩
  | 85 => ⟨S2x64x256, .f32⟩
  | 86 => ⟨S2048x2x64x256, .f32⟩
  | 87 => ⟨S_, .i32⟩
  | 88 => ⟨S_, .i1⟩
  | 89 => ⟨S_, .i32⟩
  | 90 => ⟨S_, .i32⟩
  | 91 => ⟨S_, .i32⟩
  | 92 => ⟨S1x2x64x512, .f32⟩
  | 93 => ⟨S2x64x512, .f32⟩
  | 94 => ⟨S_, .i32⟩
  | 95 => ⟨S1x64, .i1⟩
  | 96 => ⟨S64, .i1⟩
  | 97 => ⟨S2x64x768, .f32⟩
  | 98 => ⟨S2x1x768, .f32⟩
  | 99 => ⟨S2x64x768, .f32⟩
  | 100 => ⟨S2x64x768, .f32⟩
  | 101 => ⟨S2x64x768, .f32⟩
  | 102 => ⟨S2x1x768, .f32⟩
  | 103 => ⟨S2x64x768, .f32⟩
  | 104 => ⟨S2x64x768, .f32⟩
  | 105 => ⟨S2x64x256, .f32⟩
  | 106 => ⟨S2x64x256, .f32⟩
  | 107 => ⟨S2x64x256, .f32⟩
  | 108 => ⟨S2x64x256, .f32⟩
  | 109 => ⟨S2x64x256, .f32⟩
  | 110 => ⟨S2x64x256, .f32⟩
  | 111 => ⟨S2x64x256, .f32⟩
  | 112 => ⟨S2x64x256, .f32⟩
  | 113 => ⟨S2x64x256, .f32⟩
  | 114 => ⟨S_, .f32⟩
  | 115 => ⟨S2x64x256, .f32⟩
  | 116 => ⟨S2x64x256, .f32⟩
  | 117 => ⟨S_, .f32⟩
  | 118 => ⟨S2x64x256, .f32⟩
  | 119 => ⟨S2x64x256, .f32⟩
  | 120 => ⟨S2x64x256, .f32⟩
  | 121 => ⟨S2x64x256, .f32⟩
  | 122 => ⟨S2x64x256, .f32⟩
  | 123 => ⟨S_, .f32⟩
  | 124 => ⟨S2x64x256, .f32⟩
  | 125 => ⟨S2x64x256, .f32⟩
  | 126 => ⟨S_, .f32⟩
  | 127 => ⟨S2x64x256, .f32⟩
  | _ => ⟨S4096x64x256, .f32⟩

abbrev hbmTy0_1 (i : Nat) : BufTy := match i % 128 with
  | 0 => ⟨S2x64x256, .f32⟩
  | 1 => ⟨S2x64x256, .f32⟩
  | 2 => ⟨S2x64x256, .f32⟩
  | 3 => ⟨S2x64x256, .f32⟩
  | 4 => ⟨S_, .f32⟩
  | 5 => ⟨S2x64x256, .f32⟩
  | 6 => ⟨S2x64x256, .f32⟩
  | 7 => ⟨S2x64x256, .f32⟩
  | 8 => ⟨S2x64x256, .f32⟩
  | 9 => ⟨S2x64x256, .f32⟩
  | 10 => ⟨S1x64x1, .i1⟩
  | 11 => ⟨S2x64x256, .i1⟩
  | 12 => ⟨S2x64x256, .f32⟩
  | 13 => ⟨S_, .f32⟩
  | 14 => ⟨S_, .f32⟩
  | 15 => ⟨S2x64x256, .i1⟩
  | 16 => ⟨S2x64x256, .f32⟩
  | 17 => ⟨S2x64x256, .f32⟩
  | 18 => ⟨S1x2x64x256, .f32⟩
  | 19 => ⟨S_, .i32⟩
  | 20 => ⟨S_, .i32⟩
  | 21 => ⟨S_, .i32⟩
  | 22 => ⟨S2048x2x64x256, .f32⟩
  | 23 => ⟨S_, .i32⟩
  | 24 => ⟨S_, .i32⟩
  | 25 => ⟨S2048x1x64x256, .f32⟩
  | 26 => ⟨S2048x64x256, .f32⟩
  | 27 => ⟨S64x2048x256, .f32⟩
  | 28 => ⟨S2048x1x64x256, .f32⟩
  | 29 => ⟨S2048x64x256, .f32⟩
  | 30 => ⟨S64x2048x256, .f32⟩
  | 31 => ⟨S64x2048x1, .i32⟩
  | 32 => ⟨S_, .i32⟩
  | 33 => ⟨S64x2048x1, .i32⟩
  | 34 => ⟨S64x2048x1, .i1⟩
  | 35 => ⟨S_, .i32⟩
  | 36 => ⟨S64x2048x1, .i32⟩
  | 37 => ⟨S64x2048x1, .i32⟩
  | 38 => ⟨S64x2048x1, .i32⟩
  | 39 => ⟨S1, .i32⟩
  | 40 => ⟨S_, .i32⟩
  | 41 => ⟨S64x2048x1, .i32⟩
  | 42 => ⟨S64x2048x1, .i1⟩
  | 43 => ⟨S1x1x1, .i32⟩
  | 44 => ⟨S64x2048x1, .i32⟩
  | 45 => ⟨S64x2048x1, .i1⟩
  | 46 => ⟨S64x2048x1, .i1⟩
  | 47 => ⟨S_, .i1⟩
  | 48 => ⟨S64x2048, .i1⟩
  | 49 => ⟨S64x2048x256, .f32⟩
  | 50 => ⟨S64x2048x256, .i1⟩
  | 51 => ⟨S_, .f32⟩
  | 52 => ⟨S64x2048x256, .f32⟩
  | 53 => ⟨S64x2048x256, .f32⟩
  | 54 => ⟨S64x2048x1, .i1⟩
  | 55 => ⟨S_, .f32⟩
  | 56 => ⟨S_, .f32⟩
  | 57 => ⟨S64x2048x256, .i1⟩
  | 58 => ⟨S64x2048x256, .f32⟩
  | 59 => ⟨S64x2048x256, .f32⟩
  | 60 => ⟨S2048x64x256, .f32⟩
  | 61 => ⟨S2048x64x256, .f32⟩
  | 62 => ⟨S4096x64x256, .f32⟩
  | _ => ⟨S4096x64x256, .f32⟩

abbrev hbmTy (i : Nat) : BufTy := match i / 128 with
  | 0 => hbmTy0_0 i
  | 1 => hbmTy0_1 i
  | _ => ⟨S4096x64x256, .f32⟩

abbrev bufTy : (tb : Table) → Fin (tcTables nBuf tb) → BufTy
  | .hbm, ⟨i, _⟩ => hbmTy i
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_0 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_v30 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_c_2 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_c_3 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst : Ref sig .tc := ⟨.hbm, 72, rfl⟩
abbrev main_v37 : Ref sig .tc := ⟨.hbm, 73, rfl⟩
abbrev main_v38 : Ref sig .tc := ⟨.hbm, 74, rfl⟩
abbrev main_cst_1 : Ref sig .tc := ⟨.hbm, 75, rfl⟩
abbrev main_v39 : Ref sig .tc := ⟨.hbm, 76, rfl⟩
abbrev main_c_2 : Ref sig .tc := ⟨.hbm, 77, rfl⟩
abbrev main_v40_0 : Ref sig .tc := ⟨.hbm, 78, rfl⟩
abbrev main_v40_1 : Ref sig .tc := ⟨.hbm, 79, rfl⟩
abbrev main_v40_2 : Ref sig .tc := ⟨.hbm, 80, rfl⟩
abbrev main_v40_3 : Ref sig .tc := ⟨.hbm, 81, rfl⟩
abbrev main_v40_4 : Ref sig .tc := ⟨.hbm, 82, rfl⟩
abbrev main_v40_5 : Ref sig .tc := ⟨.hbm, 83, rfl⟩
abbrev main_v40_6 : Ref sig .tc := ⟨.hbm, 84, rfl⟩
abbrev main_v40_7 : Ref sig .tc := ⟨.hbm, 85, rfl⟩
abbrev main_v40_8 : Ref sig .tc := ⟨.hbm, 86, rfl⟩
abbrev main_while0c_c_12 : Ref sig .tc := ⟨.hbm, 87, rfl⟩
abbrev main_while0c_v54 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_c_1 : Ref sig .tc := ⟨.hbm, 91, rfl⟩
abbrev main_while0b_call2_v0 : Ref sig .tc := ⟨.hbm, 92, rfl⟩
abbrev main_while0b_v54 : Ref sig .tc := ⟨.hbm, 93, rfl⟩
abbrev main_while0b_call3_c : Ref sig .tc := ⟨.hbm, 94, rfl⟩
abbrev main_while0b_call3_v0 : Ref sig .tc := ⟨.hbm, 95, rfl⟩
abbrev main_while0b_v55 : Ref sig .tc := ⟨.hbm, 96, rfl⟩
abbrev main_while0b_v56 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_cst_12 : Ref sig .tc := ⟨.hbm, 114, rfl⟩
abbrev main_while0b_v73 : Ref sig .tc := ⟨.hbm, 115, rfl⟩
abbrev main_while0b_v74 : Ref sig .tc := ⟨.hbm, 116, rfl⟩
abbrev main_while0b_cst_13 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_cst_14 : Ref sig .tc := ⟨.hbm, 123, rfl⟩
abbrev main_while0b_v80 : Ref sig .tc := ⟨.hbm, 124, rfl⟩
abbrev main_while0b_v81 : Ref sig .tc := ⟨.hbm, 125, rfl⟩
abbrev main_while0b_cst_15 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_cst_16 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_call4_v0 : Ref sig .tc := ⟨.hbm, 139, rfl⟩
abbrev main_while0b_v93 : Ref sig .tc := ⟨.hbm, 140, rfl⟩
abbrev main_while0b_cst_17 : Ref sig .tc := ⟨.hbm, 141, rfl⟩
abbrev main_while0b_call5_v0 : Ref sig .tc := ⟨.hbm, 142, rfl⟩
abbrev main_while0b_call5_v1 : Ref sig .tc := ⟨.hbm, 143, rfl⟩
abbrev main_while0b_call5_v2 : Ref sig .tc := ⟨.hbm, 144, rfl⟩
abbrev main_while0b_v94 : Ref sig .tc := ⟨.hbm, 145, rfl⟩
abbrev main_while0b_call6_v0 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_v95 : Ref sig .tc := ⟨.hbm, 150, rfl⟩
abbrev main_while0b_c_18 : Ref sig .tc := ⟨.hbm, 151, rfl⟩
abbrev main_while0b_v96 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_call7_c : Ref sig .tc := ⟨.hbm, 160, rfl⟩
abbrev main_call7_v0 : Ref sig .tc := ⟨.hbm, 161, rfl⟩
abbrev main_call7_v1 : Ref sig .tc := ⟨.hbm, 162, rfl⟩
abbrev main_call7_c_0 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_c_1 : Ref sig .tc := ⟨.hbm, 167, rfl⟩
abbrev main_call7_c_2 : Ref sig .tc := ⟨.hbm, 168, rfl⟩
abbrev main_call7_v5 : Ref sig .tc := ⟨.hbm, 169, rfl⟩
abbrev main_call7_v6 : Ref sig .tc := ⟨.hbm, 170, rfl⟩
abbrev main_call7_v7 : Ref sig .tc := ⟨.hbm, 171, rfl⟩
abbrev main_call7_v8 : Ref sig .tc := ⟨.hbm, 172, rfl⟩
abbrev main_call7_v9 : Ref sig .tc := ⟨.hbm, 173, rfl⟩
abbrev main_call7_v10 : Ref sig .tc := ⟨.hbm, 174, rfl⟩
abbrev main_call7_c_3 : Ref sig .tc := ⟨.hbm, 175, rfl⟩
abbrev main_call7_v11 : Ref sig .tc := ⟨.hbm, 176, rfl⟩
abbrev main_call7_v12 : Ref sig .tc := ⟨.hbm, 177, rfl⟩
abbrev main_call7_v13 : Ref sig .tc := ⟨.hbm, 178, rfl⟩
abbrev main_call7_cst : Ref sig .tc := ⟨.hbm, 179, rfl⟩
abbrev main_call7_v14 : Ref sig .tc := ⟨.hbm, 180, rfl⟩
abbrev main_v48 : Ref sig .tc := ⟨.hbm, 181, rfl⟩
abbrev main_v49 : Ref sig .tc := ⟨.hbm, 182, rfl⟩
abbrev main_cst_3 : Ref sig .tc := ⟨.hbm, 183, rfl⟩
abbrev main_call8_v0 : Ref sig .tc := ⟨.hbm, 184, rfl⟩
abbrev main_call8_v1 : Ref sig .tc := ⟨.hbm, 185, rfl⟩
abbrev main_call8_v2 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩

abbrev nD : Nat := 1
abbrev τ : Topo := Topo.v7x

variable {F : FTy → Type} [FloatOps F]

abbrev main_while0_count : Scf.Loop 32 := ⟨0#32, 2048#32, 1#32⟩
-- ==== Kernel0.lean ====
abbrev S64x2048 : Shape := ⟨2, ![64, 2048]⟩
abbrev S64 : Shape := ⟨1, ![64]⟩
abbrev S21x128 : Shape := ⟨2, ![21, 128]⟩
abbrev S768x128 : Shape := ⟨2, ![768, 128]⟩
abbrev S768x256 : Shape := ⟨2, ![768, 256]⟩
abbrev S768 : Shape := ⟨1, ![768]⟩
abbrev S2048x64 : Shape := ⟨2, ![2048, 64]⟩
abbrev S64x1 : Shape := ⟨2, ![64, 1]⟩
abbrev S1x768x128 : Shape := ⟨3, ![1, 768, 128]⟩
abbrev S2x768x128 : Shape := ⟨3, ![2, 768, 128]⟩
abbrev S1x768 : Shape := ⟨2, ![1, 768]⟩
abbrev S2x768 : Shape := ⟨2, ![2, 768]⟩
abbrev S2x1x768 : Shape := ⟨3, ![2, 1, 768]⟩
abbrev S256x768 : Shape := ⟨2, ![256, 768]⟩
abbrev S1x256x768 : Shape := ⟨3, ![1, 256, 768]⟩
abbrev S2x256x768 : Shape := ⟨3, ![2, 256, 768]⟩
abbrev S4096x64x256 : Shape := ⟨3, ![4096, 64, 256]⟩
abbrev S128x64 : Shape := ⟨2, ![128, 64]⟩
abbrev S1x1x768 : Shape := ⟨3, ![1, 1, 768]⟩
abbrev S128x64x256 : Shape := ⟨3, ![128, 64, 256]⟩
abbrev S64x256 : Shape := ⟨2, ![64, 256]⟩
abbrev S128x64x768 : Shape := ⟨3, ![128, 64, 768]⟩
abbrev S21x768 : Shape := ⟨2, ![21, 768]⟩
abbrev S32x64 : Shape := ⟨2, ![32, 64]⟩
abbrev S32x64x1 : Shape := ⟨3, ![32, 64, 1]⟩
abbrev S32x64x21 : Shape := ⟨3, ![32, 64, 21]⟩
abbrev S2048x21 : Shape := ⟨2, ![2048, 21]⟩
abbrev S2048x768 : Shape := ⟨2, ![2048, 768]⟩
abbrev S32x64x768 : Shape := ⟨3, ![32, 64, 768]⟩
abbrev S1x64x768 : Shape := ⟨3, ![1, 64, 768]⟩
abbrev S64x768 : Shape := ⟨2, ![64, 768]⟩
abbrev S1x64x256 : Shape := ⟨3, ![1, 64, 256]⟩

abbrev nBuf : Space → Nat
  | .hbm => 30
  | .vmem => 16
  | .smem => 0
  | _ => 0

abbrev bufTy : (tb : Table) → Fin (tcTables nBuf tb) → BufTy
  | .hbm, ⟨0, _⟩ => ⟨S64x2048, .i32⟩
  | .hbm, ⟨1, _⟩ => ⟨S64, .i32⟩
  | .hbm, ⟨2, _⟩ => ⟨S21x128, .f32⟩
  | .hbm, ⟨3, _⟩ => ⟨S768x128, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S768x128, .f32⟩
  | .hbm, ⟨8, _⟩ => ⟨S768x256, .f32⟩
  | .hbm, ⟨9, _⟩ => ⟨S768, .f32⟩
  | .hbm, ⟨10, _⟩ => ⟨S768, .f32⟩
  | .hbm, ⟨11, _⟩ => ⟨S2048x64, .i32⟩
  | .hbm, ⟨12, _⟩ => ⟨S64x1, .i32⟩
  | .hbm, ⟨13, _⟩ => ⟨S1x768x128, .f32⟩
  | .hbm, ⟨14, _⟩ => ⟨S1x768x128, .f32⟩
  | .hbm, ⟨15, _⟩ => ⟨S2x768x128, .f32⟩
  | .hbm, ⟨16, _⟩ => ⟨S1x768, .f32⟩
  | .hbm, ⟨17, _⟩ => ⟨S1x768, .f32⟩
  | .hbm, ⟨18, _⟩ => ⟨S2x768, .f32⟩
  | .hbm, ⟨19, _⟩ => ⟨S2x1x768, .f32⟩
  | .hbm, ⟨20, _⟩ => ⟨S256x768, .f32⟩
  | .hbm, ⟨21, _⟩ => ⟨S256x768, .f32⟩
  | .hbm, ⟨22, _⟩ => ⟨S1x256x768, .f32⟩
  | .hbm, ⟨23, _⟩ => ⟨S1x256x768, .f32⟩
  | .hbm, ⟨24, _⟩ => ⟨S2x256x768, .f32⟩
  | .hbm, ⟨25, _⟩ => ⟨S1x768, .f32⟩
  | .hbm, ⟨26, _⟩ => ⟨S1x768, .f32⟩
  | .hbm, ⟨27, _⟩ => ⟨S2x768, .f32⟩
  | .hbm, ⟨28, _⟩ => ⟨S2x1x768, .f32⟩
  | .hbm, ⟨29, _⟩ => ⟨S4096x64x256, .f32⟩
  | .local _ .vmem, ⟨0, _⟩ => ⟨S128x64, .i32⟩
  | .local _ .vmem, ⟨1, _⟩ => ⟨S128x64, .i32⟩
  | .local _ .vmem, ⟨2, _⟩ => ⟨S64x1, .i32⟩
  | .local _ .vmem, ⟨3, _⟩ => ⟨S21x128, .f32⟩
  | .local _ .vmem, ⟨4, _⟩ => ⟨S1x768x128, .f32⟩
  | .local _ .vmem, ⟨5, _⟩ => ⟨S1x768x128, .f32⟩
  | .local _ .vmem, ⟨6, _⟩ => ⟨S1x1x768, .f32⟩
  | .local _ .vmem, ⟨7, _⟩ => ⟨S1x1x768, .f32⟩
  | .local _ .vmem, ⟨8, _⟩ => ⟨S1x256x768, .f32⟩
  | .local _ .vmem, ⟨9, _⟩ => ⟨S1x256x768, .f32⟩
  | .local _ .vmem, ⟨10, _⟩ => ⟨S1x1x768, .f32⟩
  | .local _ .vmem, ⟨11, _⟩ => ⟨S1x1x768, .f32⟩
  | .local _ .vmem, ⟨12, _⟩ => ⟨S128x64x256, .f32⟩
  | .local _ .vmem, ⟨13, _⟩ => ⟨S128x64x256, .f32⟩
  | .local _ .vmem, ⟨14, _⟩ => ⟨S64x256, .f32⟩
  | .local _ .vmem, ⟨15, _⟩ => ⟨S128x64x768, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_39 : BitVec 32 := 0#32
  let c128_i32_40 : BitVec 32 := 128#32
  let v79 : BitVec 32 := Scalar.addi c0_i32_39 c128_i32_40
  let c1_i32 : BitVec 32 := 1#32
  ⟨c0_i32_39, v79, c1_i32⟩
def k0_off1 (i : grid0.Coords) (k0_t1 : Fin k0_t1_loop.trips) : Fin 3 → Nat :=
  let c0_i32_39 : BitVec 32 := 0#32
  let c1_i32 : BitVec 32 := 1#32
  let arg12 : BitVec 32 := Scf.iv c0_i32_39 c1_i32 k0_t1
  let arg0 : BitVec 32 := BitVec.ofNat 32 (i 0).val
  let c127_i32 : BitVec 32 := 127#32
  let c2_i32_44 : BitVec 32 := 2#32
  let v84 : BitVec 32 := Scalar.muli c2_i32_44 arg12
  let v85 : BitVec 32 := Scalar.subi c127_i32 v84
  let v86 : BitVec 32 := Scalar.muli arg0 v85
  let v87 : BitVec 32 := Scalar.addi arg12 v86
  let v88 : Index := Scalar.indexCast v87
  let c0_45 : Index := 0#32
  let c0_46 : Index := 0#32
  ![v88.toNat, 0, 0]
def k0_off2 (i : grid0.Coords) (k0_t1 : Fin k0_t1_loop.trips) : Fin 3 → Nat :=
  let c0_i32_39 : BitVec 32 := 0#32
  let c1_i32 : BitVec 32 := 1#32
  let arg12 : BitVec 32 := Scf.iv c0_i32_39 c1_i32 k0_t1
  let arg0 : BitVec 32 := BitVec.ofNat 32 (i 0).val
  let c127_i32 : BitVec 32 := 127#32
  let c2_i32_44 : BitVec 32 := 2#32
  let v84 : BitVec 32 := Scalar.muli c2_i32_44 arg12
  let v85 : BitVec 32 := Scalar.subi c127_i32 v84
  let v86 : BitVec 32 := Scalar.muli arg0 v85
  let v87 : BitVec 32 := Scalar.addi arg12 v86
  let v119 : Index := Scalar.indexCast v87
  let c0_50 : Index := 0#32
  let c0_51 : Index := 0#32
  ![v119.toNat, 0, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c15_i32 : BitVec 32 := 15#32
  let v1 : BitVec 32 := Scalar.subi c15_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.muli c2_i32 arg1
  let c15_i32 : BitVec 32 := 15#32
  let v3 : BitVec 32 := Scalar.subi c15_i32 v2
  let v4 : BitVec 32 := Scalar.muli arg0 v3
  let v5 : BitVec 32 := Scalar.addi v1 v4
  let c0_i32 : BitVec 32 := 0#32
  let c0_i32_0 : BitVec 32 := 0#32
  let c0_i32_1 : BitVec 32 := 0#32
  ![v5.toNat, c0_i32.toNat, c0_i32_0.toNat]

abbrev stage0_0 : Fin 2 → Memref sig .tc .vmem S128x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S21x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference0Ideal.lean ====
abbrev S64x2048 : Shape := ⟨2, ![64, 2048]⟩
abbrev S64 : Shape := ⟨1, ![64]⟩
abbrev S21x128 : Shape := ⟨2, ![21, 128]⟩
abbrev S768x128 : Shape := ⟨2, ![768, 128]⟩
abbrev S768x256 : Shape := ⟨2, ![768, 256]⟩
abbrev S768 : Shape := ⟨1, ![768]⟩
abbrev S_ : Shape := ⟨0, ![]⟩
abbrev S64x2048x1 : Shape := ⟨3, ![64, 2048, 1]⟩
abbrev S64x2048x128 : Shape := ⟨3, ![64, 2048, 128]⟩
abbrev S1x768x128 : Shape := ⟨3, ![1, 768, 128]⟩
abbrev S2x768x128 : Shape := ⟨3, ![2, 768, 128]⟩
abbrev S1x768x256 : Shape := ⟨3, ![1, 768, 256]⟩
abbrev S2x768x256 : Shape := ⟨3, ![2, 768, 256]⟩
abbrev S1x768 : Shape := ⟨2, ![1, 768]⟩
abbrev S2x768 : Shape := ⟨2, ![2, 768]⟩
abbrev S2048 : Shape := ⟨1, ![2048]⟩
abbrev S1x2048 : Shape := ⟨2, ![1, 2048]⟩
abbrev S64x1 : Shape := ⟨2, ![64, 1]⟩
abbrev S1 : Shape := ⟨1, ![1]⟩
abbrev S1x1x1 : Shape := ⟨3, ![1, 1, 1]⟩
abbrev S2048x64x128 : Shape := ⟨3, ![2048, 64, 128]⟩
abbrev S2048x1x64x128 : Shape := ⟨4, ![2048, 1, 64, 128]⟩
abbrev S2048x2x64x128 : Shape := ⟨4, ![2048, 2, 64, 128]⟩
abbrev S2x64x256 : Shape := ⟨3, ![2, 64, 256]⟩
abbrev S2048x64 : Shape := ⟨2, ![2048, 64]⟩
abbrev S2048x2x64x256 : Shape := ⟨4, ![2048, 2, 64, 256]⟩
abbrev S1x2x64x128 : Shape := ⟨4, ![1, 2, 64, 128]⟩
abbrev S2x64x128 : Shape := ⟨3, ![2, 64, 128]⟩
abbrev S1x64 : Shape := ⟨2, ![1, 64]⟩
abbrev S2x64x768 : Shape := ⟨3, ![2, 64, 768]⟩
abbrev S2x1x768 : Shape := ⟨3, ![2, 1, 768]⟩
abbrev S1x64x1 : Shape := ⟨3, ![1, 64, 1]⟩
abbrev S1x2x64x256 : Shape := ⟨4, ![1, 2, 64, 256]⟩
abbrev S2048x1x64x256 : Shape := ⟨4, ![2048, 1, 64, 256]⟩
abbrev S2048x64x256 : Shape := ⟨3, ![2048, 64, 256]⟩
abbrev S64x2048x256 : Shape := ⟨3, ![64, 2048, 256]⟩
abbrev S4096x64x256 : Shape := ⟨3, ![4096, 64, 256]⟩

abbrev nBuf : Space → Nat
  | .hbm => 197
  | .vmem => 0
  | .smem => 0
  | _ => 0

abbrev hbmTy0_0 (i : Nat) : BufTy := match i % 128 with
  | 0 => ⟨S64x2048, .i32⟩
  | 1 => ⟨S64, .i32⟩
  | 2 => ⟨S21x128, .f32⟩
  | 3 => ⟨S768x128, .f32⟩
  | 4 => ⟨S768x256, .f32⟩
  | 5 => ⟨S768, .f32⟩
  | 6 => ⟨S768, .f32⟩
  | 7 => ⟨S768x128, .f32⟩
  | 8 => ⟨S768x256, .f32⟩
  | 9 => ⟨S768, .f32⟩
  | 10 => ⟨S768, .f32⟩
  | 11 => ⟨S_, .i32⟩
  | 12 => ⟨S64x2048, .i32⟩
  | 13 => ⟨S64x2048, .i1⟩
  | 14 => ⟨S_, .i32⟩
  | 15 => ⟨S64x2048, .i32⟩
  | 16 => ⟨S64x2048, .i32⟩
  | 17 => ⟨S64x2048, .i32⟩
  | 18 => ⟨S64x2048x1, .i32⟩
  | 19 => ⟨S64x2048x128, .f32⟩
  | 20 => ⟨S1x768x128, .f32⟩
  | 21 => ⟨S1x768x128, .f32⟩
  | 22 => ⟨S2x768x128, .f32⟩
  | 23 => ⟨S1x768x256, .f32⟩
  | 24 => ⟨S1x768x256, .f32⟩
  | 25 => ⟨S2x768x256, .f32⟩
  | 26 => ⟨S1x768, .f32⟩
  | 27 => ⟨S1x768, .f32⟩
  | 28 => ⟨S2x768, .f32⟩
  | 29 => ⟨S1x768, .f32⟩
  | 30 => ⟨S1x768, .f32⟩
  | 31 => ⟨S2x768, .f32⟩
  | 32 => ⟨S2048, .i32⟩
  | 33 => ⟨S1x2048, .i32⟩
  | 34 => ⟨S64x1, .i32⟩
  | 35 => ⟨S64x2048, .i32⟩
  | 36 => ⟨S64x2048, .i32⟩
  | 37 => ⟨S64x2048, .i1⟩
  | 38 => ⟨S64x1, .i32⟩
  | 39 => ⟨S_, .i32⟩
  | 40 => ⟨S64x1, .i32⟩
  | 41 => ⟨S64x1, .i32⟩
  | 42 => ⟨S1x2048, .i32⟩
  | 43 => ⟨S64x2048, .i32⟩
  | 44 => ⟨S64x2048, .i32⟩
  | 45 => ⟨S64x2048, .i32⟩
  | 46 => ⟨S_, .i32⟩
  | 47 => ⟨S_, .i32⟩
  | 48 => ⟨S64x2048, .i32⟩
  | 49 => ⟨S64x2048, .i32⟩
  | 50 => ⟨S64x2048x1, .i32⟩
  | 51 => ⟨S_, .i32⟩
  | 52 => ⟨S64x2048x1, .i32⟩
  | 53 => ⟨S64x2048x1, .i1⟩
  | 54 => ⟨S_, .i32⟩
  | 55 => ⟨S64x2048x1, .i32⟩
  | 56 => ⟨S64x2048x1, .i32⟩
  | 57 => ⟨S64x2048x1, .i32⟩
  | 58 => ⟨S1, .i32⟩
  | 59 => ⟨S_, .i32⟩
  | 60 => ⟨S64x2048x1, .i32⟩
  | 61 => ⟨S64x2048x1, .i1⟩
  | 62 => ⟨S1x1x1, .i32⟩
  | 63 => ⟨S64x2048x1, .i32⟩
  | 64 => ⟨S64x2048x1, .i1⟩
  | 65 => ⟨S64x2048x1, .i1⟩
  | 66 => ⟨S_, .i1⟩
  | 67 => ⟨S64x2048, .i1⟩
  | 68 => ⟨S64x2048x128, .f32⟩
  | 69 => ⟨S64x2048x128, .i1⟩
  | 70 => ⟨S_, .f32⟩
  | 71 => ⟨S64x2048x128, .f32⟩
  | 72 => ⟨S64x2048x128, .f32⟩
  | 73 => ⟨S2048x64x128, .f32⟩
  | 74 => ⟨S2048x64x128, .f32⟩
  | 75 => ⟨S2048x1x64x128, .f32⟩
  | 76 => ⟨S2048x1x64x128, .f32⟩
  | 77 => ⟨S2048x2x64x128, .f32⟩
  | 78 => ⟨S_, .f32⟩
  | 79 => ⟨S2x64x256, .f32⟩
  | 80 => ⟨S2048x64, .i1⟩
  | 81 => ⟨S_, .f32⟩
  | 82 => ⟨S2048x2x64x256, .f32⟩
  | 83 => ⟨S_, .i32⟩
  | 84 => ⟨S2048x2x64x128, .f32⟩
  | 85 => ⟨S2048x64, .i1⟩
  | 86 => ⟨S2x768x128, .f32⟩
  | 87 => ⟨S2x768, .f32⟩
  | 88 => ⟨S2x768x256, .f32⟩
  | 89 => ⟨S2x768, .f32⟩
  | 90 => ⟨S_, .i32⟩
  | 91 => ⟨S2x64x256, .f32⟩
  | 92 => ⟨S2048x2x64x256, .f32⟩
  | 93 => ⟨S_, .i32⟩
  | 94 => ⟨S_, .i1⟩
  | 95 => ⟨S_, .i32⟩
  | 96 => ⟨S_, .i32⟩
  | 97 => ⟨S_, .i32⟩
  | 98 => ⟨S1x2x64x128, .f32⟩
  | 99 => ⟨S2x64x128, .f32⟩
  | 100 => ⟨S_, .i32⟩
  | 101 => ⟨S1x64, .i1⟩
  | 102 => ⟨S64, .i1⟩
  | 103 => ⟨S2x64x768, .f32⟩
  | 104 => ⟨S2x1x768, .f32⟩
  | 105 => ⟨S2x64x768, .f32⟩
  | 106 => ⟨S2x64x768, .f32⟩
  | 107 => ⟨S2x64x768, .f32⟩
  | 108 => ⟨S2x1x768, .f32⟩
  | 109 => ⟨S2x64x768, .f32⟩
  | 110 => ⟨S2x64x768, .f32⟩
  | 111 => ⟨S2x64x256, .f32⟩
  | 112 => ⟨S2x64x256, .f32⟩
  | 113 => ⟨S2x64x256, .f32⟩
  | 114 => ⟨S2x64x256, .f32⟩
  | 115 => ⟨S2x64x256, .f32⟩
  | 116 => ⟨S2x64x256, .f32⟩
  | 117 => ⟨S2x64x256, .f32⟩
  | 118 => ⟨S2x64x256, .f32⟩
  | 119 => ⟨S2x64x256, .f32⟩
  | 120 => ⟨S_, .f32⟩
  | 121 => ⟨S2x64x256, .f32⟩
  | 122 => ⟨S2x64x256, .f32⟩
  | 123 => ⟨S_, .f32⟩
  | 124 => ⟨S2x64x256, .f32⟩
  | 125 => ⟨S2x64x256, .f32⟩
  | 126 => ⟨S2x64x256, .f32⟩
  | 127 => ⟨S2x64x256, .f32⟩
  | _ => ⟨S64x2048, .i32⟩

abbrev hbmTy0_1 (i : Nat) : BufTy := match i % 128 with
  | 0 => ⟨S2x64x256, .f32⟩
  | 1 => ⟨S_, .f32⟩
  | 2 => ⟨S2x64x256, .f32⟩
  | 3 => ⟨S2x64x256, .f32⟩
  | 4 => ⟨S_, .f32⟩
  | 5 => ⟨S2x64x256, .f32⟩
  | 6 => ⟨S2x64x256, .f32⟩
  | 7 => ⟨S2x64x256, .f32⟩
  | 8 => ⟨S2x64x256, .f32⟩
  | 9 => ⟨S2x64x256, .f32⟩
  | 10 => ⟨S_, .f32⟩
  | 11 => ⟨S2x64x256, .f32⟩
  | 12 => ⟨S2x64x256, .f32⟩
  | 13 => ⟨S2x64x256, .f32⟩
  | 14 => ⟨S2x64x256, .f32⟩
  | 15 => ⟨S2x64x256, .f32⟩
  | 16 => ⟨S1x64x1, .i1⟩
  | 17 => ⟨S2x64x256, .i1⟩
  | 18 => ⟨S2x64x256, .f32⟩
  | 19 => ⟨S_, .f32⟩
  | 20 => ⟨S_, .f32⟩
  | 21 => ⟨S2x64x256, .i1⟩
  | 22 => ⟨S2x64x256, .f32⟩
  | 23 => ⟨S2x64x256, .f32⟩
  | 24 => ⟨S1x2x64x256, .f32⟩
  | 25 => ⟨S_, .i32⟩
  | 26 => ⟨S_, .i32⟩
  | 27 => ⟨S_, .i32⟩
  | 28 => ⟨S2048x2x64x256, .f32⟩
  | 29 => ⟨S_, .i32⟩
  | 30 => ⟨S_, .i32⟩
  | 31 => ⟨S2048x1x64x256, .f32⟩
  | 32 => ⟨S2048x64x256, .f32⟩
  | 33 => ⟨S64x2048x256, .f32⟩
  | 34 => ⟨S2048x1x64x256, .f32⟩
  | 35 => ⟨S2048x64x256, .f32⟩
  | 36 => ⟨S64x2048x256, .f32⟩
  | 37 => ⟨S64x2048x1, .i32⟩
  | 38 => ⟨S_, .i32⟩
  | 39 => ⟨S64x2048x1, .i32⟩
  | 40 => ⟨S64x2048x1, .i1⟩
  | 41 => ⟨S_, .i32⟩
  | 42 => ⟨S64x2048x1, .i32⟩
  | 43 => ⟨S64x2048x1, .i32⟩
  | 44 => ⟨S64x2048x1, .i32⟩
  | 45 => ⟨S1, .i32⟩
  | 46 => ⟨S_, .i32⟩
  | 47 => ⟨S64x2048x1, .i32⟩
  | 48 => ⟨S64x2048x1, .i1⟩
  | 49 => ⟨S1x1x1, .i32⟩
  | 50 => ⟨S64x2048x1, .i32⟩
  | 51 => ⟨S64x2048x1, .i1⟩
  | 52 => ⟨S64x2048x1, .i1⟩
  | 53 => ⟨S_, .i1⟩
  | 54 => ⟨S64x2048, .i1⟩
  | 55 => ⟨S64x2048x256, .f32⟩
  | 56 => ⟨S64x2048x256, .i1⟩
  | 57 => ⟨S_, .f32⟩
  | 58 => ⟨S64x2048x256, .f32⟩
  | 59 => ⟨S64x2048x256, .f32⟩
  | 60 => ⟨S64x2048x1, .i1⟩
  | 61 => ⟨S_, .f32⟩
  | 62 => ⟨S_, .f32⟩
  | 63 => ⟨S64x2048x256, .i1⟩
  | 64 => ⟨S64x2048x256, .f32⟩
  | 65 => ⟨S64x2048x256, .f32⟩
  | 66 => ⟨S2048x64x256, .f32⟩
  | 67 => ⟨S2048x64x256, .f32⟩
  | 68 => ⟨S4096x64x256, .f32⟩
  | _ => ⟨S64x2048, .i32⟩

abbrev hbmTy (i : Nat) : BufTy := match i / 128 with
  | 0 => hbmTy0_0 i
  | 1 => hbmTy0_1 i
  | _ => ⟨S64x2048, .i32⟩

abbrev bufTy : (tb : Table) → Fin (tcTables nBuf tb) → BufTy
  | .hbm, ⟨i, _⟩ => hbmTy i
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_2 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_v33 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_c_2 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_c_3 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst : Ref sig .tc := ⟨.hbm, 78, rfl⟩
abbrev main_v40 : Ref sig .tc := ⟨.hbm, 79, rfl⟩
abbrev main_v41 : Ref sig .tc := ⟨.hbm, 80, rfl⟩
abbrev main_cst_3 : Ref sig .tc := ⟨.hbm, 81, rfl⟩
abbrev main_v42 : Ref sig .tc := ⟨.hbm, 82, rfl⟩
abbrev main_c_4 : Ref sig .tc := ⟨.hbm, 83, rfl⟩
abbrev main_v43_0 : Ref sig .tc := ⟨.hbm, 84, rfl⟩
abbrev main_v43_1 : Ref sig .tc := ⟨.hbm, 85, rfl⟩
abbrev main_v43_2 : Ref sig .tc := ⟨.hbm, 86, rfl⟩
abbrev main_v43_3 : Ref sig .tc := ⟨.hbm, 87, rfl⟩
abbrev main_v43_4 : Ref sig .tc := ⟨.hbm, 88, rfl⟩
abbrev main_v43_5 : Ref sig .tc := ⟨.hbm, 89, rfl⟩
abbrev main_v43_6 : Ref sig .tc := ⟨.hbm, 90, rfl⟩
abbrev main_v43_7 : Ref sig .tc := ⟨.hbm, 91, rfl⟩
abbrev main_v43_8 : Ref sig .tc := ⟨.hbm, 92, rfl⟩
abbrev main_while0c_c_14 : Ref sig .tc := ⟨.hbm, 93, rfl⟩
abbrev main_while0c_v57 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_v0 : Ref sig .tc := ⟨.hbm, 98, rfl⟩
abbrev main_while0b_v57 : Ref sig .tc := ⟨.hbm, 99, rfl⟩
abbrev main_while0b_call3_c : Ref sig .tc := ⟨.hbm, 100, rfl⟩
abbrev main_while0b_call3_v0 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_v63 : Ref sig .tc := ⟨.hbm, 107, rfl⟩
abbrev main_while0b_v64 : Ref sig .tc := ⟨.hbm, 108, rfl⟩
abbrev main_while0b_v65 : Ref sig .tc := ⟨.hbm, 109, rfl⟩
abbrev main_while0b_v66 : Ref sig .tc := ⟨.hbm, 110, rfl⟩
abbrev main_while0b_v67 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_cst_14 : Ref sig .tc := ⟨.hbm, 120, rfl⟩
abbrev main_while0b_v76 : Ref sig .tc := ⟨.hbm, 121, rfl⟩
abbrev main_while0b_v77 : Ref sig .tc := ⟨.hbm, 122, rfl⟩
abbrev main_while0b_cst_15 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_cst_16 : Ref sig .tc := ⟨.hbm, 129, rfl⟩
abbrev main_while0b_v83 : Ref sig .tc := ⟨.hbm, 130, rfl⟩
abbrev main_while0b_v84 : Ref sig .tc := ⟨.hbm, 131, rfl⟩
abbrev main_while0b_cst_17 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_cst_18 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_call4_v0 : Ref sig .tc := ⟨.hbm, 145, rfl⟩
abbrev main_while0b_v96 : Ref sig .tc := ⟨.hbm, 146, rfl⟩
abbrev main_while0b_cst_19 : Ref sig .tc := ⟨.hbm, 147, rfl⟩
abbrev main_while0b_call5_v0 : Ref sig .tc := ⟨.hbm, 148, rfl⟩
abbrev main_while0b_call5_v1 : Ref sig .tc := ⟨.hbm, 149, rfl⟩
abbrev main_while0b_call5_v2 : Ref sig .tc := ⟨.hbm, 150, rfl⟩
abbrev main_while0b_v97 : Ref sig .tc := ⟨.hbm, 151, rfl⟩
abbrev main_while0b_call6_v0 : Ref sig .tc := ⟨.hbm, 152, rfl⟩
abbrev main_while0b_call6_c : Ref sig .tc := ⟨.hbm, 153, rfl⟩
abbrev main_while0b_call6_c_0 : Ref sig .tc := ⟨.hbm, 154, rfl⟩
abbrev main_while0b_call6_c_1 : Ref sig .tc := ⟨.hbm, 155, rfl⟩
abbrev main_while0b_v98 : Ref sig .tc := ⟨.hbm, 156, rfl⟩
abbrev main_while0b_c_20 : Ref sig .tc := ⟨.hbm, 157, rfl⟩
abbrev main_while0b_v99 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_call7_c : Ref sig .tc := ⟨.hbm, 166, rfl⟩
abbrev main_call7_v0 : Ref sig .tc := ⟨.hbm, 167, rfl⟩
abbrev main_call7_v1 : Ref sig .tc := ⟨.hbm, 168, rfl⟩
abbrev main_call7_c_0 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_c_1 : Ref sig .tc := ⟨.hbm, 173, rfl⟩
abbrev main_call7_c_2 : Ref sig .tc := ⟨.hbm, 174, rfl⟩
abbrev main_call7_v5 : Ref sig .tc := ⟨.hbm, 175, rfl⟩
abbrev main_call7_v6 : Ref sig .tc := ⟨.hbm, 176, rfl⟩
abbrev main_call7_v7 : Ref sig .tc := ⟨.hbm, 177, rfl⟩
abbrev main_call7_v8 : Ref sig .tc := ⟨.hbm, 178, rfl⟩
abbrev main_call7_v9 : Ref sig .tc := ⟨.hbm, 179, rfl⟩
abbrev main_call7_v10 : Ref sig .tc := ⟨.hbm, 180, rfl⟩
abbrev main_call7_c_3 : Ref sig .tc := ⟨.hbm, 181, rfl⟩
abbrev main_call7_v11 : Ref sig .tc := ⟨.hbm, 182, rfl⟩
abbrev main_call7_v12 : Ref sig .tc := ⟨.hbm, 183, rfl⟩
abbrev main_call7_v13 : Ref sig .tc := ⟨.hbm, 184, rfl⟩
abbrev main_call7_cst : Ref sig .tc := ⟨.hbm, 185, rfl⟩
abbrev main_call7_v14 : Ref sig .tc := ⟨.hbm, 186, rfl⟩
abbrev main_v51 : Ref sig .tc := ⟨.hbm, 187, rfl⟩
abbrev main_v52 : Ref sig .tc := ⟨.hbm, 188, rfl⟩
abbrev main_cst_5 : Ref sig .tc := ⟨.hbm, 189, rfl⟩
abbrev main_call8_v0 : Ref sig .tc := ⟨.hbm, 190, rfl⟩
abbrev main_call8_v1 : Ref sig .tc := ⟨.hbm, 191, rfl⟩
abbrev main_call8_v2 : Ref sig .tc := ⟨.hbm, 192, rfl⟩
abbrev main_v53 : Ref sig .tc := ⟨.hbm, 193, rfl⟩
abbrev main_v54 : Ref sig .tc := ⟨.hbm, 194, rfl⟩
abbrev main_v55 : Ref sig .tc := ⟨.hbm, 195, rfl⟩
abbrev main_v56 : Ref sig .tc := ⟨.hbm, 196, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S4096x64x256 : Shape := ⟨3, ![4096, 64, 256]⟩
abbrev S64x2048 : Shape := ⟨2, ![64, 2048]⟩
abbrev S64 : Shape := ⟨1, ![64]⟩
abbrev S128x512 : Shape := ⟨2, ![128, 512]⟩
abbrev S128 : Shape := ⟨1, ![128]⟩
abbrev S256x128 : Shape := ⟨2, ![256, 128]⟩
abbrev S256 : Shape := ⟨1, ![256]⟩
abbrev S128x256 : Shape := ⟨2, ![128, 256]⟩
abbrev S61x128 : Shape := ⟨2, ![61, 128]⟩
abbrev S61 : Shape := ⟨1, ![61]⟩
abbrev S21x61 : Shape := ⟨2, ![21, 61]⟩
abbrev S2048x64 : Shape := ⟨2, ![2048, 64]⟩
abbrev S512x128 : Shape := ⟨2, ![512, 128]⟩
abbrev S1x128 : Shape := ⟨2, ![1, 128]⟩
abbrev S131072x128 : Shape := ⟨2, ![131072, 128]⟩
abbrev S16x2x128 : Shape := ⟨3, ![16, 2, 128]⟩
abbrev S128x64x256 : Shape := ⟨3, ![128, 64, 256]⟩
abbrev S8192x128 : Shape := ⟨2, ![8192, 128]⟩
abbrev S1x2x128 : Shape := ⟨3, ![1, 2, 128]⟩
abbrev S8192x256 : Shape := ⟨2, ![8192, 256]⟩
abbrev S2x128 : Shape := ⟨2, ![2, 128]⟩
abbrev S1x256 : Shape := ⟨2, ![1, 256]⟩
abbrev S131072x256 : Shape := ⟨2, ![131072, 256]⟩
abbrev S16x2x256 : Shape := ⟨3, ![16, 2, 256]⟩
abbrev S1x2x256 : Shape := ⟨3, ![1, 2, 256]⟩
abbrev S2x256 : Shape := ⟨2, ![2, 256]⟩
abbrev S128x61 : Shape := ⟨2, ![128, 61]⟩
abbrev S1x61 : Shape := ⟨2, ![1, 61]⟩
abbrev S131072x61 : Shape := ⟨2, ![131072, 61]⟩
abbrev S128x64 : Shape := ⟨2, ![128, 64]⟩
abbrev S8192x61 : Shape := ⟨2, ![8192, 61]⟩
abbrev S8192 : Shape := ⟨1, ![8192]⟩
abbrev S8192x1 : Shape := ⟨2, ![8192, 1]⟩
abbrev S128x64x1 : Shape := ⟨3, ![128, 64, 1]⟩
abbrev S128x64x21 : Shape := ⟨3, ![128, 64, 21]⟩
abbrev S8192x21 : Shape := ⟨2, ![8192, 21]⟩
abbrev S2048x64x61 : Shape := ⟨3, ![2048, 64, 61]⟩
abbrev S64x2048x61 : Shape := ⟨3, ![64, 2048, 61]⟩

abbrev nBuf : Space → Nat
  | .hbm => 42
  | .vmem => 44
  | .smem => 0
  | _ => 0

abbrev bufTy : (tb : Table) → Fin (tcTables nBuf tb) → BufTy
  | .hbm, ⟨0, _⟩ => ⟨S4096x64x256, .f32⟩
  | .hbm, ⟨1, _⟩ => ⟨S64x2048, .i32⟩
  | .hbm, ⟨2, _⟩ => ⟨S64, .i32⟩
  | .hbm, ⟨3, _⟩ => ⟨S128x512, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S128x256, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S61x128, .f32⟩
  | .hbm, ⟨16, _⟩ => ⟨S61, .f32⟩
  | .hbm, ⟨17, _⟩ => ⟨S21x61, .f32⟩
  | .hbm, ⟨18, _⟩ => ⟨S2048x64, .i32⟩
  | .hbm, ⟨19, _⟩ => ⟨S512x128, .f32⟩
  | .hbm, ⟨20, _⟩ => ⟨S1x128, .f32⟩
  | .hbm, ⟨21, _⟩ => ⟨S131072x128, .f32⟩
  | .hbm, ⟨22, _⟩ => ⟨S16x2x128, .f32⟩
  | .hbm, ⟨23, _⟩ => ⟨S1x128, .f32⟩
  | .hbm, ⟨24, _⟩ => ⟨S1x128, .f32⟩
  | .hbm, ⟨25, _⟩ => ⟨S128x256, .f32⟩
  | .hbm, ⟨26, _⟩ => ⟨S1x256, .f32⟩
  | .hbm, ⟨27, _⟩ => ⟨S131072x256, .f32⟩
  | .hbm, ⟨28, _⟩ => ⟨S16x2x256, .f32⟩
  | .hbm, ⟨29, _⟩ => ⟨S1x256, .f32⟩
  | .hbm, ⟨30, _⟩ => ⟨S1x256, .f32⟩
  | .hbm, ⟨31, _⟩ => ⟨S256x128, .f32⟩
  | .hbm, ⟨32, _⟩ => ⟨S1x128, .f32⟩
  | .hbm, ⟨33, _⟩ => ⟨S131072x128, .f32⟩
  | .hbm, ⟨34, _⟩ => ⟨S16x2x128, .f32⟩
  | .hbm, ⟨35, _⟩ => ⟨S1x128, .f32⟩
  | .hbm, ⟨36, _⟩ => ⟨S1x128, .f32⟩
  | .hbm, ⟨37, _⟩ => ⟨S128x61, .f32⟩
  | .hbm, ⟨38, _⟩ => ⟨S1x61, .f32⟩
  | .hbm, ⟨39, _⟩ => ⟨S131072x61, .f32⟩
  | .hbm, ⟨40, _⟩ => ⟨S2048x64x61, .f32⟩
  | .hbm, ⟨41, _⟩ => ⟨S64x2048x61, .f32⟩
  | .local _ .vmem, ⟨0, _⟩ => ⟨S128x64x256, .f32⟩
  | .local _ .vmem, ⟨1, _⟩ => ⟨S128x64x256, .f32⟩
  | .local _ .vmem, ⟨2, _⟩ => ⟨S128x64x256, .f32⟩
  | .local _ .vmem, ⟨3, _⟩ => ⟨S128x64x256, .f32⟩
  | .local _ .vmem, ⟨4, _⟩ => ⟨S512x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S1x2x128, .f32⟩
  | .local _ .vmem, ⟨9, _⟩ => ⟨S1x2x128, .f32⟩
  | .local _ .vmem, ⟨10, _⟩ => ⟨S8192x128, .f32⟩
  | .local _ .vmem, ⟨11, _⟩ => ⟨S8192x128, .f32⟩
  | .local _ .vmem, ⟨12, _⟩ => ⟨S16x2x128, .f32⟩
  | .local _ .vmem, ⟨13, _⟩ => ⟨S1x128, .f32⟩
  | .local _ .vmem, ⟨14, _⟩ => ⟨S1x128, .f32⟩
  | .local _ .vmem, ⟨15, _⟩ => ⟨S128x256, .f32⟩
  | .local _ .vmem, ⟨16, _⟩ => ⟨S1x256, .f32⟩
  | .local _ .vmem, ⟨17, _⟩ => ⟨S8192x256, .f32⟩
  | .local _ .vmem, ⟨18, _⟩ => ⟨S8192x256, .f32⟩
  | .local _ .vmem, ⟨19, _⟩ => ⟨S1x2x256, .f32⟩
  | .local _ .vmem, ⟨20, _⟩ => ⟨S1x2x256, .f32⟩
  | .local _ .vmem, ⟨21, _⟩ => ⟨S8192x256, .f32⟩
  | .local _ .vmem, ⟨22, _⟩ => ⟨S8192x256, .f32⟩
  | .local _ .vmem, ⟨23, _⟩ => ⟨S16x2x256, .f32⟩
  | .local _ .vmem, ⟨24, _⟩ => ⟨S1x256, .f32⟩
  | .local _ .vmem, ⟨25, _⟩ => ⟨S1x256, .f32⟩
  | .local _ .vmem, ⟨26, _⟩ => ⟨S256x128, .f32⟩
  | .local _ .vmem, ⟨27, _⟩ => ⟨S1x128, .f32⟩
  | .local _ .vmem, ⟨28, _⟩ => ⟨S8192x128, .f32⟩
  | .local _ .vmem, ⟨29, _⟩ => ⟨S8192x128, .f32⟩
  | .local _ .vmem, ⟨30, _⟩ => ⟨S1x2x128, .f32⟩
  | .local _ .vmem, ⟨31, _⟩ => ⟨S1x2x128, .f32⟩
  | .local _ .vmem, ⟨32, _⟩ => ⟨S8192x128, .f32⟩
  | .local _ .vmem, ⟨33, _⟩ => ⟨S8192x128, .f32⟩
  | .local _ .vmem, ⟨34, _⟩ => ⟨S16x2x128, .f32⟩
  | .local _ .vmem, ⟨35, _⟩ => ⟨S1x128, .f32⟩
  | .local _ .vmem, ⟨36, _⟩ => ⟨S1x128, .f32⟩
  | .local _ .vmem, ⟨37, _⟩ => ⟨S128x61, .f32⟩
  | .local _ .vmem, ⟨38, _⟩ => ⟨S1x61, .f32⟩
  | .local _ .vmem, ⟨39, _⟩ => ⟨S128x64, .i32⟩
  | .local _ .vmem, ⟨40, _⟩ => ⟨S128x64, .i32⟩
  | .local _ .vmem, ⟨41, _⟩ => ⟨S21x61, .f32⟩
  | .local _ .vmem, ⟨42, _⟩ => ⟨S8192x61, .f32⟩
  | .local _ .vmem, ⟨43, _⟩ => ⟨S8192x61, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc3_sem7_0 : DmaSem sig := 41
abbrev cc3_sem8_0 : DmaSem sig := 42
abbrev cc3_sem8_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x2x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x2x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x61 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x61 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S128x64 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S21x61 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8192x61 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== Reference2Ideal.lean ====
abbrev S4096x64x256 : Shape := ⟨3, ![4096, 64, 256]⟩
abbrev S64x2048 : Shape := ⟨2, ![64, 2048]⟩
abbrev S64 : Shape := ⟨1, ![64]⟩
abbrev S128x512 : Shape := ⟨2, ![128, 512]⟩
abbrev S128 : Shape := ⟨1, ![128]⟩
abbrev S256x128 : Shape := ⟨2, ![256, 128]⟩
abbrev S256 : Shape := ⟨1, ![256]⟩
abbrev S128x256 : Shape := ⟨2, ![128, 256]⟩
abbrev S61x128 : Shape := ⟨2, ![61, 128]⟩
abbrev S61 : Shape := ⟨1, ![61]⟩
abbrev S21x61 : Shape := ⟨2, ![21, 61]⟩
abbrev S2048x64x256 : Shape := ⟨3, ![2048, 64, 256]⟩
abbrev S2048x64x512 : Shape := ⟨3, ![2048, 64, 512]⟩
abbrev S64x2048x512 : Shape := ⟨3, ![64, 2048, 512]⟩
abbrev S131072x512 : Shape := ⟨2, ![131072, 512]⟩
abbrev S512x128 : Shape := ⟨2, ![512, 128]⟩
abbrev S131072x128 : Shape := ⟨2, ![131072, 128]⟩
abbrev S1x128 : Shape := ⟨2, ![1, 128]⟩
abbrev S_ : Shape := ⟨0, ![]⟩
abbrev S131072x256 : Shape := ⟨2, ![131072, 256]⟩
abbrev S1x256 : Shape := ⟨2, ![1, 256]⟩
abbrev S128x61 : Shape := ⟨2, ![128, 61]⟩
abbrev S131072x61 : Shape := ⟨2, ![131072, 61]⟩
abbrev S1x61 : Shape := ⟨2, ![1, 61]⟩
abbrev S64x2048x61 : Shape := ⟨3, ![64, 2048, 61]⟩
abbrev S64x2048x1 : Shape := ⟨3, ![64, 2048, 1]⟩
abbrev S2048 : Shape := ⟨1, ![2048]⟩
abbrev S1x2048 : Shape := ⟨2, ![1, 2048]⟩
abbrev S64x1 : Shape := ⟨2, ![64, 1]⟩

abbrev nBuf : Space → Nat
  | .hbm => 233
  | .vmem => 0
  | .smem => 0
  | _ => 0

abbrev hbmTy0_0 (i : Nat) : BufTy := match i % 128 with
  | 0 => ⟨S4096x64x256, .f32⟩
  | 1 => ⟨S64x2048, .i32⟩
  | 2 => ⟨S64, .i32⟩
  | 3 => ⟨S128x512, .f32⟩
  | 4 => ⟨S128, .f32⟩
  | 5 => ⟨S128, .f32⟩
  | 6 => ⟨S128, .f32⟩
  | 7 => ⟨S256x128, .f32⟩
  | 8 => ⟨S256, .f32⟩
  | 9 => ⟨S256, .f32⟩
  | 10 => ⟨S256, .f32⟩
  | 11 => ⟨S128x256, .f32⟩
  | 12 => ⟨S128, .f32⟩
  | 13 => ⟨S128, .f32⟩
  | 14 => ⟨S128, .f32⟩
  | 15 => ⟨S61x128, .f32⟩
  | 16 => ⟨S61, .f32⟩
  | 17 => ⟨S21x61, .f32⟩
  | 18 => ⟨S2048x64x256, .f32⟩
  | 19 => ⟨S2048x64x256, .f32⟩
  | 20 => ⟨S2048x64x512, .f32⟩
  | 21 => ⟨S64x2048x512, .f32⟩
  | 22 => ⟨S131072x512, .f32⟩
  | 23 => ⟨S512x128, .f32⟩
  | 24 => ⟨S131072x128, .f32⟩
  | 25 => ⟨S1x128, .f32⟩
  | 26 => ⟨S131072x128, .f32⟩
  | 27 => ⟨S131072x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S131072x128, .f32⟩
  | 41 => ⟨S131072x128, .f32⟩
  | 42 => ⟨S131072x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S131072x128, .f32⟩
  | 58 => ⟨S131072x128, .f32⟩
  | 59 => ⟨S1x128, .f32⟩
  | 60 => ⟨S131072x128, .f32⟩
  | 61 => ⟨S131072x128, .f32⟩
  | 62 => ⟨S_, .f32⟩
  | 63 => ⟨S128, .f32⟩
  | 64 => ⟨S128, .f32⟩
  | 65 => ⟨S128, .f32⟩
  | 66 => ⟨S1x128, .f32⟩
  | 67 => ⟨S131072x128, .f32⟩
  | 68 => ⟨S131072x128, .f32⟩
  | 69 => ⟨S1x128, .f32⟩
  | 70 => ⟨S131072x128, .f32⟩
  | 71 => ⟨S131072x128, .f32⟩
  | 72 => ⟨S_, .f32⟩
  | 73 => ⟨S131072x128, .f32⟩
  | 74 => ⟨S131072x128, .i1⟩
  | 75 => ⟨S_, .f32⟩
  | 76 => ⟨S131072x128, .f32⟩
  | 77 => ⟨S131072x128, .f32⟩
  | 78 => ⟨S131072x128, .f32⟩
  | 79 => ⟨S128x256, .f32⟩
  | 80 => ⟨S131072x256, .f32⟩
  | 81 => ⟨S1x256, .f32⟩
  | 82 => ⟨S131072x256, .f32⟩
  | 83 => ⟨S131072x256, .f32⟩
  | 84 => ⟨S_, .f32⟩
  | 85 => ⟨S256, .f32⟩
  | 86 => ⟨S_, .f32⟩
  | 87 => ⟨S256, .f32⟩
  | 88 => ⟨S256, .f32⟩
  | 89 => ⟨S_, .i32⟩
  | 90 => ⟨S_, .f32⟩
  | 91 => ⟨S256, .f32⟩
  | 92 => ⟨S1x256, .f32⟩
  | 93 => ⟨S_, .f32⟩
  | 94 => ⟨S1x256, .f32⟩
  | 95 => ⟨S1x256, .f32⟩
  | 96 => ⟨S131072x256, .f32⟩
  | 97 => ⟨S131072x256, .f32⟩
  | 98 => ⟨S131072x256, .f32⟩
  | 99 => ⟨S_, .f32⟩
  | 100 => ⟨S_, .f32⟩
  | 101 => ⟨S_, .f32⟩
  | 102 => ⟨S_, .f32⟩
  | 103 => ⟨S256, .f32⟩
  | 104 => ⟨S256, .f32⟩
  | 105 => ⟨S256, .f32⟩
  | 106 => ⟨S_, .f32⟩
  | 107 => ⟨S_, .i1⟩
  | 108 => ⟨S_, .f32⟩
  | 109 => ⟨S_, .f32⟩
  | 110 => ⟨S256, .f32⟩
  | 111 => ⟨S256, .f32⟩
  | 112 => ⟨S1x256, .f32⟩
  | 113 => ⟨S131072x256, .f32⟩
  | 114 => ⟨S131072x256, .f32⟩
  | 115 => ⟨S1x256, .f32⟩
  | 116 => ⟨S131072x256, .f32⟩
  | 117 => ⟨S131072x256, .f32⟩
  | 118 => ⟨S_, .f32⟩
  | 119 => ⟨S256, .f32⟩
  | 120 => ⟨S256, .f32⟩
  | 121 => ⟨S256, .f32⟩
  | 122 => ⟨S1x256, .f32⟩
  | 123 => ⟨S131072x256, .f32⟩
  | 124 => ⟨S131072x256, .f32⟩
  | 125 => ⟨S1x256, .f32⟩
  | 126 => ⟨S131072x256, .f32⟩
  | 127 => ⟨S131072x256, .f32⟩
  | _ => ⟨S4096x64x256, .f32⟩

abbrev hbmTy0_1 (i : Nat) : BufTy := match i % 128 with
  | 0 => ⟨S_, .f32⟩
  | 1 => ⟨S131072x256, .f32⟩
  | 2 => ⟨S131072x256, .i1⟩
  | 3 => ⟨S_, .f32⟩
  | 4 => ⟨S131072x256, .f32⟩
  | 5 => ⟨S131072x256, .f32⟩
  | 6 => ⟨S131072x256, .f32⟩
  | 7 => ⟨S256x128, .f32⟩
  | 8 => ⟨S131072x128, .f32⟩
  | 9 => ⟨S1x128, .f32⟩
  | 10 => ⟨S131072x128, .f32⟩
  | 11 => ⟨S131072x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S131072x128, .f32⟩
  | 25 => ⟨S131072x128, .f32⟩
  | 26 => ⟨S131072x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S131072x128, .f32⟩
  | 42 => ⟨S131072x128, .f32⟩
  | 43 => ⟨S1x128, .f32⟩
  | 44 => ⟨S131072x128, .f32⟩
  | 45 => ⟨S131072x128, .f32⟩
  | 46 => ⟨S_, .f32⟩
  | 47 => ⟨S128, .f32⟩
  | 48 => ⟨S128, .f32⟩
  | 49 => ⟨S128, .f32⟩
  | 50 => ⟨S1x128, .f32⟩
  | 51 => ⟨S131072x128, .f32⟩
  | 52 => ⟨S131072x128, .f32⟩
  | 53 => ⟨S1x128, .f32⟩
  | 54 => ⟨S131072x128, .f32⟩
  | 55 => ⟨S131072x128, .f32⟩
  | 56 => ⟨S_, .f32⟩
  | 57 => ⟨S131072x128, .f32⟩
  | 58 => ⟨S131072x128, .i1⟩
  | 59 => ⟨S_, .f32⟩
  | 60 => ⟨S131072x128, .f32⟩
  | 61 => ⟨S131072x128, .f32⟩
  | 62 => ⟨S131072x128, .f32⟩
  | 63 => ⟨S128x61, .f32⟩
  | 64 => ⟨S131072x61, .f32⟩
  | 65 => ⟨S1x61, .f32⟩
  | 66 => ⟨S131072x61, .f32⟩
  | 67 => ⟨S131072x61, .f32⟩
  | 68 => ⟨S64x2048x61, .f32⟩
  | 69 => ⟨S_, .f32⟩
  | 70 => ⟨S64x2048, .f32⟩
  | 71 => ⟨S_, .f32⟩
  | 72 => ⟨S64x2048, .f32⟩
  | 73 => ⟨S64x2048, .f32⟩
  | 74 => ⟨S64x2048x1, .f32⟩
  | 75 => ⟨S64x2048x61, .f32⟩
  | 76 => ⟨S64x2048x61, .f32⟩
  | 77 => ⟨S64x2048x61, .f32⟩
  | 78 => ⟨S_, .f32⟩
  | 79 => ⟨S64x2048, .f32⟩
  | 80 => ⟨S64x2048x1, .f32⟩
  | 81 => ⟨S64x2048x61, .f32⟩
  | 82 => ⟨S64x2048x61, .f32⟩
  | 83 => ⟨S2048, .i32⟩
  | 84 => ⟨S1x2048, .i32⟩
  | 85 => ⟨S64x1, .i32⟩
  | 86 => ⟨S64x2048, .i32⟩
  | 87 => ⟨S64x2048, .i32⟩
  | 88 => ⟨S64x2048, .i1⟩
  | 89 => ⟨S64x2048x1, .i1⟩
  | 90 => ⟨S_, .i32⟩
  | 91 => ⟨S64x2048, .i32⟩
  | 92 => ⟨S64x2048, .i1⟩
  | 93 => ⟨S_, .i32⟩
  | 94 => ⟨S64x2048, .i32⟩
  | 95 => ⟨S64x2048, .i32⟩
  | 96 => ⟨S64x2048, .i32⟩
  | 97 => ⟨S64x2048x1, .i32⟩
  | 98 => ⟨S64x2048x61, .f32⟩
  | 99 => ⟨S_, .f32⟩
  | 100 => ⟨S_, .f32⟩
  | 101 => ⟨S64x2048x61, .i1⟩
  | 102 => ⟨S64x2048x61, .f32⟩
  | 103 => ⟨S64x2048x61, .f32⟩
  | 104 => ⟨S64x2048x61, .f32⟩
  | _ => ⟨S4096x64x256, .f32⟩

abbrev hbmTy (i : Nat) : BufTy := match i / 128 with
  | 0 => hbmTy0_0 i
  | 1 => hbmTy0_1 i
  | _ => ⟨S4096x64x256, .f32⟩

abbrev bufTy : (tb : Table) → Fin (tcTables nBuf tb) → BufTy
  | .hbm, ⟨i, _⟩ => hbmTy i
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_3 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_5 : Ref sig .tc := ⟨.hbm, 84, rfl⟩
abbrev main_v39 : Ref sig .tc := ⟨.hbm, 85, rfl⟩
abbrev main_cst_6 : Ref sig .tc := ⟨.hbm, 86, rfl⟩
abbrev main_v40 : Ref sig .tc := ⟨.hbm, 87, rfl⟩
abbrev main_v41 : Ref sig .tc := ⟨.hbm, 88, rfl⟩
abbrev main_c_7 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_cst_1 : Ref sig .tc := ⟨.hbm, 100, rfl⟩
abbrev main_call2_v8 : Ref sig .tc := ⟨.hbm, 101, rfl⟩
abbrev main_call2_cst_2 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_cst_3 : Ref sig .tc := ⟨.hbm, 106, rfl⟩
abbrev main_call2_v12 : Ref sig .tc := ⟨.hbm, 107, rfl⟩
abbrev main_call2_cst_4 : Ref sig .tc := ⟨.hbm, 108, rfl⟩
abbrev main_call2_call0_v0 : Ref sig .tc := ⟨.hbm, 109, rfl⟩
abbrev main_call2_call0_v1 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_8 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_cst_9 : Ref sig .tc := ⟨.hbm, 128, rfl⟩
abbrev main_v58 : Ref sig .tc := ⟨.hbm, 129, rfl⟩
abbrev main_v59 : Ref sig .tc := ⟨.hbm, 130, rfl⟩
abbrev main_cst_10 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_cst_11 : Ref sig .tc := ⟨.hbm, 140, rfl⟩
abbrev main_v68 : Ref sig .tc := ⟨.hbm, 141, rfl⟩
abbrev main_cst_12 : Ref sig .tc := ⟨.hbm, 142, rfl⟩
abbrev main_v69 : Ref sig .tc := ⟨.hbm, 143, rfl⟩
abbrev main_v70 : Ref sig .tc := ⟨.hbm, 144, rfl⟩
abbrev main_c_13 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_cst_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_cst_1 : Ref sig .tc := ⟨.hbm, 156, rfl⟩
abbrev main_call4_v8 : Ref sig .tc := ⟨.hbm, 157, rfl⟩
abbrev main_call4_cst_2 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_cst_3 : Ref sig .tc := ⟨.hbm, 162, rfl⟩
abbrev main_call4_v12 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_cst_14 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_cst_15 : Ref sig .tc := ⟨.hbm, 184, rfl⟩
abbrev main_v87 : Ref sig .tc := ⟨.hbm, 185, rfl⟩
abbrev main_v88 : Ref sig .tc := ⟨.hbm, 186, rfl⟩
abbrev main_cst_16 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_cst_17 : Ref sig .tc := ⟨.hbm, 197, rfl⟩
abbrev main_v98 : Ref sig .tc := ⟨.hbm, 198, rfl⟩
abbrev main_cst_18 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_cst_19 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_c_20 : Ref sig .tc := ⟨.hbm, 218, rfl⟩
abbrev main_v116 : Ref sig .tc := ⟨.hbm, 219, rfl⟩
abbrev main_v117 : Ref sig .tc := ⟨.hbm, 220, rfl⟩
abbrev main_c_21 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_cst_22 : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_v123 : Ref sig .tc := ⟨.hbm, 231, rfl⟩
abbrev main_v124 : Ref sig .tc := ⟨.hbm, 232, rfl⟩

abbrev nD : Nat := 1
abbrev τ : Topo := Topo.v7x

variable {F : FTy → Type} [FloatOps F]
-- ==== Proof.L1.Run.lean ====
module

public import proofs.«01_k».proof.Proof.Gen.KernelIdeal.Frame
public import proofs.«01_k».proof.Proof.Gen.KernelIdeal.Loops

@[expose] public section

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The condition of the body's only branch: the chunk is the first of its direction. -/
abbrev isFirst (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S64x64x256 .f32) (harg2 : arg2.IsWhole) (arg3 : Memref sig .tc .vmem S64x64x256 .f32) (harg3 : arg3.IsWhole) (arg4 : Memref sig .tc .vmem S64x1 .i32) (harg4 : arg4.IsWhole) (arg5 : Memref sig .tc .vmem S1x512x768 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S64x64x256 .f32) (harg9 : arg9.IsWhole) (arg10 : Memref sig .tc .vmem S64x256 .f32) (harg10 : arg10.IsWhole) (arg11 : Memref sig .tc .vmem S64x64x768 .f32) (harg11 : arg11.IsWhole)
  (x0 : Vec F S64x64x256 .f32) (x1 : Vec F S64x64x256 .f32) (x2 : Vec F S64x1 .i32) (x3 : Vec F S1x512x768 .f32) (x4 : Vec F S1x1x768 .f32) (x5 : Vec F S1x256x768 .f32) (x6 : Vec F S1x1x768 .f32)

/-- The body's triple at one grid point: from the seven input buffers at their blocks, the output's and the row scratch's
    buffers at anything and the state scratch as `P10` says, it runs to the inputs unchanged, the output's buffer with the
    pieces `LO` written and the state scratch with the pieces `LS` written. -/
abbrev Triple (P10 : sProp 𝕄) (LO : List (View.Piece (Elt F) S64x64x256 .f32)) (LS : List (View.Piece (Elt F) S64x256 .f32)) : Prop :=
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ P10 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS) ∗ (∃ d, owns (c : Thread nD τ) arg11 fullShare d)) -∗ K ⟨⟩))
          ⊢ wp frame (wpE (defs₀ (F := F)) Variants.none c none) E (cc0_bigru_l1 i arg2 harg2 arg3 harg3 arg4 harg4 arg5 harg5 arg6 harg6 arg7 harg7 arg8 harg8 arg9 harg9 arg10 harg10 arg11 harg11) K

set_option maxHeartbeats 1000000 in
/-- At the first chunk of a direction the state scratch may hold anything: the body zeroes it. The pieces are what the run finds. -/
noncomputable def runA (hc0 : isFirst i) :
    Σ' (LO : List (View.Piece (Elt F) S64x64x256 .f32)), { LS : List (View.Piece (Elt F) S64x256 .f32) //
      Triple c i arg2 harg2 arg3 harg3 arg4 harg4 arg5 harg5 arg6 harg6 arg7 harg7 arg8 harg8 arg9 harg9 arg10 harg10 arg11 harg11 x0 x1 x2 x3 x4 x5 x6
        iprop(∃ d, owns (c : Thread nD τ) arg10 fullShare d) LO LS } := by
  refine ⟨?_, ?_, fun E K => ?run⟩
  case run =>
    simp only [cc0_bigru_l1_eq_skeleton]; unfold cc0_bigru_l1_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]; · iexists _; iexact HS0
    iexists _, _; isplitr; swap; · iexact HS1
    ipureintro; rfl

set_option maxHeartbeats 1000000 in
/-- At any other chunk the state scratch holds what the chunk before left, `xs`. The pieces are what the run finds. -/
noncomputable def runB (xs : Vec F S64x256 .f32) (hc0 : ¬isFirst i) :
    Σ' (LO : List (View.Piece (Elt F) S64x64x256 .f32)), { LS : List (View.Piece (Elt F) S64x256 .f32) //
      Triple c i arg2 harg2 arg3 harg3 arg4 harg4 arg5 harg5 arg6 harg6 arg7 harg7 arg8 harg8 arg9 harg9 arg10 harg10 arg11 harg11 x0 x1 x2 x3 x4 x5 x6
        (owns (c : Thread nD τ) arg10 fullShare xs) LO LS } := by
  refine ⟨?_, ?_, fun E K => ?run⟩
  case run =>
    simp only [cc0_bigru_l1_eq_skeleton]; unfold cc0_bigru_l1_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]; · iexists _; iexact HS0
    iexists _, _; isplitr; swap; · iexact HS1
    ipureintro; rfl

end Cert.KernelIdeal.L1

end
-- ==== Proof.L1.Trips.lean ====
module

public import proofs.«01_k».proof.Proof.L1.Run
public import Idealize.ShloMosaic.Lib.Writes
public import Idealize.ShloMosaic.Lib.WritesUnit

@[expose] public section

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S64x64x256 .f32) (harg2 : arg2.IsWhole) (arg3 : Memref sig .tc .vmem S64x64x256 .f32) (harg3 : arg3.IsWhole) (arg4 : Memref sig .tc .vmem S64x1 .i32) (harg4 : arg4.IsWhole) (arg5 : Memref sig .tc .vmem S1x512x768 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S64x64x256 .f32) (harg9 : arg9.IsWhole) (arg10 : Memref sig .tc .vmem S64x256 .f32) (harg10 : arg10.IsWhole) (arg11 : Memref sig .tc .vmem S64x64x768 .f32) (harg11 : arg11.IsWhole)

/-! ## The counted loop: its state as a recursion over the payloads, its stores as one list -/

theorem trips_eq : k0_t1_loop.trips = 64 := by decide

/-- Trip `k`'s row of the chunk: forwards for direction 0, backwards for direction 1. -/
def rowOf (i : grid0.Coords) (k : ℕ) : ℕ := if (i 0).val = 0 then k else 63 - k

theorem word_eq (i : grid0.Coords) {k : ℕ} (hk : k < 64) :
    Scalar.addi (Scf.iv 0#32 1#32 k) (Scalar.muli (BitVec.ofNat 32 (i 0).val) (Scalar.subi 63#32 (Scalar.muli 2#32 (Scf.iv 0#32 1#32 k))))
      = BitVec.ofNat 32 (rowOf i k) := by
  have hi : (i 0).val < 2 := (i 0).isLt
  have hv : Scf.iv 0#32 1#32 k = BitVec.ofNat 32 k := by simp [Scf.iv]
  rw [hv]
  unfold rowOf
  simp only [Scalar.addi, Scalar.muli, Scalar.subi, IntOp.addi, IntOp.muli, IntOp.subi]
  rcases (by omega : (i 0).val = 0 ∨ (i 0).val = 1) with h | h
  · rw [h, if_pos rfl]; simp
  · rw [h, if_neg (by decide)]
    apply BitVec.eq_of_toNat_eq
    simp only [BitVec.toNat_add, BitVec.toNat_mul, BitVec.toNat_sub, BitVec.toNat_ofNat]
    omega

theorem off2_eq (i : grid0.Coords) (k : Fin k0_t1_loop.trips) : k0_off2 i k = ![rowOf i k.val, 0, 0] := by
  have hk : k.val < 64 := trips_eq ▸ k.isLt
  have h := congrArg BitVec.toNat (word_eq i hk)
  have hr : rowOf i k.val < 2 ^ 32 := by unfold rowOf; split <;> omega
  rw [BitVec.toNat_ofNat, Nat.mod_eq_of_lt hr] at h
  rw [← h]; rfl

theorem off1_eq (i : grid0.Coords) (k : Fin k0_t1_loop.trips) : k0_off1 i k = ![rowOf i k.val, 0, 0] :=
  Eq.trans rfl (off2_eq i k)

/-- Trip `k`'s row of the row scratch, as the trip loads it. -/
def rowLoad (X : BufTy.Contents (Elt F) arg11.view.ty) (k : Fin k0_t1_loop.trips) : Vec F S1x64x768 .f32 :=
  arg11.view.readAt (Elt F) (Rect.unit (s := S64x64x768) (k0_off1 i k) S1x64x768.size (k0_off1_inb i k)).toLoadRect X

variable (arg0 : BitVec 32) (v4 : BitVec 32) (v66 : Vec F S64x1 .i32) (v68 : Vec F S1x256x768 .f32) (v70 : Vec F S1x1x768 .f32) (X : BufTy.Contents (Elt F) arg11.view.ty) (init : Vec F S64x256 .f32)

/-- The carried state before trip `k`. -/
def hs (g : Fin k0_t1_loop.trips → Vec F S1x64x768 .f32) : ℕ → Vec F S64x256 .f32
  | 0 => init
  | k + 1 => if h : k < k0_t1_loop.trips then k0_pay5 arg0 v4 v66 v68 v70 ⟨k, h⟩ (hs g k) (g ⟨k, h⟩) else hs g k

/-- What trip `k` stores into the output's block. -/
def pieceOf (g : Fin k0_t1_loop.trips → Vec F S1x64x768 .f32) (k : Fin k0_t1_loop.trips) : View.Piece (Elt F) S64x64x256 .f32 :=
  ⟨Rect.unit (s := S64x64x256) (k0_off2 i k) S1x64x256.size (k0_off2_inb i k), k0_pay4 arg0 v4 v66 v68 v70 k (hs arg0 v4 v66 v68 v70 init g k.val) (g k)⟩

theorem st_fst (k : ℕ) (hk : k ≤ k0_t1_loop.trips) :
    (st_k0_t1 Variants.none c none i arg2 harg2 arg3 harg3 arg4 harg4 arg5 harg5 arg6 harg6 arg7 harg7 arg8 harg8 arg9 harg9 arg10 harg10 arg11 harg11 arg0 v4 v66 v68 v70 X init k).1
      = hs arg0 v4 v66 v68 v70 init (rowLoad i arg11 X) k := by
  induction k with
  | zero => rfl
  | succ k ih =>
    have h : k < k0_t1_loop.trips := hk
    rw [st_k0_t1_succ (k := ⟨k, h⟩), hs, dif_pos h, ← ih h.le]
    dsimp only [tripR_k0_t1]
    unfold trip_k0_t1
    rfl

theorem st_snd (k : ℕ) (hk : k ≤ k0_t1_loop.trips) :
    (st_k0_t1 Variants.none c none i arg2 harg2 arg3 harg3 arg4 harg4 arg5 harg5 arg6 harg6 arg7 harg7 arg8 harg8 arg9 harg9 arg10 harg10 arg11 harg11 arg0 v4 v66 v68 v70 X init k).2
      = ((List.finRange k).map fun j => pieceOf i arg0 v4 v66 v68 v70 init (rowLoad i arg11 X) (j.castLE hk)).reverse := by
  induction k with
  | zero => rfl
  | succ k ih =>
    have h : k < k0_t1_loop.trips := hk
    rw [st_k0_t1_succ (k := ⟨k, h⟩), List.finRange_succ_last]
    simp only [List.map_append, List.map_map, List.reverse_append, List.map_cons, List.map_nil, List.reverse_cons, List.reverse_nil, List.nil_append]
    rw [ih h.le, st_fst (hk := h.le)]
    dsimp only [tripL_k0_t1]
    unfold trip_k0_t1
    rfl

end Cert.KernelIdeal.L1

end
-- ==== Proof.L1.Point.lean ====
module

public import proofs.«01_k».proof.Proof.L1.Trips
public import Idealize.ShloMosaic.Lib.VecWindow
public import Idealize.ShloMosaic.Lib.Pipeline.FrameBody

@[expose] public section

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What one grid point computes, as functions of its blocks -/

/-- The rows of the input projection's weights that meet the forward half of a token's features, -/
abbrev wTop (x3 : Vec F S1x512x768 .f32) : Vec F S1x256x768 .f32 := (View.ld (Val := Elt F) x3 (Rect.unit (s := S1x512x768) ![0, 0, 0] S1x256x768.size inb_S1x512x768_S1x256x768_0_0_0))
/-- and those that meet the backward half. -/
abbrev wBot (x3 : Vec F S1x512x768 .f32) : Vec F S1x256x768 .f32 := (View.ld (Val := Elt F) x3 (Rect.unit (s := S1x512x768) ![0, 256, 0] S1x256x768.size inb_S1x512x768_S1x256x768_0_256_0))

/-- The four stores that fill the row scratch: sixteen rows of the input projection each. -/
def giL (x0 : Vec F S64x64x256 .f32) (x1 : Vec F S64x64x256 .f32) (x3 : Vec F S1x512x768 .f32) (x4 : Vec F S1x1x768 .f32) :
    List (View.Piece (Elt F) S64x64x768 .f32) :=
  [⟨Rect.unit (s := S64x64x768) ![48, 0, 0] ![16, 64, 768] inb_S64x64x768_S16x64x768_48_0_0,
      k0_pay1 (k0_pay10 x4) (k0_pay14 (k0_pay8 (wTop x3)) (View.ld (Val := Elt F) x0 (Rect.unit (s := S64x64x256) ![48, 0, 0] S16x64x256.size inb_S64x64x256_S16x64x256_48_0_0))) (k0_pay15 (k0_pay9 (wBot x3)) (View.ld (Val := Elt F) x1 (Rect.unit (s := S64x64x256) ![48, 0, 0] S16x64x256.size inb_S64x64x256_S16x64x256_48_0_0)))⟩,
    ⟨Rect.unit (s := S64x64x768) ![32, 0, 0] S16x64x768.size inb_S64x64x768_S16x64x768_32_0_0,
      k0_pay13 (k0_pay8 (wTop x3)) (k0_pay9 (wBot x3)) (k0_pay10 x4) (View.ld (Val := Elt F) x0 (Rect.unit (s := S64x64x256) ![32, 0, 0] S16x64x256.size inb_S64x64x256_S16x64x256_32_0_0)) (View.ld (Val := Elt F) x1 (Rect.unit (s := S64x64x256) ![32, 0, 0] S16x64x256.size inb_S64x64x256_S16x64x256_32_0_0))⟩,
    ⟨Rect.unit (s := S64x64x768) ![16, 0, 0] S16x64x768.size inb_S64x64x768_S16x64x768_16_0_0,
      k0_pay12 (k0_pay8 (wTop x3)) (k0_pay9 (wBot x3)) (k0_pay10 x4) (View.ld (Val := Elt F) x0 (Rect.unit (s := S64x64x256) ![16, 0, 0] S16x64x256.size inb_S64x64x256_S16x64x256_16_0_0)) (View.ld (Val := Elt F) x1 (Rect.unit (s := S64x64x256) ![16, 0, 0] S16x64x256.size inb_S64x64x256_S16x64x256_16_0_0))⟩,
    ⟨Rect.unit (s := S64x64x768) ![0, 0, 0] S16x64x768.size inb_S64x64x768_S16x64x768_0_0_0,
      k0_pay11 (wTop x3) (wBot x3) x4 (View.ld (Val := Elt F) x0 (Rect.unit (s := S64x64x256) ![0, 0, 0] S16x64x256.size inb_S64x64x256_S16x64x256_0_0_0)) (View.ld (Val := Elt F) x1 (Rect.unit (s := S64x64x256) ![0, 0, 0] S16x64x256.size inb_S64x64x256_S16x64x256_0_0_0))⟩]

/-- The chunk's input projection, as the row scratch holds it. -/
def gi (x0 : Vec F S64x64x256 .f32) (x1 : Vec F S64x64x256 .f32) (x3 : Vec F S1x512x768 .f32) (x4 : Vec F S1x1x768 .f32) : Vec F S64x64x768 .f32 :=
  View.canon (giL x0 x1 x3 x4)

/-- Trip `k`'s row of it. -/
def giRow (i : grid0.Coords) (g : Vec F S64x64x768 .f32) (k : Fin k0_t1_loop.trips) : Vec F S1x64x768 .f32 :=
  fun y => g ((Rect.unit (s := S64x64x768) (k0_off1 i k) S1x64x768.size (k0_off1_inb i k)).toLoadRect.idx y)

/-- The first time step of the point's chunk, as the body computes it. -/
abbrev chunkWord (i : grid0.Coords) : BitVec 32 :=
  Scalar.muli (Scalar.addi (BitVec.ofNat 32 (i 1).val) (Scalar.muli (BitVec.ofNat 32 (i 0).val) (Scalar.subi 31#32 (Scalar.muli 2#32 (BitVec.ofNat 32 (i 1).val))))) 64#32

variable (i : grid0.Coords)
  (x0 : Vec F S64x64x256 .f32) (x1 : Vec F S64x64x256 .f32) (x2 : Vec F S64x1 .i32) (x3 : Vec F S1x512x768 .f32) (x4 : Vec F S1x1x768 .f32) (x5 : Vec F S1x256x768 .f32) (x6 : Vec F S1x1x768 .f32)
  (init : Vec F S64x256 .f32)

/-- The state before trip `k` of the point's chunk, entered at `init`. -/
def hAt (k : ℕ) : Vec F S64x256 .f32 :=
  hs (BitVec.ofNat 32 (i 0).val) (chunkWord i) x2 x5 x6 init (giRow i (gi x0 x1 x3 x4)) k

/-- The chunk's stores into the output's block, last first. -/
def outL : List (View.Piece (Elt F) S64x64x256 .f32) :=
  ((List.finRange k0_t1_loop.trips).map fun k => pieceOf i (BitVec.ofNat 32 (i 0).val) (chunkWord i) x2 x5 x6 init (giRow i (gi x0 x1 x3 x4)) k).reverse

/-- The output's block after the point. -/
def outV : Vec F S64x64x256 .f32 := View.canon (outL i x0 x1 x2 x3 x4 x5 x6 init)

/-- The state scratch after the point. -/
def hV : Vec F S64x256 .f32 := k0_pay6 (hAt i x0 x1 x2 x3 x4 x5 x6 init k0_t1_loop.trips)

theorem outL_cover (y : S64x64x256.Idx) : ∃ p ∈ outL i x0 x1 x2 x3 x4 x5 x6 init, y ∈ p.1.set := by
  have hk : rowOf i (y 0).val < 64 := by have : (y 0).val < 64 := (y 0).isLt; unfold rowOf; split <;> omega
  refine ⟨_, List.mem_reverse.2 (List.mem_map.2 ⟨⟨rowOf i (y 0).val, trips_eq ▸ hk⟩, List.mem_finRange _, rfl⟩), ?_⟩
  unfold pieceOf
  rw [Rect.mem_set_unit]
  have hr : rowOf i (rowOf i (y 0).val) = (y 0).val := by have : (y 0).val < 64 := (y 0).isLt; unfold rowOf; split <;> omega
  intro a
  rw [off2_eq]
  have h0 : (y 0).val < 64 := (y 0).isLt
  have h1 : (y 1).val < 64 := (y 1).isLt
  have h2 : (y 2).val < 256 := (y 2).isLt
  fin_cases a
  · exact ⟨hr.le, by show (y 0).val < rowOf i (rowOf i (y 0).val) + 1; omega⟩
  · exact ⟨Nat.zero_le _, by show (y 1).val < 0 + 64; omega⟩
  · exact ⟨Nat.zero_le _, by show (y 2).val < 0 + 256; omega⟩

variable (c : Dev nD) (arg2 : Memref sig .tc .vmem S64x64x256 .f32) (harg2 : arg2.IsWhole) (arg3 : Memref sig .tc .vmem S64x64x256 .f32) (harg3 : arg3.IsWhole) (arg4 : Memref sig .tc .vmem S64x1 .i32) (harg4 : arg4.IsWhole) (arg5 : Memref sig .tc .vmem S1x512x768 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S64x64x256 .f32) (harg9 : arg9.IsWhole) (arg10 : Memref sig .tc .vmem S64x256 .f32) (harg10 : arg10.IsWhole) (arg11 : Memref sig .tc .vmem S64x64x768 .f32) (harg11 : arg11.IsWhole)

theorem row_eq (L : List (View.Piece (Elt F) S64x64x768 .f32)) :
    rowLoad i arg11 (arg11.view.writes (Elt F) arg11.view.junk L) = giRow i (View.canon L) :=
  funext fun k => View.readAt_writes_junk_eq_canon arg11.view L _

theorem ld_eq {s : Shape} {e : EltTy} {m : Memref sig .tc .vmem s e} (h : m.IsWhole) (x : Vec F s e) (r : Rect s) :
    m.view.readAt (Elt F) r.toLoadRect (h.unread x) = View.ld (Val := Elt F) x r := by
  rw [View.readAt_eq_ld, h.read_unread]

theorem full_eq {s : Shape} {e : EltTy} {m : Memref sig .tc .vmem s e} (h : m.IsWhole) (x : Vec F s e) {off : Fin s.rank → ℕ}
    (inb : ∀ a, off a + s.size a ≤ s.size a) :
    m.view.readAt (Elt F) (Rect.unit off s.size inb).toLoadRect (h.unread x) = x := by
  rw [View.readAt_full, h.read_unread]

theorem runA_gi : runA.sl.HS1_4 c arg2 harg2 arg3 harg3 arg5 harg5 arg6 harg6 x0 x1 x3 x4 = giL x0 x1 x3 x4 := by
  unfold runA.sl.HS1_4 giL runA.sl.r_5 runA.sl.r_4 runA.sl.r_3 runA.sl.r_2 runA.sl.r_1 runA.sl.r
  rw [full_eq harg6 x4 inb_S1x1x768_S1x1x768_0_0_0]
  simp only [ld_eq]

theorem runA_init : runA.sl.v72 (F := F) c arg10 = (k0_pay7 : Vec F S64x256 .f32) := by
  unfold runA.sl.v72
  unfold runA.sl.HS0_1
  generalize (k0_pay7 : FVec F S64x256 .f32) = w
  exact View.readCov_cons_toLoadRect (Val := Elt F) arg10.view (Rect.unit (s := S64x256) ![0, 0] S64x256.size inb_S64x256_S64x256_0_0) w []

theorem runA_out (hc0 : isFirst i) : (runA c i arg2 harg2 arg3 harg3 arg4 harg4 arg5 harg5 arg6 harg6 arg7 harg7 arg8 harg8 arg9 harg9 arg10 harg10 arg11 harg11 x0 x1 x2 x3 x4 x5 x6 hc0).1 = outL i x0 x1 x2 x3 x4 x5 x6 k0_pay7 := by
  refine Eq.trans (st_snd c i arg2 harg2 arg3 harg3 arg4 harg4 arg5 harg5 arg6 harg6 arg7 harg7 arg8 harg8 arg9 harg9 arg10 harg10 arg11 harg11 _ _ _ _ _ _ _ k0_t1_loop.trips le_rfl) ?_
  rw [row_eq, runA_gi, runA_init, full_eq harg4 x2 inb_S64x1_S64x1_0_0, full_eq harg7 x5 inb_S1x256x768_S1x256x768_0_0_0,
    full_eq harg8 x6 inb_S1x1x768_S1x1x768_0_0_0]
  rfl

theorem runA_st (hc0 : isFirst i) (v : View sig .tc .vmem S64x256 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 x0 x1 x2 x3 x4 x5 x6 hc0).2.1) = hV i x0 x1 x2 x3 x4 x5 x6 k0_pay7 := by
  refine (View.read_writes_full v f inb_S64x256_S64x256_0_0 _ _).trans ?_
  refine congrArg k0_pay6 (Eq.trans (st_fst c i arg2 harg2 arg3 harg3 arg4 harg4 arg5 harg5 arg6 harg6 arg7 harg7 arg8 harg8 arg9 harg9 arg10 harg10 arg11 harg11 _ _ _ _ _ _ _ k0_t1_loop.trips le_rfl) ?_)
  rw [row_eq, runA_gi, runA_init, full_eq harg4 x2 inb_S64x1_S64x1_0_0, full_eq harg7 x5 inb_S1x256x768_S1x256x768_0_0_0,
    full_eq harg8 x6 inb_S1x1x768_S1x1x768_0_0_0]
  rfl

theorem runB_gi : runB.sl.HS1_4 c arg2 harg2 arg3 harg3 arg5 harg5 arg6 harg6 x0 x1 x3 x4 = giL x0 x1 x3 x4 := by
  unfold runB.sl.HS1_4 giL runB.sl.r_5 runB.sl.r_4 runB.sl.r_3 runB.sl.r_2 runB.sl.r_1 runB.sl.r
  rw [full_eq harg6 x4 inb_S1x1x768_S1x1x768_0_0_0]
  simp only [ld_eq]

theorem runB_out (xs : Vec F S64x256 .f32) (hc0 : ¬isFirst i) : (runB c i arg2 harg2 arg3 harg3 arg4 harg4 arg5 harg5 arg6 harg6 arg7 harg7 arg8 harg8 arg9 harg9 arg10 harg10 arg11 harg11 x0 x1 x2 x3 x4 x5 x6 xs hc0).1 = outL i x0 x1 x2 x3 x4 x5 x6 xs := by
  refine Eq.trans (st_snd c i arg2 harg2 arg3 harg3 arg4 harg4 arg5 harg5 arg6 harg6 arg7 harg7 arg8 harg8 arg9 harg9 arg10 harg10 arg11 harg11 _ _ _ _ _ _ _ k0_t1_loop.trips le_rfl) ?_
  rw [row_eq, runB_gi, full_eq harg10 xs inb_S64x256_S64x256_0_0, full_eq harg4 x2 inb_S64x1_S64x1_0_0, full_eq harg7 x5 inb_S1x256x768_S1x256x768_0_0_0,
    full_eq harg8 x6 inb_S1x1x768_S1x1x768_0_0_0]
  rfl

theorem runB_st (xs : Vec F S64x256 .f32) (hc0 : ¬isFirst i) (v : View sig .tc .vmem S64x256 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 x0 x1 x2 x3 x4 x5 x6 xs hc0).2.1) = hV i x0 x1 x2 x3 x4 x5 x6 xs := by
  refine (View.read_writes_full v f inb_S64x256_S64x256_0_0 _ _).trans ?_
  refine congrArg k0_pay6 (Eq.trans (st_fst c i arg2 harg2 arg3 harg3 arg4 harg4 arg5 harg5 arg6 harg6 arg7 harg7 arg8 harg8 arg9 harg9 arg10 harg10 arg11 harg11 _ _ _ _ _ _ _ k0_t1_loop.trips le_rfl) ?_)
  rw [row_eq, runB_gi, full_eq harg10 xs inb_S64x256_S64x256_0_0, full_eq harg4 x2 inb_S64x1_S64x1_0_0, full_eq harg7 x5 inb_S1x256x768_S1x256x768_0_0_0,
    full_eq harg8 x6 inb_S1x1x768_S1x1x768_0_0_0]
  rfl

end Cert.KernelIdeal.L1

end
-- ==== Proof.L1.Body.lean ====
module

public import proofs.«01_k».proof.Proof.L1.Point

@[expose] public section

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Triple

variable (c : Dev nD) (i : grid0.Coords) (arg2 : Memref sig .tc .vmem S64x64x256 .f32) (harg2 : arg2.IsWhole) (arg3 : Memref sig .tc .vmem S64x64x256 .f32) (harg3 : arg3.IsWhole) (arg4 : Memref sig .tc .vmem S64x1 .i32) (harg4 : arg4.IsWhole) (arg5 : Memref sig .tc .vmem S1x512x768 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S64x64x256 .f32) (harg9 : arg9.IsWhole) (arg10 : Memref sig .tc .vmem S64x256 .f32) (harg10 : arg10.IsWhole) (arg11 : Memref sig .tc .vmem S64x64x768 .f32) (harg11 : arg11.IsWhole)
  (x0 : Vec F S64x64x256 .f32) (x1 : Vec F S64x64x256 .f32) (x2 : Vec F S64x1 .i32) (x3 : Vec F S1x512x768 .f32) (x4 : Vec F S1x1x768 .f32) (x5 : Vec F S1x256x768 .f32) (x6 : Vec F S1x1x768 .f32)
  (h0 : Vec F S64x256 .f32)

/-- The state scratch as the point is entered: at anything when the point zeroes it, else at `h0`. -/
def entry : sProp 𝕄 := if isFirst i then iprop(∃ d, owns (c : Thread nD τ) arg10 fullShare d) else owns (c : Thread nD τ) arg10 fullShare h0

/-- The body at one grid point: from its seven blocks and the state `h0` (zero at the first chunk of a direction) it leaves
    the output's block at `outV` and the state scratch at `hV`. -/
theorem body_triple (hz : isFirst i → h0 = k0_pay7) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ entry c i arg10 h0 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outV i x0 x1 x2 x3 x4 x5 x6 h0) ∗ owns (c : Thread nD τ) arg10 fullShare (hV i x0 x1 x2 x3 x4 x5 x6 h0) ∗ (∃ d, owns (c : Thread nD τ) arg11 fullShare d)) -∗ K ⟨⟩))
      ⊢ wp frame (wpE (defs₀ (F := F)) Variants.none c none) E (cc0_bigru_l1 i arg2 harg2 arg3 harg3 arg4 harg4 arg5 harg5 arg6 harg6 arg7 harg7 arg8 harg8 arg9 harg9 arg10 harg10 arg11 harg11) K := by
  unfold entry
  by_cases hc : isFirst i
  · rw [if_pos hc, hz hc]
    iintro ⟨H0, H1, H2, H3, H4, H5, H6, H7, HS0, HS1, Hk⟩
    iapply ((runA c i arg2 harg2 arg3 harg3 arg4 harg4 arg5 harg5 arg6 harg6 arg7 harg7 arg8 harg8 arg9 harg9 arg10 harg10 arg11 harg11 x0 x1 x2 x3 x4 x5 x6 hc).2.2 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, ⟨%eo, H7⟩, ⟨%es, HS0⟩, HS1⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [runA_out]
      exact View.read_writes_eq_canon _ _ _ (outL_cover i x0 x1 x2 x3 x4 x5 x6 _)
    isplitl [HS0]
    · unfold owns; iexists _; isplitr
      swap; · iexact HS0
      ipureintro; exact runA_st (hc0 := hc) (v := arg10.view) (f := es) ..
    iexact HS1
  · rw [if_neg hc]
    iintro ⟨H0, H1, H2, H3, H4, H5, H6, H7, HS0, HS1, Hk⟩
    iapply ((runB c i arg2 harg2 arg3 harg3 arg4 harg4 arg5 harg5 arg6 harg6 arg7 harg7 arg8 harg8 arg9 harg9 arg10 harg10 arg11 harg11 x0 x1 x2 x3 x4 x5 x6 h0 hc).2.2 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, ⟨%eo, H7⟩, ⟨%es, HS0⟩, HS1⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [runB_out]
      exact View.read_writes_eq_canon _ _ _ (outL_cover i x0 x1 x2 x3 x4 x5 x6 _)
    isplitl [HS0]
    · unfold owns; iexists _; isplitr
      swap; · iexact HS0
      ipureintro; exact runB_st (hc0 := hc) (v := arg10.view) (f := es) ..
    iexact HS1

end Triple

/-! ## The pipeline's proof data -/

variable (m : (ℓ : Loc nD τ sig) → Buf (Elt F) ℓ) (ρ : Dev nD → PrngReg)

abbrev ms0 (t : Fin cfg0.N) := win0_0.stage (cfg0.slots t 0)
abbrev hms0 (t : Fin cfg0.N) : (ms0 t).IsWhole := hstage0_0 ((cfg0.slots t 0).cast nbuf0_0)
abbrev ms1 (t : Fin cfg0.N) := win0_1.stage (cfg0.slots t 1)
abbrev hms1 (t : Fin cfg0.N) : (ms1 t).IsWhole := hstage0_1 ((cfg0.slots t 1).cast nbuf0_1)
abbrev ms2 (t : Fin cfg0.N) := win0_2.stage (cfg0.slots t 2)
abbrev hms2 (t : Fin cfg0.N) : (ms2 t).IsWhole := hstage0_2 ((cfg0.slots t 2).cast nbuf0_2)
abbrev ms3 (t : Fin cfg0.N) := win0_3.stage (cfg0.slots t 3)
abbrev hms3 (t : Fin cfg0.N) : (ms3 t).IsWhole := hstage0_3 ((cfg0.slots t 3).cast nbuf0_3)
abbrev ms4 (t : Fin cfg0.N) := win0_4.stage (cfg0.slots t 4)
abbrev hms4 (t : Fin cfg0.N) : (ms4 t).IsWhole := hstage0_4 ((cfg0.slots t 4).cast nbuf0_4)
abbrev ms5 (t : Fin cfg0.N) := win0_5.stage (cfg0.slots t 5)
abbrev hms5 (t : Fin cfg0.N) : (ms5 t).IsWhole := hstage0_5 ((cfg0.slots t 5).cast nbuf0_5)
abbrev ms6 (t : Fin cfg0.N) := win0_6.stage (cfg0.slots t 6)
abbrev hms6 (t : Fin cfg0.N) : (ms6 t).IsWhole := hstage0_6 ((cfg0.slots t 6).cast nbuf0_6)
abbrev ms7 (t : Fin cfg0.N) := win0_7.stage (cfg0.slots t 7)
abbrev hms7 (t : Fin cfg0.N) : (ms7 t).IsWhole := hstage0_7 ((cfg0.slots t 7).cast nbuf0_7)
/-- The state scratch, -/
abbrev scH : Memref sig .tc .vmem S64x256 .f32 := Memref.whole cc0_scratch0
/-- and the row scratch. -/
abbrev scG : Memref sig .tc .vmem S64x64x768 .f32 := Memref.whole cc0_scratch1

theorem isFirst_iff (t : Fin cfg0.N) : isFirst (grid0.coords t) ↔ t.val % 32 = 0 := by
  have ht : t.val < 64 := Nat.lt_of_lt_of_eq t.isLt N_0
  have e1 : (grid0.coords t 1).val = t.val / 1 % 32 := Pipeline.Grid.coords_val t 1 (by decide) rfl
  simp only [isFirst, e1]
  word_cmp

/-- The state with which point `n` is entered: zero at the first chunk of a direction, else what the point before left. -/
def hIn (c : Dev nD) : (n : ℕ) → n < cfg0.N → Vec F S64x256 .f32
  | 0, _ => k0_pay7
  | n + 1, hn => if (n + 1) % 32 = 0 then k0_pay7 else
      hV (grid0.coords ⟨n, Nat.lt_of_succ_lt hn⟩) (iblk m c 0 ⟨n, Nat.lt_of_succ_lt hn⟩) (iblk m c 1 ⟨n, Nat.lt_of_succ_lt hn⟩) (iblk m c 2 ⟨n, Nat.lt_of_succ_lt hn⟩) (iblk m c 3 ⟨n, Nat.lt_of_succ_lt hn⟩) (iblk m c 4 ⟨n, Nat.lt_of_succ_lt hn⟩) (iblk m c 5 ⟨n, Nat.lt_of_succ_lt hn⟩) (iblk m c 6 ⟨n, Nat.lt_of_succ_lt hn⟩) (hIn c n (Nat.lt_of_succ_lt hn))

/-- The state point `t` leaves. -/
def hOut (c : Dev nD) (t : Fin cfg0.N) : Vec F S64x256 .f32 := hV (grid0.coords t) (iblk m c 0 t) (iblk m c 1 t) (iblk m c 2 t) (iblk m c 3 t) (iblk m c 4 t) (iblk m c 5 t) (iblk m c 6 t) (hIn m c t.val t.isLt)

theorem hIn_first (c : Dev nD) (n : ℕ) (hn : n < cfg0.N) (h : n % 32 = 0) : hIn m c n hn = k0_pay7 := by
  cases n with
  | zero => rfl
  | succ n => exact if_pos h

theorem hIn_next (c : Dev nD) (n : ℕ) (hn : n + 1 < cfg0.N) (h : ¬(n + 1) % 32 = 0) :
    hIn m c (n + 1) hn = hOut m c ⟨n, Nat.lt_of_succ_lt hn⟩ := if_neg h

/-- The output's block after point `t`. -/
def outAt (c : Dev nD) (t : Fin cfg0.N) : Vec F S64x64x256 .f32 := outV (grid0.coords t) (iblk m c 0 t) (iblk m c 1 t) (iblk m c 2 t) (iblk m c 3 t) (iblk m c 4 t) (iblk m c 5 t) (iblk m c 6 t) (hIn m c t.val t.isLt)

/-- The region's invariant: both scratch buffers at anything before the first point; afterwards the state scratch at what the
    point before left. -/
def inv (c : Dev nD) : (n : ℕ) → n ≤ cfg0.N → sProp 𝕄
  | 0, _ => Pipeline.ΦA spec0 c
  | n + 1, hn => iprop(iprop(owns (c : Thread nD τ) scH fullShare (hOut m c ⟨n, hn⟩) ∗ (∃ d, owns (c : Thread nD τ) scG fullShare d)) ∗ (∃ r, prngReg c r))

theorem inv_succ (c : Dev nD) (t : Fin cfg0.N) :
    inv m c (t.val + 1) t.isLt = iprop(iprop(owns (c : Thread nD τ) scH fullShare (hOut m c t) ∗ (∃ d, owns (c : Thread nD τ) scG fullShare d)) ∗ (∃ r, prngReg c r)) := rfl

theorem launch_inv (c : Dev nD) :
    (Pipeline.ΦA spec0 c : sProp 𝕄)
      = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

/-- The invariant before point `t` is the body's entry condition, the row scratch and the register. -/
theorem inv_entry (c : Dev nD) (t : Fin cfg0.N) :
    inv m c t.val t.isLt.le ⊢ iprop(iprop(entry c (grid0.coords t) scH (hIn m c t.val t.isLt) ∗ (∃ d, owns (c : Thread nD τ) scG fullShare d)) ∗ (∃ r, prngReg c r)) := by
  obtain ⟨n, hn⟩ := t
  unfold entry
  cases n with
  | zero =>
    rw [if_pos ((isFirst_iff ⟨0, hn⟩).2 rfl), ← launch_inv]
    exact .rfl
  | succ n =>
    by_cases hf : (n + 1) % 32 = 0
    · rw [if_pos ((isFirst_iff ⟨n + 1, hn⟩).2 hf)]
      show iprop(iprop(owns (c : Thread nD τ) scH fullShare (hOut m c ⟨n, _⟩) ∗ _) ∗ _) ⊢ _
      iintro ⟨⟨HS0, HS1⟩, Hg⟩
      isplitl [HS0 HS1]
      · isplitl [HS0]
        · iexists _; iexact HS0
        iexact HS1
      iexact Hg
    · rw [if_neg fun h => hf ((isFirst_iff ⟨n + 1, hn⟩).1 h), hIn_next m c n hn hf]
      exact .rfl

/-- The proof data: the arrays as the region finds them; after the body at point `t` each input's buffer at its block and the
    output's at `outAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.succ = inv m c (t.val + 1) t.isLt from rfl, inv_castSucc, inv_succ]
  refine Idealize.SL.BI.BIBase.Entails.trans (sep_mono_left (inv_entry m c t)) ?_
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c (grid0.coords t) (ms0 t) (hms0 t) (ms1 t) (hms1 t) (ms2 t) (hms2 t) (ms3 t) (hms3 t) (ms4 t) (hms4 t) (ms5 t) (hms5 t) (ms6 t) (hms6 t) (ms7 t) (hms7 t) scH (Memref.isWhole_whole _) scG (Memref.isWhole_whole _) (iblk m c 0 t) (iblk m c 1 t) (iblk m c 2 t) (iblk m c 3 t) (iblk m c 4 t) (iblk m c 5 t) (iblk m c 6 t) (hIn m c t.val t.isLt)
    (fun h => hIn_first m c t.val t.isLt ((isFirst_iff t).1 h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = inv m c (63 + 1) (by rw [show cfg0.N = 64 from N_0]) from rfl, launch_inv]
  show iprop(iprop(owns (c : Thread nD τ) scH fullShare (hOut m c ⟨63, _⟩) ∗ _) ∗ _) ⊢ _
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- From any memory with zero counters every weakly fair execution ends, with every array of the launch at what the proof data
    says, every other buffer as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

end Cert.KernelIdeal.L1

end
-- ==== Proof.L1.Frames.lean ====
module

public import proofs.«01_k».proof.Proof.L1.Body
public import proofs.«01_k».proof.Proof.Gen.Kernel.Frame
public import Idealize.ShloMosaic.Lib.Claim

@[expose] public section

set_option maxRecDepth 16384

/-! # The frames of the two prints of the kernel

The two prints have one text, so the run proved of one is the run of the other: the body, the configurations and `main` are equal
as they stand, and the body tables by cases on their one label. -/

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.L1

namespace Cert.Kernel.L1

open Idealize.ShloMosaic Idealize.ShloMosaic.TcCoe Idealize.SL.Sem

variable {F : FTy → Type} [FloatOps F]

instance : Cert.Kernel.Facts := Cert.Kernel.Gen.facts
instance : Cert.KernelIdeal.Facts := Cert.KernelIdeal.Gen.facts

theorem body_same : @Cert.Kernel.cc0_bigru_l1 F _ _ = @Cert.KernelIdeal.cc0_bigru_l1 F _ _ := rfl

theorem main_same : Cert.Kernel.main (F := F) = Cert.KernelIdeal.main (F := F) := rfl

theorem table_same : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_same : @Cert.Kernel.defs F _ _ = @Cert.KernelIdeal.defs F _ _ :=
  congrArg (Pipeline.defs (@Cert.KernelIdeal.pcfgs F _)) table_same

variable (m : (ℓ : Loc nD τ sig) → Buf (Elt F) ℓ) (ρ : Dev nD → PrngReg)

theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have h := Cert.KernelIdeal.L1.frame (F := F) m ρ
  rw [← defs_same, ← main_same] at h
  exact h

end Cert.Kernel.L1

end
-- ==== Proof.Gru.lean ====
module

public import Idealize.ShloMosaic.Lib.Pointwise

@[expose] public section

/-!
The recurrence both programs compute, over the extended reals, and the one fact about it that is not a reading of
either program: walking a sequence backwards from the end of the array, with the state frozen on the padding, passes
through the same states as walking the sequence reversed within its length.
-/

open Idealize.ShloMosaic

noncomputable section

namespace Cert.Gru

/-- A hidden row. -/
abbrev Row := Fin 256 → EReal

/-- A row of the three gates, one after the other: reset, update, new. -/
abbrev Gates := Fin 768 → EReal

/-- One entry of the new state, of the two gate rows and the old entry. -/
def cell (gi gh : Gates) (h : EReal) (j : Fin 256) : EReal :=
  (1 - Ideal.logistic (gi ⟨256 + j.val, by omega⟩ + gh ⟨256 + j.val, by omega⟩))
      * Ideal.tanh (gi ⟨512 + j.val, by omega⟩
          + Ideal.logistic (gi ⟨j.val, by omega⟩ + gh ⟨j.val, by omega⟩) * gh ⟨512 + j.val, by omega⟩)
    + Ideal.logistic (gi ⟨256 + j.val, by omega⟩ + gh ⟨256 + j.val, by omega⟩) * h

/-- The state's share of the gates. -/
def gates (w : Fin 768 → Row) (c : Gates) (h : Row) : Gates := fun q => (∑ x, h x * w q x) + c q

/-- The state after one valid step. -/
def next (w : Fin 768 → Row) (c : Gates) (gi : Gates) (h : Row) : Row := fun j => cell gi (gates w c h) (h j) j

/-- The states of a walk that freezes where `p` does not hold. -/
def walk (p : ℕ → Prop) [DecidablePred p] (f : ℕ → Row → Row) : ℕ → Row
  | 0 => fun _ => 0
  | n + 1 => if p n then f n (walk p f n) else walk p f n

theorem walk_succ (p : ℕ → Prop) [DecidablePred p] (f : ℕ → Row → Row) (n : ℕ) :
    walk p f (n + 1) = if p n then f n (walk p f n) else walk p f n := rfl

/-- A walk depends on its steps only where they are taken. -/
theorem walk_congr {p : ℕ → Prop} [DecidablePred p] {f g : ℕ → Row → Row} (N : ℕ) (h : ∀ n < N, p n → f n = g n) :
    ∀ n ≤ N, walk p f n = walk p g n
  | 0, _ => rfl
  | n + 1, hn => by
    rw [walk_succ, walk_succ, walk_congr N h n (by omega)]
    by_cases hp : p n
    · rw [if_pos hp, if_pos hp, h n (by omega) hp]
    · rw [if_neg hp, if_neg hp]

/-- The states before the `n`-th step in the order in which the steps are taken: from the front (`d = 0`), or from the
    end of the array. -/
def time (d : Fin 2) (n : ℕ) : ℕ := if d.val = 0 then n else 2047 - n

theorem time_lt (d : Fin 2) {n : ℕ} (hn : n < 2048) : time d n < 2048 := by
  unfold time; split <;> omega

theorem time_time (d : Fin 2) {n : ℕ} (hn : n < 2048) : time d (time d n) = n := by
  unfold time; split <;> omega

/-- The walk over the array's rows. -/
abbrev walkA (d : Fin 2) (L : ℤ) (f : ℕ → Row → Row) : ℕ → Row :=
  walk (fun n => ((time d n : ℕ) : ℤ) < L) (fun n => f (time d n))

/-- The place at which the sequence's `n`-th row is read in direction `d`. -/
def place (d : Fin 2) (L : ℤ) (n : ℕ) : ℕ := if d.val = 0 then n else (L - 1 - n).toNat

/-- The walk over the sequence, reversed within its length for `d = 1`. -/
abbrev walkS (d : Fin 2) (L : ℤ) (f : ℕ → Row → Row) : ℕ → Row :=
  walk (fun n => (n : ℤ) < L) (fun n => f (place d L n))

theorem walkA_frozen {L : ℤ} (f : ℕ → Row → Row) :
    ∀ k : ℕ, (k : ℤ) ≤ 2048 - L → k ≤ 2048 → walkA 1 L f k = fun _ => 0
  | 0, _, _ => rfl
  | k + 1, hk, hk' => by
    rw [walkA, walk_succ, if_neg (by simp only [time, Fin.val_one, one_ne_zero, if_false]; omega)]
    exact walkA_frozen f k (by omega) (by omega)

/-- The padding left behind, the two walks pass through the same states. -/
theorem walkA_eq_walkS {L : ℕ} (hL : L ≤ 2048) (f : ℕ → Row → Row) :
    ∀ k ≤ L, walkA 1 (L : ℤ) f (2048 - L + k) = walkS 1 (L : ℤ) f k
  | 0, _ => walkA_frozen f _ (by omega) (by omega)
  | k + 1, hk => by
    have ih := walkA_eq_walkS hL f k (by omega)
    rw [walkA, ← Nat.add_assoc, walk_succ, walkS, walk_succ, if_pos (by simp only [time, Fin.val_one, one_ne_zero, if_false]; omega),
      if_pos (by omega)]
    have ht : time 1 (2048 - L + k) = place 1 (L : ℤ) k := by
      simp only [time, place, Fin.val_one, one_ne_zero, if_false]; omega
    rw [ht]
    exact congrArg _ ih

/-- The states met at a valid row `t`: the array's walk meets it at step `time d t`, the sequence's at `place d L t`. -/
theorem walk_meet (d : Fin 2) {L : ℤ} (hL : L ≤ 2048) (f : ℕ → Row → Row) {t : ℕ} (ht : (t : ℤ) < L) :
    walkA d L f (time d t) = walkS d L f (place d L t) := by
  obtain ⟨l, rfl⟩ : ∃ l : ℕ, L = l := ⟨L.toNat, by omega⟩
  match d with
  | 0 => rfl
  | 1 =>
    have h := walkA_eq_walkS (L := l) (by omega) f (l - 1 - t) (by omega)
    have e1 : 2048 - l + (l - 1 - t) = time 1 t := by
      simp only [time, Fin.val_one, one_ne_zero, if_false]; omega
    have e2 : l - 1 - t = place 1 (l : ℤ) t := by
      simp only [place, Fin.val_one, one_ne_zero, if_false]; omega
    rw [e1, e2] at h
    exact h

/-- The layer's output at row `t`. -/
def out (d : Fin 2) (L : ℤ) (f : ℕ → Row → Row) (t : ℕ) (j : Fin 256) : EReal :=
  if (t : ℤ) < L then f t (walkA d L f (time d t)) j else 0

/-! ## The layer over two input halves -/

/-- One of two by the direction. -/
def pick {α : Type} (d : Fin 2) (a b : α) : α := if d.val = 0 then a else b

/-- A token's input projection, the features of the two halves `u`, `v` against the weights' two halves. -/
def proj2 (u v : Row) (w : Fin 768 → Fin 512 → EReal) (c : Gates) : Gates := fun q =>
  ((∑ k : Fin 256, u k * w q ⟨k.val, by omega⟩) + ∑ k : Fin 256, v k * w q ⟨256 + k.val, by omega⟩) + c q

/-- The step of one direction of one row at a time: the projection of the time's token, then the cell. -/
def layerStep (u v : ℕ → Row) (w : Fin 768 → Fin 512 → EReal) (c : Gates) (w' : Fin 768 → Fin 256 → EReal) (c' : Gates) (t : ℕ) : Row → Row :=
  next w' c' (proj2 (u t) (v t) w c)

end Cert.Gru

end
-- ==== Proof.Words.lean ====
/-
Comparing a time step, as a 32-bit word, with a sequence length.
-/
module

public import Idealize.ShloMosaic.Lib.Pointwise
public import Idealize.ShloMosaic.Lib.DynamicIndex

@[expose] public section

namespace Cert.Gru

open Idealize.ShloMosaic

theorem select_slt {α : Type} {t : ℕ} (ht : t < 2048) (w : BitVec 32) (a b : α) :
    Scalar.select (IntOp.cmpi .slt (BitVec.ofNat 32 t) w) a b = if (t : ℤ) < w.toInt then a else b := by
  have hn : (BitVec.ofNat 32 t).toInt = t := toInt_ofNat_of_lt (by omega)
  show (if BitVec.ofBool ((BitVec.ofNat 32 t).slt w) = 1 then _ else _) = _
  unfold BitVec.slt
  rw [hn]
  by_cases h : (t : ℤ) < w.toInt
  · rw [if_pos h, decide_eq_true h]; rfl
  · rw [if_neg h, decide_eq_false h]; rfl

end Cert.Gru
-- ==== Proof.L1.Value.lean ====
module

public import proofs.«01_k».proof.Proof.Gru
public import proofs.«01_k».proof.Proof.Words
public import proofs.«01_k».proof.Proof.L1.Body
public import Idealize.ShloMosaic.Lib.Pipeline.Value
public import Idealize.ShloMosaic.Lib.Pointwise
public import Idealize.ShloMosaic.Lib.DynamicIndex

@[expose] public section

set_option maxRecDepth 16384

noncomputable section

namespace Cert.KernelIdeal.L1

open Cert.KernelIdeal Cert.KernelIdeal.Gen
open Idealize.ShloMosaic
open Cert (Gru.Row)
open Cert.Gru

/-! ## One grid point over the extended reals -/

section

variable (x0 x1 : Vec Ideal S64x64x256 .f32) (x2 : Vec Ideal S64x1 .i32) (x3 : Vec Ideal S1x512x768 .f32) (x4 : Vec Ideal S1x1x768 .f32)
  (x5 : Vec Ideal S1x256x768 .f32) (x6 : Vec Ideal S1x1x768 .f32)

/-- The input projection of one token: its forward and its backward features against their halves of the weights. -/
def proj (r b : Fin 64) : Gates := fun q =>
  ((∑ k : Fin 256, x0 (ix3 r b k) * x3 (ix3 0 ⟨k.val, by omega⟩ q)) + ∑ k : Fin 256, x1 (ix3 r b k) * x3 (ix3 0 ⟨256 + k.val, by omega⟩ q)) + x4 (ix3 0 0 q)

theorem emb_row {o : ℕ} (inb : ∀ a, (![o, 0, 0] : Fin 3 → ℕ) a + (![16, 64, 768] : Fin 3 → ℕ) a ≤ S64x64x768.size a) (ho : o + 16 ≤ 64)
    (z0 : Fin 16) (z1 : Fin 64) (z2 : Fin 768) :
    (Rect.unit (s := S64x64x768) ![o, 0, 0] ![16, 64, 768] inb).emb (ix3 z0 z1 z2) = ix3 ⟨o + z0.val, by omega⟩ z1 z2 := by
  funext a
  apply Fin.ext
  match a with
  | ⟨0, _⟩ => show o + 1 * z0.val = o + z0.val; omega
  | ⟨1, _⟩ => show 0 + 1 * z1.val = z1.val; omega
  | ⟨2, _⟩ => show 0 + 1 * z2.val = z2.val; omega

theorem mem_row {o : ℕ} (inb : ∀ a, (![o, 0, 0] : Fin 3 → ℕ) a + (![16, 64, 768] : Fin 3 → ℕ) a ≤ S64x64x768.size a)
    (r b : Fin 64) (q : Fin 768) (h1 : o ≤ r.val) (h2 : r.val < o + 16) :
    (ix3 r b q : S64x64x768.Idx) ∈ (Rect.unit (s := S64x64x768) ![o, 0, 0] ![16, 64, 768] inb).set := by
  rw [Rect.mem_set_unit]
  intro a
  match a with
  | ⟨0, _⟩ => exact ⟨h1, h2⟩
  | ⟨1, _⟩ => exact ⟨Nat.zero_le _, by show b.val < 0 + 64; omega⟩
  | ⟨2, _⟩ => exact ⟨Nat.zero_le _, by show q.val < 0 + 768; omega⟩

theorem gi_apply (r b : Fin 64) (q : Fin 768) : gi x0 x1 x3 x4 (ix3 r b q) = proj x0 x1 x3 x4 r b q := by
  unfold gi
  refine (View.canon_apply_of_pieces (Val := Elt Ideal) (fun y => proj x0 x1 x3 x4 (y 0) (y 1) (y 2)) (giL x0 x1 x3 x4) ?_ (ix3 r b q) ?_)
  · intro p hp
    unfold giL at hp
    simp only [List.mem_cons, List.not_mem_nil, or_false] at hp
    rcases hp with rfl | rfl | rfl | rfl
    · intro z
      idx_vars z
      refine Eq.trans ?_ (congrArg (fun y : S64x64x768.Idx => proj x0 x1 x3 x4 (y 0) (y 1) (y 2)) (emb_row inb_S64x64x768_S16x64x768_48_0_0 (by decide) z0 z1 z2)).symm
      pointwise [proj, wTop, wBot, k0_pay1, k0_pay8, k0_pay9, k0_pay10, k0_pay14, k0_pay15]
    · intro z
      idx_vars z
      refine Eq.trans ?_ (congrArg (fun y : S64x64x768.Idx => proj x0 x1 x3 x4 (y 0) (y 1) (y 2)) (emb_row inb_S64x64x768_S16x64x768_32_0_0 (by decide) z0 z1 z2)).symm
      pointwise [proj, wTop, wBot, k0_pay13, k0_pay8, k0_pay9, k0_pay10]
    · intro z
      idx_vars z
      refine Eq.trans ?_ (congrArg (fun y : S64x64x768.Idx => proj x0 x1 x3 x4 (y 0) (y 1) (y 2)) (emb_row inb_S64x64x768_S16x64x768_16_0_0 (by decide) z0 z1 z2)).symm
      pointwise [proj, wTop, wBot, k0_pay12, k0_pay8, k0_pay9, k0_pay10]
    · intro z
      idx_vars z
      refine Eq.trans ?_ (congrArg (fun y : S64x64x768.Idx => proj x0 x1 x3 x4 (y 0) (y 1) (y 2)) (emb_row inb_S64x64x768_S16x64x768_0_0_0 (by decide) z0 z1 z2)).symm
      pointwise [proj, wTop, wBot, k0_pay11, k0_pay8, k0_pay9, k0_pay10]
  · unfold giL
    rcases (by omega : 48 ≤ r.val ∨ (32 ≤ r.val ∧ r.val < 48) ∨ (16 ≤ r.val ∧ r.val < 32) ∨ r.val < 16) with h | h | h | h
    · exact ⟨_, List.mem_cons_self, mem_row inb_S64x64x768_S16x64x768_48_0_0 r b q h (by omega)⟩
    · exact ⟨_, List.mem_cons_of_mem _ List.mem_cons_self, mem_row inb_S64x64x768_S16x64x768_32_0_0 r b q h.1 (by omega)⟩
    · exact ⟨_, List.mem_cons_of_mem _ (List.mem_cons_of_mem _ List.mem_cons_self), mem_row inb_S64x64x768_S16x64x768_16_0_0 r b q h.1 (by omega)⟩
    · exact ⟨_, List.mem_cons_of_mem _ (List.mem_cons_of_mem _ (List.mem_cons_of_mem _ List.mem_cons_self)), mem_row inb_S64x64x768_S16x64x768_0_0_0 r b q (Nat.zero_le _) (by omega)⟩

/-- The state's weights and bias as the body reads them. -/
def wRec (q : Fin 768) : Row := fun x => x5 (ix3 0 x q)
def cRec : Gates := fun q => x6 (ix3 0 0 q)

theorem pay2_apply (h : Vec Ideal S64x256 .f32) (g : Vec Ideal S1x64x768 .f32) (b : Fin 64) (j : Fin 256) :
    k0_pay2 x5 x6 h g (ix2 b j) = next (wRec x5) (cRec x6) (fun q => g (ix3 0 b q)) (fun x => h (ix2 b x)) j := by
  pointwise [k0_pay2, next, cell, gates, wRec, cRec]

end

/-! ## The chunk's trips -/

/-- The point's direction, its chunk's number in the array, and the word of a trip's time step. -/
def dir (i : grid0.Coords) : Fin 2 := ⟨(i 0).val, (i 0).isLt⟩
def chunkOf (i : grid0.Coords) : ℕ := if (i 0).val = 0 then (i 1).val else 31 - (i 1).val

theorem time_eq (i : grid0.Coords) {k : ℕ} (hk : k < 64) : 64 * chunkOf i + rowOf i k = time (dir i) (64 * (i 1).val + k) := by
  have h1 : (i 1).val < 32 := (i 1).isLt
  unfold chunkOf rowOf time dir
  by_cases h : (i 0).val = 0
  · simp only [h, if_true]
  · simp only [h, if_false]; omega

theorem chunkWord_eq (i : grid0.Coords) : chunkWord i = BitVec.ofNat 32 (64 * chunkOf i) := by
  have hi : (i 0).val < 2 := (i 0).isLt
  have h1 : (i 1).val < 32 := (i 1).isLt
  unfold chunkOf
  simp only [Scalar.addi, Scalar.muli, Scalar.subi, IntOp.addi, IntOp.muli, IntOp.subi]
  rcases (by omega : (i 0).val = 0 ∨ (i 0).val = 1) with h | h
  · rw [h, if_pos rfl]
    apply BitVec.eq_of_toNat_eq
    simp only [BitVec.toNat_add, BitVec.toNat_mul, BitVec.toNat_sub, BitVec.toNat_ofNat]
    omega
  · rw [h, if_neg (by decide)]
    apply BitVec.eq_of_toNat_eq
    simp only [BitVec.toNat_add, BitVec.toNat_mul, BitVec.toNat_sub, BitVec.toNat_ofNat]
    omega

section

variable (i : grid0.Coords) (x0 x1 : Vec Ideal S64x64x256 .f32) (x2 : Vec Ideal S64x1 .i32) (x3 : Vec Ideal S1x512x768 .f32) (x4 : Vec Ideal S1x1x768 .f32)
  (x5 : Vec Ideal S1x256x768 .f32) (x6 : Vec Ideal S1x1x768 .f32) (init : Vec Ideal S64x256 .f32)

theorem pay3_apply (k : Fin k0_t1_loop.trips) (b : Fin 64) :
    k0_pay3 (BitVec.ofNat 32 (i 0).val) (chunkWord i) x2 k (ix2 b 0)
      = IntOp.cmpi .slt (BitVec.ofNat 32 (time (dir i) (64 * (i 1).val + k.val))) (x2 (ix2 b 0)) := by
  have hk : k.val < 64 := trips_eq ▸ k.isLt
  have e : Scalar.addi (chunkWord i) (Scalar.addi (Scf.iv 0#32 1#32 k) (Scalar.muli (BitVec.ofNat 32 (i 0).val) (Scalar.subi 63#32 (Scalar.muli 2#32 (Scf.iv 0#32 1#32 k)))))
      = BitVec.ofNat 32 (time (dir i) (64 * (i 1).val + k.val)) := by
    rw [word_eq i hk, chunkWord_eq, ← time_eq i hk]
    exact (BitVec.ofNat_add _ _).symm
  rw [← e]
  pointwise [k0_pay3]

theorem giRow_apply (g : Vec Ideal S64x64x768 .f32) (k : Fin k0_t1_loop.trips) (hk : rowOf i k.val < 64) (b : Fin 64) (q : Fin 768) :
    giRow i g k (ix3 0 b q) = g (ix3 ⟨rowOf i k.val, hk⟩ b q) := by
  unfold giRow
  refine congrArg g ?_
  funext a
  apply Fin.ext
  have e := off1_eq i k
  match a with
  | ⟨0, _⟩ => show k0_off1 i k 0 + 1 * 0 = rowOf i k.val; rw [e]; rfl
  | ⟨1, _⟩ => show k0_off1 i k 1 + 1 * b.val = b.val; rw [e]; show 0 + 1 * b.val = b.val; omega
  | ⟨2, _⟩ => show k0_off1 i k 2 + 1 * q.val = q.val; rw [e]; show 0 + 1 * q.val = q.val; omega

theorem rowOf_lt {k : ℕ} (hk : k < 64) : rowOf i k < 64 := by unfold rowOf; split <;> omega

/-- The point's steps are the layer's. -/
def Steps (f : Fin 64 → ℕ → Row → Row) : Prop :=
  ∀ (b : Fin 64) (k : ℕ) (hk : k < 64),
    f b (time (dir i) (64 * (i 1).val + k)) = next (wRec x5) (cRec x6) (proj x0 x1 x3 x4 ⟨rowOf i k, rowOf_lt i hk⟩ b)

variable {f : Fin 64 → ℕ → Row → Row} (hf : Steps i x0 x1 x3 x4 x5 x6 f)
  (h0 : ∀ (b : Fin 64) (x : Fin 256), init (ix2 b x) = walkA (dir i) (x2 (ix2 b 0)).toInt (f b) (64 * (i 1).val) x)

theorem time_lt' {k : ℕ} (hk : k < 64) : time (dir i) (64 * (i 1).val + k) < 2048 := by
  have h1 : (i 1).val < 32 := (i 1).isLt
  exact time_lt _ (by omega)

include hf in
theorem pay2_step (b : Fin 64) (k : Fin k0_t1_loop.trips) (h : Vec Ideal S64x256 .f32) (j : Fin 256) :
    k0_pay2 x5 x6 h (giRow i (gi x0 x1 x3 x4) k) (ix2 b j) = f b (time (dir i) (64 * (i 1).val + k.val)) (fun x => h (ix2 b x)) j := by
  have hk : k.val < 64 := trips_eq ▸ k.isLt
  rw [pay2_apply, hf b k.val hk]
  simp only [giRow_apply i _ k (rowOf_lt i hk), gi_apply]

include hf h0 in
theorem hAt_row : ∀ k ≤ 64, ∀ (b : Fin 64) (x : Fin 256),
    hAt i x0 x1 x2 x3 x4 x5 x6 init k (ix2 b x) = walkA (dir i) (x2 (ix2 b 0)).toInt (f b) (64 * (i 1).val + k) x
  | 0, _, b, x => h0 b x
  | k + 1, hk, b, x => by
    have hk' : k < k0_t1_loop.trips := trips_eq ▸ (by omega : k < 64)
    have ih := hAt_row k (by omega)
    unfold hAt at ih ⊢
    rw [hs, dif_pos hk']
    generalize hs (BitVec.ofNat 32 (i 0).val) (chunkWord i) x2 x5 x6 init (giRow i (gi x0 x1 x3 x4)) k = h at ih ⊢
    have e : k0_pay5 (BitVec.ofNat 32 (i 0).val) (chunkWord i) x2 x5 x6 ⟨k, hk'⟩ h (giRow i (gi x0 x1 x3 x4) ⟨k, hk'⟩) (ix2 b x)
        = Scalar.select (k0_pay3 (BitVec.ofNat 32 (i 0).val) (chunkWord i) x2 ⟨k, hk'⟩ (ix2 b 0))
            (k0_pay2 x5 x6 h (giRow i (gi x0 x1 x3 x4) ⟨k, hk'⟩) (ix2 b x)) (h (ix2 b x)) := by
      pointwise [k0_pay5]
    rw [e, pay3_apply, select_slt (time_lt' i (show k < 64 by omega)), pay2_step i x0 x1 x3 x4 x5 x6 hf]
    rw [walkA, ← Nat.add_assoc, walk_succ]
    have eh : (fun x => h (ix2 b x)) = walkA (dir i) (x2 (ix2 b 0)).toInt (f b) (64 * (i 1).val + k) := funext fun x => ih b x
    rw [eh, ih b x]
    split <;> rfl

include hf h0 in
theorem outV_apply (r b : Fin 64) (j : Fin 256) :
    outV i x0 x1 x2 x3 x4 x5 x6 init (ix3 r b j) = Gru.out (dir i) (x2 (ix2 b 0)).toInt (f b) (64 * chunkOf i + r.val) j := by
  unfold outV
  refine (View.canon_apply_of_pieces (Val := Elt Ideal)
    (fun y => Gru.out (dir i) (x2 (ix2 (y 1) 0)).toInt (f (y 1)) (64 * chunkOf i + (y 0).val) (y 2)) _ ?_ (ix3 r b j) (outL_cover i x0 x1 x2 x3 x4 x5 x6 init _))
  intro p hp
  obtain ⟨k, -, rfl⟩ := List.mem_map.1 (List.mem_reverse.1 hp)
  have hk : k.val < 64 := trips_eq ▸ k.isLt
  have h1 : (i 1).val < 32 := (i 1).isLt
  intro z
  unfold pieceOf at z ⊢
  idx_vars z
  have hemb : (Rect.unit (s := S64x64x256) (k0_off2 i k) S1x64x256.size (k0_off2_inb i k)).emb (ix3 z0 z1 z2) = ix3 ⟨rowOf i k.val, rowOf_lt i hk⟩ z1 z2 := by
    funext a
    apply Fin.ext
    have e := off2_eq i k
    match a with
    | ⟨0, _⟩ => show k0_off2 i k 0 + 1 * z0.val = rowOf i k.val; rw [e]; show rowOf i k.val + 1 * z0.val = _; omega
    | ⟨1, _⟩ => show k0_off2 i k 1 + 1 * z1.val = z1.val; rw [e]; show 0 + 1 * z1.val = z1.val; omega
    | ⟨2, _⟩ => show k0_off2 i k 2 + 1 * z2.val = z2.val; rw [e]; show 0 + 1 * z2.val = z2.val; omega
  refine Eq.trans ?_ (congrArg (fun y : S64x64x256.Idx => Gru.out (dir i) (x2 (ix2 (y 1) 0)).toInt (f (y 1)) (64 * chunkOf i + (y 0).val) (y 2)) hemb).symm
  have ih := hAt_row i x0 x1 x2 x3 x4 x5 x6 init hf h0 k.val (by omega)
  unfold hAt at ih
  show k0_pay4 (BitVec.ofNat 32 (i 0).val) (chunkWord i) x2 x5 x6 k (hs (BitVec.ofNat 32 (i 0).val) (chunkWord i) x2 x5 x6 init (giRow i (gi x0 x1 x3 x4)) k.val)
    (giRow i (gi x0 x1 x3 x4) k) (ix3 z0 z1 z2) = Gru.out (dir i) (x2 (ix2 z1 0)).toInt (f z1) (64 * chunkOf i + rowOf i k.val) z2
  generalize hs (BitVec.ofNat 32 (i 0).val) (chunkWord i) x2 x5 x6 init (giRow i (gi x0 x1 x3 x4)) k.val = h at ih ⊢
  have e : k0_pay4 (BitVec.ofNat 32 (i 0).val) (chunkWord i) x2 x5 x6 k h (giRow i (gi x0 x1 x3 x4) k) (ix3 z0 z1 z2)
      = Scalar.select (k0_pay3 (BitVec.ofNat 32 (i 0).val) (chunkWord i) x2 k (ix2 z1 0))
          (k0_pay2 x5 x6 h (giRow i (gi x0 x1 x3 x4) k) (ix2 z1 z2)) 0 := by
    pointwise [k0_pay4]
  rw [e, pay3_apply, select_slt (time_lt' i hk), pay2_step i x0 x1 x3 x4 x5 x6 hf, time_eq i hk]
  unfold Gru.out
  have eh : (fun x => h (ix2 z1 x)) = walkA (dir i) (x2 (ix2 z1 0)).toInt (f z1) (64 * (i 1).val + k.val) := funext fun x => ih z1 x
  rw [eh, time_time _ (by omega)]

include hf h0 in
theorem hV_apply (b : Fin 64) (x : Fin 256) :
    hV i x0 x1 x2 x3 x4 x5 x6 init (ix2 b x) = walkA (dir i) (x2 (ix2 b 0)).toInt (f b) (64 * ((i 1).val + 1)) x := by
  have h := hAt_row i x0 x1 x2 x3 x4 x5 x6 init hf h0 64 le_rfl b x
  unfold hV
  rw [trips_eq]
  refine Eq.trans ?_ (h.trans (by rw [Nat.mul_add]))
  pointwise [k0_pay6]

theorem pay7_apply (b : Fin 64) (x : Fin 256) : (k0_pay7 (F := Ideal)) (ix2 b x) = 0 := by
  pointwise [k0_pay7]

end

end Cert.KernelIdeal.L1

end
-- ==== Proof.L1.Array.lean ====
/-
The second layer's result array over the extended reals: every entry is the masked state of its
direction's walk, in terms of the arguments' entries.
-/
module

public import proofs.«01_k».proof.Proof.L1.Value
public import Idealize.ShloMosaic.Lib.Pipeline.ValueKit
import Idealize.ShloMosaic.Lib.Pipeline.Covers
import Idealize.ShloMosaic.Lib.Claim

@[expose] public noncomputable section

set_option maxRecDepth 16384

namespace Cert.KernelIdeal.L1

open Cert.KernelIdeal Cert.KernelIdeal.Gen
open Idealize.ShloMosaic Idealize.ShloMosaic.TcCoe Idealize.ShloMosaic.Tactic
open Idealize.SL.Sem
open Cert (Gru.Row)
open Cert.Gru

variable (m : (ℓ : Loc nD τ sig) → Buf (Elt Ideal) ℓ) (c : Dev nD)

/-! ## The points -/

theorem coords_eq : ∀ t : Fin cfg0.N, (grid0.coords t 0).val = t.val / 32 ∧ (grid0.coords t 1).val = t.val % 32 :=
  (by decide +kernel : ∀ t : Fin grid0.N, _)

theorem idx : ∀ t : Fin cfg0.N,
    win0_0.index t = ![chunkOf (grid0.coords t), 0, 0] ∧ win0_1.index t = ![32 + chunkOf (grid0.coords t), 0, 0] ∧ win0_2.index t = ![0, 0]
      ∧ win0_3.index t = ![t.val / 32, 0, 0] ∧ win0_4.index t = ![t.val / 32, 0, 0] ∧ win0_5.index t = ![t.val / 32, 0, 0]
      ∧ win0_6.index t = ![t.val / 32, 0, 0] ∧ win0_7.index t = ![32 * (t.val / 32) + chunkOf (grid0.coords t), 0, 0] :=
  (by decide +kernel : ∀ t : Fin grid0.N, _)

theorem chunkOf_lt (t : Fin cfg0.N) : chunkOf (grid0.coords t) < 32 := by
  have h1 : (grid0.coords t 1).val < 32 := (grid0.coords t 1).isLt
  unfold chunkOf; split <;> omega

theorem div_lt (t : Fin cfg0.N) : t.val / 32 < 2 := by
  have : t.val < 64 := t.isLt
  omega

/-! ## The arguments -/

/-- The layer's input, its two halves, by time and batch row; the sequence lengths; each direction's weights and biases. -/
def inU (t : ℕ) (b : Fin 64) : Row := fun k => m ((c : Thread nD τ).loc main_arg0) (ix3 ⟨t % 2048, by omega⟩ b k)
def inV (t : ℕ) (b : Fin 64) : Row := fun k => m ((c : Thread nD τ).loc main_arg0) (ix3 ⟨2048 + t % 2048, by omega⟩ b k)
def len (b : Fin 64) : ℤ := BitVec.toInt (m ((c : Thread nD τ).loc main_arg1) (ix1 b) : BitVec 32)
def wih (d : Fin 2) (q : Fin 768) (k : Fin 512) : EReal := pick d (m ((c : Thread nD τ).loc main_arg2) (ix2 q k)) (m ((c : Thread nD τ).loc main_arg6) (ix2 q k))
def whh (d : Fin 2) (q : Fin 768) (k : Fin 256) : EReal := pick d (m ((c : Thread nD τ).loc main_arg3) (ix2 q k)) (m ((c : Thread nD τ).loc main_arg7) (ix2 q k))
def bih (d : Fin 2) : Gates := fun q => pick d (m ((c : Thread nD τ).loc main_arg4) (ix1 q)) (m ((c : Thread nD τ).loc main_arg8) (ix1 q))
def bhh (d : Fin 2) : Gates := fun q => pick d (m ((c : Thread nD τ).loc main_arg5) (ix1 q)) (m ((c : Thread nD τ).loc main_arg9) (ix1 q))

/-- The layer's step of direction `d` at batch row `b`. -/
def stepOf (d : Fin 2) (b : Fin 64) : ℕ → Row → Row :=
  layerStep (fun t => inU m c t b) (fun t => inV m c t b) (wih m c d) (bih m c d) (whh m c d) (bhh m c d)

/-- The layer's result at direction `d`, time `t`, batch row `b`, unit `j`. -/
def layerAt (d : Fin 2) (t : ℕ) (b : Fin 64) (j : Fin 256) : EReal := Gru.out d (len m c b) (stepOf m c d b) t j

/-! ## The staged operands -/

theorem V_v0 (b : Fin 64) : V m c main_v0 (ix2 b 0) = m ((c : Thread nD τ).loc main_arg1) (ix1 b) := by
  entry_read
  pointwise []

theorem V_v5 (d : Fin 2) (k : Fin 512) (q : Fin 768) : V m c main_v5 (ix3 d k q) = wih m c d q k := by
  entry_read
  pointwise [wih, pick]
  fin_cases d <;> rfl

theorem V_v14 (d : Fin 2) (k : Fin 256) (q : Fin 768) : V m c main_v14 (ix3 d k q) = whh m c d q k := by
  entry_read
  pointwise [whh, pick]
  fin_cases d <;> rfl

theorem V_v9 (d : Fin 2) (q : Fin 768) : V m c main_v9 (ix3 d 0 q) = bih m c d q := by
  entry_read
  pointwise [bih, pick]
  fin_cases d <;> rfl

theorem V_v18 (d : Fin 2) (q : Fin 768) : V m c main_v18 (ix3 d 0 q) = bhh m c d q := by
  entry_read
  pointwise [bhh, pick]
  fin_cases d <;> rfl

/-! ## The blocks -/

variable (t : Fin cfg0.N)

theorem iblk0 (r b : Fin 64) (k : Fin 256) : iblk m c 0 t (ix3 r b k) = inU m c (64 * chunkOf (grid0.coords t) + r.val) b k := by
  have := chunkOf_lt t
  unfold inU
  blk_ext [iblk, V_main_arg0, idx t]

theorem iblk1 (r b : Fin 64) (k : Fin 256) : iblk m c 1 t (ix3 r b k) = inV m c (64 * chunkOf (grid0.coords t) + r.val) b k := by
  have := chunkOf_lt t
  unfold inV
  blk_ext [iblk, V_main_arg0, idx t]

theorem iblk2 (b : Fin 64) : iblk m c 2 t (ix2 b 0) = m ((c : Thread nD τ).loc main_arg1) (ix1 b) := by
  rw [← V_v0 m c b]
  blk_ext [iblk, idx t]

theorem iblk3 (k : Fin 512) (q : Fin 768) : iblk m c 3 t (ix3 0 k q) = wih m c ⟨t.val / 32, div_lt t⟩ q k := by
  rw [← V_v5]
  blk_ext [iblk, idx t]

theorem iblk4 (q : Fin 768) : iblk m c 4 t (ix3 0 0 q) = bih m c ⟨t.val / 32, div_lt t⟩ q := by
  rw [← V_v9]
  blk_ext [iblk, idx t]

theorem iblk5 (k : Fin 256) (q : Fin 768) : iblk m c 5 t (ix3 0 k q) = whh m c ⟨t.val / 32, div_lt t⟩ q k := by
  rw [← V_v14]
  blk_ext [iblk, idx t]

theorem iblk6 (q : Fin 768) : iblk m c 6 t (ix3 0 0 q) = bhh m c ⟨t.val / 32, div_lt t⟩ q := by
  rw [← V_v18]
  blk_ext [iblk, idx t]

/-! ## The state and the output of a point -/

theorem dir_eq : dir (grid0.coords t) = ⟨t.val / 32, div_lt t⟩ := Fin.ext (coords_eq t).1

theorem steps : Steps (grid0.coords t) (iblk m c 0 t) (iblk m c 1 t) (iblk m c 3 t) (iblk m c 4 t) (iblk m c 5 t) (iblk m c 6 t)
    (stepOf m c ⟨t.val / 32, div_lt t⟩) := by
  intro b k hk
  rw [← time_eq _ hk]
  funext h j
  unfold stepOf layerStep
  have e5 : wRec (iblk m c 5 t) = whh m c ⟨t.val / 32, div_lt t⟩ := funext fun q => funext fun x => iblk5 m c t x q
  have e6 : cRec (iblk m c 6 t) = bhh m c ⟨t.val / 32, div_lt t⟩ := funext fun q => iblk6 m c t q
  rw [e5, e6]
  refine congrArg (fun g => next _ _ g h j) ?_
  funext q
  unfold proj2 proj
  simp only [iblk0, iblk1, iblk3, iblk4]

theorem hIn_row : ∀ (n : ℕ) (hn : n < cfg0.N) (b : Fin 64) (x : Fin 256), hIn m c n hn (ix2 b x)
    = walkA ⟨n / 32, div_lt ⟨n, hn⟩⟩ (len m c b) (stepOf m c ⟨n / 32, div_lt ⟨n, hn⟩⟩ b) (64 * (n % 32)) x
  | 0, hn, b, x => by
    rw [hIn_first m c 0 hn rfl, pay7_apply]; rfl
  | n + 1, hn, b, x => by
    by_cases h : (n + 1) % 32 = 0
    · rw [hIn_first m c (n + 1) hn h, pay7_apply, h]; rfl
    · have hn' : n < cfg0.N := Nat.lt_of_succ_lt hn
      have ed : (n + 1) / 32 = n / 32 := by omega
      have em : (n + 1) % 32 = n % 32 + 1 := by omega
      have ih := hIn_row n hn'
      have hc := coords_eq ⟨n, hn'⟩
      have hd := dir_eq ⟨n, hn'⟩
      have key := hV_apply (grid0.coords ⟨n, hn'⟩) _ _ (iblk m c 2 ⟨n, hn'⟩) _ _ _ _ (hIn m c n hn') (steps m c ⟨n, hn'⟩)
        (fun b x => by rw [ih b x, hd, hc.2, iblk2]; rfl) b x
      rw [hIn_next m c n hn h]
      unfold hOut
      refine key.trans ?_
      rw [hd, hc.2, iblk2]
      simp only [ed, em]
      rfl

theorem outAt_apply (r b : Fin 64) (j : Fin 256) : outAt m c t (ix3 r b j)
    = layerAt m c ⟨t.val / 32, div_lt t⟩ (64 * chunkOf (grid0.coords t) + r.val) b j := by
  have hc := coords_eq t
  have hd := dir_eq t
  have key := outV_apply (grid0.coords t) _ _ (iblk m c 2 t) _ _ _ _ (hIn m c t.val t.isLt) (steps m c t)
    (fun b x => by rw [hIn_row m c t.val t.isLt b x, hd, hc.2, iblk2]; rfl) r b j
  unfold outAt
  refine key.trans ?_
  rw [hd, iblk2]
  rfl

/-- The result array: the forward direction's rows, then the backward direction's. -/
def G : Vec Ideal S4096x64x256 .f32 := fun y => layerAt m c ⟨(y 0).val / 2048, by have : (y 0).val < 4096 := (y 0).isLt; omega⟩ ((y 0).val % 2048) (y 1) (y 2)

theorem index7 : ∀ i : grid0.Coords, cc0_transform_7 i = ![32 * (i 0).val + chunkOf i, 0, 0] := by decide +kernel

/-- The point that writes block `b`. -/
def pointAt (b : Fin 64) : grid0.Coords
  | ⟨0, _⟩ => ⟨b.val / 32, by show b.val / 32 < 2; omega⟩
  | ⟨1, _⟩ => ⟨if b.val / 32 = 0 then b.val % 32 else 31 - b.val % 32, by show _ < 32; split <;> omega⟩

theorem pointAt_index : ∀ b : Fin 64, cc0_transform_7 (pointAt b) = ![b.val, 0, 0] := by decide +kernel

theorem nblk7 : (cfg0.win 7).nblk (0 : Fin 3) = 64 ∧ (cfg0.win 7).nblk (1 : Fin 3) = 1 ∧ (cfg0.win 7).nblk (2 : Fin 3) = 1 := by decide +kernel

theorem covers : (cfg0.win 7).Covers :=
  (cfg0.win 7).covers_of_indexMap_surj rfl (by decide) fun β => by
    have l0 : (β (0 : Fin 3)).val < 64 := lt_of_lt_of_eq (β (0 : Fin 3)).isLt nblk7.1
    have l1 : (β (1 : Fin 3)).val < 1 := lt_of_lt_of_eq (β (1 : Fin 3)).isLt nblk7.2.1
    have l2 : (β (2 : Fin 3)).val < 1 := lt_of_lt_of_eq (β (2 : Fin 3)).isLt nblk7.2.2
    refine ⟨pointAt ⟨(β (0 : Fin 3)).val, l0⟩, fun a => ?_⟩
    refine (congrFun (pointAt_index ⟨(β (0 : Fin 3)).val, l0⟩) a).trans ?_
    match a with
    | ⟨0, _⟩ => rfl
    | ⟨1, _⟩ => exact (Nat.lt_one_iff.1 l1).symm
    | ⟨2, _⟩ => exact (Nat.lt_one_iff.1 l2).symm

theorem emb7 (y0 y1 : Fin 64) (y2 : Fin 256) :
    ((cfg0.win 7).blk t).view.emb (ix3 y0 y1 y2) = ix3 ⟨64 * (32 * (t.val / 32) + chunkOf (grid0.coords t)) + y0.val, by have := chunkOf_lt t; have := div_lt t; omega⟩ y1 y2 := by
  have := chunkOf_lt t
  have := div_lt t
  blk_ext [idx t]

theorem xinj7 (y0 y1 : Fin 64) (y2 : Fin 256) : (cfg0.win 7).xinj (grid0.coords t) (ix3 y0 y1 y2) = (ix3 y0 y1 y2 : S64x64x256.Idx) := by
  funext a
  exact Fin.ext (Pipeline.Window.xinj_val ..)

theorem cast7 (x : Elt Ideal (cfg0.win 7).elt) : cast (congrArg (Elt Ideal) ((cfg0.win 7).blk t).view.elt_eq.symm) x = x := by
  rfl

theorem G_apply (d : Fin 2) (s : ℕ) (hs : s < 2048) (b : Fin 64) (j : Fin 256) :
    G m c (ix3 ⟨2048 * d.val + s, by omega⟩ b j) = layerAt m c d s b j := by
  have e1 : (2048 * d.val + s) / 2048 = d.val := by omega
  have e2 : (2048 * d.val + s) % 2048 = s := by omega
  show layerAt m c ⟨(2048 * d.val + s) / 2048, _⟩ ((2048 * d.val + s) % 2048) b j = _
  simp only [e1, e2]

theorem result : (dats m 0 c).arrAt 7 cfg0.N = G m c := by
  refine (dats m 0 c).arrAt_eq_of_covers 7 _ covers fun t hf y => ?_
  idx_vars y
  have h32 := chunkOf_lt t
  have h2 := div_lt t
  have hX := after7 m c t
  have hG := congrArg (G m c) (emb7 t y0 y1 y2)
  have hY := outAt_apply m c t y0 y1 y2
  have hA := G_apply m c ⟨t.val / 32, h2⟩ (64 * chunkOf (grid0.coords t) + y0.val) (by omega) y1 y2
  rw [← hA] at hY
  rw [← hX] at hY
  generalize G m c = GG at hG hY ⊢
  clear hA hX
  generalize (dats m 0 c).after 7 t = X at hY ⊢
  refine (cast7 t _).trans ?_
  refine (congrArg X (xinj7 t y0 y1 y2)).trans ?_
  refine hY.trans (Eq.trans ?_ hG.symm)
  refine congrArg (fun r : Fin 4096 => GG (ix3 r y1 y2)) ?_
  apply Fin.ext
  show 2048 * (t.val / 32) + (64 * chunkOf (grid0.coords t) + y0.val) = 64 * (32 * (t.val / 32) + chunkOf (grid0.coords t)) + y0.val
  omega

end Cert.KernelIdeal.L1
-- ==== Proof.Ref.Take.lean ====
/-
Taking along the time axis, one index per batch row and time, where the index is in range.
-/
module

public import proofs.«01_k».proof.Proof.Words
public import proofs.«01_k».proof.Proof.Gen.ReferenceIdeal.Run
public import Idealize.ShloMosaic.Lib.Pointwise
public import Idealize.ShloMosaic.Lib.ReduceAll
public import Idealize.ShloMosaic.Lib.Tactic.CleanTypes

@[expose] public noncomputable section

set_option maxRecDepth 16384

namespace Cert.ReferenceIdeal.Value

open Cert.ReferenceIdeal Cert.ReferenceIdeal.Gen
open Idealize.ShloMosaic Idealize.ShloMosaic.StableHlo

section

variable {α : Type} {C : ℕ}

/-- A gather of one row of features per batch row and time, the batch row its own. -/
abbrev alongDims (C : ℕ) (wf : GatherDims.WF ⟨3, ![64, 2048, C]⟩ ⟨3, ![64, 2048, 1]⟩ ⟨3, ![64, 2048, C]⟩ [2] [1] [0] [1] [0] 2 ![1, 1, C]) :
    GatherDims ⟨3, ![64, 2048, C]⟩ ⟨3, ![64, 2048, 1]⟩ ⟨3, ![64, 2048, C]⟩ where
  offsetDims := [2]
  collapsedSliceDims := [1]
  operandBatchingDims := [0]
  startIndicesBatchingDims := [0]
  startIndexMap := [1]
  indexVectorDim := 2
  sliceSizes := ![1, 1, C]
  wf := wf

theorem gather_along (wf : GatherDims.WF ⟨3, ![64, 2048, C]⟩ ⟨3, ![64, 2048, 1]⟩ ⟨3, ![64, 2048, C]⟩ [2] [1] [0] [1] [0] 2 ![1, 1, C])
    (x : (⟨3, ![64, 2048, C]⟩ : Shape).Idx → α) (idx : IVec ⟨3, ![64, 2048, 1]⟩ 32) (b : Fin 64) (t n : Fin 2048) (k : Fin C)
    (h : idx (ix3 b t 0) = BitVec.ofNat 32 n.val) : Host.gather (alongDims C wf) x idx (ix3 b t k) = x (ix3 b n k) := by
  unfold Host.gather
  refine congrArg x ?_
  funext a
  refine Fin.ext ?_
  show (alongDims C wf).start (ix3 b t k) idx a + (alongDims C wf).batchCoord (ix3 b t k) a + (alongDims C wf).offCoord (ix3 b t k) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.2 rfl),
      GatherDims.offCoord_eq_zero _ _ _ fun h => ((GatherDims.mem_sKept _ _).1 h).2 (List.mem_singleton.2 rfl)]
    unfold GatherDims.batchCoord
    rw [dif_pos (List.mem_singleton.2 rfl)]
    exact Nat.zero_add _
  · rw [GatherDims.batchCoord_eq_zero _ _ _ (fun h => by simp at h),
      GatherDims.offCoord_eq_zero _ _ _ fun h => ((GatherDims.mem_sKept _ _).1 h).1 (List.mem_singleton.2 rfl)]
    unfold GatherDims.start
    rw [dif_pos (List.mem_singleton.2 rfl)]
    have e : ∀ i, (alongDims C wf).siIdx (ix3 b t k) i = ix3 b t 0 := fun i => by
      funext d; refine Fin.ext ?_
      match d with
      | ⟨0, _⟩ => rfl
      | ⟨1, _⟩ => rfl
      | ⟨2, _⟩ => exact Nat.lt_one_iff.1 (Fin.isLt _)
    rw [e, h, toInt_ofNat_of_lt (by omega : n.val < 2 ^ 31)]
    show min n.val (2048 - 1) + 0 + 0 = n.val
    omega
  · rw [GatherDims.batchCoord_eq_zero _ _ _ (fun h => by simp at h)]
    unfold GatherDims.start
    rw [dif_neg (fun h => by simp at h)]
    unfold GatherDims.offCoord
    rw [dif_pos ((GatherDims.mem_sKept _ _).2 (⟨fun h => by simp at h, fun h => by simp at h⟩))]
    exact (Nat.zero_add _).trans rfl

end

/-- An index, a negative one counted from the end; and whether it is in range. -/
def wrap (r : IVec S64x2048x1 32) : IVec S64x2048x1 32 :=
  select (cmpi .slt r (broadcastInDim S64x2048x1 ![] bcast_S_S64x2048x1 (constantI S_ 32 0#32)))
    (addi r (broadcastInDim S64x2048x1 ![] bcast_S_S64x2048x1 (constantI S_ 32 2048#32))) r
def inRange (r : IVec S64x2048x1 32) : IVec S64x2048 1 :=
  Host.reduce IntOp.andi (andi (cmpi .sge (wrap r) (broadcastInDim S64x2048x1 ![] bcast_S_S64x2048x1 (constantI S_ 32 0#32)))
    (cmpi .sle (wrap r) (broadcastInDim S64x2048x1 ![0, 1, 2] bcast_S1x1x1_S64x2048x1_0_1_2 (broadcastInDim S1x1x1 ![2] bcast_S1_S1x1x1_2 (constantI S1 32 2047#32)))))
    (constantI S_ 1 1#1) reducesTo_S64x2048x1_S64x2048_d2 h_S_

theorem wrap_at (r : IVec S64x2048x1 32) (b : Fin 64) (t n : Fin 2048) (h : r (ix3 b t 0) = BitVec.ofNat 32 n.val) : wrap r (ix3 b t 0) = BitVec.ofNat 32 n.val := by
  have e : wrap r (ix3 b t 0) = Scalar.select (IntOp.cmpi .slt (r (ix3 b t 0)) 0#32) (IntOp.addi (r (ix3 b t 0)) 2048#32) (r (ix3 b t 0)) := by
    pointwise [wrap]
  rw [e, h, Gru.select_slt n.isLt]
  exact if_neg (not_lt.2 (Int.natCast_nonneg _))

theorem inRange_at (r : IVec S64x2048x1 32) (b : Fin 64) (t n : Fin 2048) (h : r (ix3 b t 0) = BitVec.ofNat 32 n.val) : inRange r (ix2 b t) = 1#1 := by
  have hw := wrap_at r b t n h
  unfold inRange
  pointwise []
  rw [show (Finset.univ : Finset (Fin 1)) = {0} from rfl, Finset.fold_singleton, hw]
  have hn : (BitVec.ofNat 32 n.val).toInt = (n.val : ℤ) := toInt_ofNat_of_lt (by omega)
  rw [IntOp.cmpi_sge.2 (by rw [hn]; exact Int.natCast_nonneg _), IntOp.cmpi_sle.2 (by rw [hn]; show (n.val : ℤ) ≤ 2047; omega)]
  rfl

variable (V : Valuation τ sig (Elt Ideal))

theorem take_in (b : Fin 64) (t n : Fin 2048) (k : Fin 512) (h : (V (Proc.devRef .tc main_v30) : IVec S64x2048x1 32) (ix3 b t 0) = BitVec.ofNat 32 n.val) :
    (after hostOps0_3 V (Proc.devRef .tc main_v31) : Vec Ideal S64x2048x512 .f32) (ix3 b t k)
      = (V (Proc.devRef .tc main_v3) : Vec Ideal S64x2048x512 .f32) (ix3 b n k) := by
  generalize hr : (V (Proc.devRef .tc main_v30) : IVec S64x2048x1 32) = r at h
  generalize hx : (V (Proc.devRef .tc main_v3) : Vec Ideal S64x2048x512 .f32) = x
  have e : (after hostOps0_3 V (Proc.devRef .tc main_v31) : Vec Ideal S64x2048x512 .f32)
      = select (broadcastInDim S64x2048x512 ![0, 1] bcast_S64x2048_S64x2048x512_0_1 (inRange r))
          (Host.gather gather_S64x2048x512_S64x2048x1_S64x2048x512_2_1_0_0_1_2_11512 x (wrap r))
          (broadcastInDim S64x2048x512 ![] bcast_S_S64x2048x512 (constant (F := Ideal) S_ .f32 0x7FC00000#32)) := by
    unfold inRange wrap
    rw [← hr, ← hx]
    after_results_entrywise [cast_eq]
  rw [e]
  have g := gather_along gather_S64x2048x512_S64x2048x1_S64x2048x512_2_1_0_0_1_2_11512_wf x (wrap r) b t n k (wrap_at r b t n h)
  have e2 : ∀ y fill : Vec Ideal S64x2048x512 .f32, select (broadcastInDim S64x2048x512 ![0, 1] bcast_S64x2048_S64x2048x512_0_1 (inRange r)) y fill (ix3 b t k)
      = Scalar.select (inRange r (ix2 b t)) (y (ix3 b t k)) (fill (ix3 b t k)) := by
    intro y fill
    pointwise []
  rw [e2, inRange_at r b t n h]
  exact g

theorem take_out (b : Fin 64) (t n : Fin 2048) (k : Fin 256) (h : (V (Proc.devRef .tc main_v47) : IVec S64x2048x1 32) (ix3 b t 0) = BitVec.ofNat 32 n.val) :
    (after hostOps0_6 V (Proc.devRef .tc main_v48) : Vec Ideal S64x2048x256 .f32) (ix3 b t k)
      = (V (Proc.devRef .tc main_v46) : Vec Ideal S64x2048x256 .f32) (ix3 b n k) := by
  generalize hr : (V (Proc.devRef .tc main_v47) : IVec S64x2048x1 32) = r at h
  generalize hx : (V (Proc.devRef .tc main_v46) : Vec Ideal S64x2048x256 .f32) = x
  have e : (after hostOps0_6 V (Proc.devRef .tc main_v48) : Vec Ideal S64x2048x256 .f32)
      = select (broadcastInDim S64x2048x256 ![0, 1] bcast_S64x2048_S64x2048x256_0_1 (inRange r))
          (Host.gather gather_S64x2048x256_S64x2048x1_S64x2048x256_2_1_0_0_1_2_11256 x (wrap r))
          (broadcastInDim S64x2048x256 ![] bcast_S_S64x2048x256 (constant (F := Ideal) S_ .f32 0x7FC00000#32)) := by
    unfold inRange wrap
    rw [← hr, ← hx]
    after_results_entrywise [cast_eq]
  rw [e]
  have g := gather_along gather_S64x2048x256_S64x2048x1_S64x2048x256_2_1_0_0_1_2_11256_wf x (wrap r) b t n k (wrap_at r b t n h)
  have e2 : ∀ y fill : Vec Ideal S64x2048x256 .f32, select (broadcastInDim S64x2048x256 ![0, 1] bcast_S64x2048_S64x2048x256_0_1 (inRange r)) y fill (ix3 b t k)
      = Scalar.select (inRange r (ix2 b t)) (y (ix3 b t k)) (fill (ix3 b t k)) := by
    intro y fill
    pointwise []
  rw [e2, inRange_at r b t n h]
  exact g

end Cert.ReferenceIdeal.Value
-- ==== Proof.Ref.Trip.lean ====
/-
One trip of the reference's loop over the extended reals, entry by entry: the counter stands at `t`, the
state steps where time `t` is valid and stays elsewhere, and row `t` of the outputs takes the masked state.
-/
module

public import proofs.«01_k».proof.Proof.Gru
public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.Tactic.CleanTypes

@[expose] public noncomputable section

set_option maxRecDepth 16384

namespace Cert.ReferenceIdeal.Value

open Cert.ReferenceIdeal Cert.ReferenceIdeal.Gen
open Idealize.ShloMosaic
open Cert.Gru

variable (V : Valuation τ sig (Elt Ideal))

/-- The loop's arrays before a trip. -/
abbrev XS : Vec Ideal S2048x2x64x512 .f32 := V (Proc.devRef .tc main_v40_0)
abbrev OK : Vec Ideal S2048x64 .i1 := V (Proc.devRef .tc main_v40_1)
abbrev WI : Vec Ideal S2x768x512 .f32 := V (Proc.devRef .tc main_v40_2)
abbrev BI : Vec Ideal S2x768 .f32 := V (Proc.devRef .tc main_v40_3)
abbrev WH : Vec Ideal S2x768x256 .f32 := V (Proc.devRef .tc main_v40_4)
abbrev BH : Vec Ideal S2x768 .f32 := V (Proc.devRef .tc main_v40_5)
abbrev ST : Vec Ideal S2x64x256 .f32 := V (Proc.devRef .tc main_v40_7)
abbrev OUT : Vec Ideal S2048x2x64x256 .f32 := V (Proc.devRef .tc main_v40_8)

/-- The input projection of one direction of one row at one time, and the step it drives. -/
def inGates (t : Fin 2048) (d : Fin 2) (b : Fin 64) : Gates := fun q => (∑ x, XS V (ix4 t d b x) * WI V (ix3 d q x)) + BI V (ix2 d q)
def stepAt (t : Fin 2048) (d : Fin 2) (b : Fin 64) : Row → Row :=
  next (fun q x => WH V (ix3 d q x)) (fun q => BH V (ix2 d q)) (inGates V t d b)

variable (t : Fin 2048) (hc : V (Proc.devRef .tc main_v40_6) = fun _ => BitVec.ofNat 32 t.val)

include hc

theorem ctr_toInt : BitVec.toInt (V (Proc.devRef .tc main_v40_6) (Shape.Idx.first h_S_) : BitVec 32) = (t.val : ℤ) := by
  rw [hc]; exact toInt_ofNat_of_lt (by omega)

theorem v59_at (d : Fin 2) (b : Fin 64) (q : Fin 768) : res_main_while0b_v59 V (ix3 d b q) = inGates V t d b q := by
  have hs : S2048x2x64x512.Slices ![t.val, 0, 0, 0] S1x2x64x512 := by
    refine ⟨rfl, fun a => ?_⟩
    match a with
    | ⟨0, _⟩ => show t.val + 1 ≤ 2048; omega
    | ⟨1, _⟩ => show 0 + 2 ≤ 2; omega
    | ⟨2, _⟩ => show 0 + 64 ≤ 64; omega
    | ⟨3, _⟩ => show 0 + 512 ≤ 512; omega
  unfold res_main_while0b_v59
  clean_types
  rw [Host.dynamicSlice_eq_extractStridedSlice (off := ![t.val, 0, 0, 0]) (hoff := hs) (hs := by
    intro a
    match a with
    | ⟨0, _⟩ => exact ctr_toInt V t hc
    | ⟨1, _⟩ => rfl
    | ⟨2, _⟩ => rfl
    | ⟨3, _⟩ => rfl)]
  pointwise [inGates]

theorem v92_at (b : Fin 64) : res_main_while0b_v92 V (ix3 0 b 0) = OK V (ix2 t b) := by
  have hs : S2048x64.Slices ![t.val, 0] S1x64 := by
    refine ⟨rfl, fun a => ?_⟩
    match a with
    | ⟨0, _⟩ => show t.val + 1 ≤ 2048; omega
    | ⟨1, _⟩ => show 0 + 64 ≤ 64; omega
  unfold res_main_while0b_v92
  clean_types
  rw [Host.dynamicSlice_eq_extractStridedSlice (off := ![t.val, 0]) (hoff := hs) (hs := by
    intro a
    match a with
    | ⟨0, _⟩ => exact ctr_toInt V t hc
    | ⟨1, _⟩ => rfl)]
  pointwise []

omit hc in
theorem v63_at (d : Fin 2) (b : Fin 64) (q : Fin 768) : res_main_while0b_v63 V (ix3 d b q)
    = gates (fun q x => WH V (ix3 d q x)) (fun q => BH V (ix2 d q)) (fun x => ST V (ix3 d b x)) q := by
  unfold res_main_while0b_v63
  clean_types
  pointwise [gates]

omit hc in
theorem v91_cell (d : Fin 2) (b : Fin 64) (j : Fin 256) : res_main_while0b_v91 V (ix3 d b j)
    = cell (fun q => res_main_while0b_v59 V (ix3 d b q)) (fun q => res_main_while0b_v63 V (ix3 d b q)) (ST V (ix3 d b j)) j := by
  unfold res_main_while0b_v91 res_main_while0b_v83
  clean_types
  pointwise [cell, Ideal.logistic]

theorem v91_at (d : Fin 2) (b : Fin 64) (j : Fin 256) : res_main_while0b_v91 V (ix3 d b j) = stepAt V t d b (fun x => ST V (ix3 d b x)) j := by
  rw [v91_cell]
  simp only [v59_at V t hc, v63_at]
  rfl

theorem step7_at (d : Fin 2) (b : Fin 64) (j : Fin 256) : step_main_v40_7 V (ix3 d b j)
    = Scalar.select (OK V (ix2 t b)) (stepAt V t d b (fun x => ST V (ix3 d b x)) j) (ST V (ix3 d b j)) := by
  rw [← v92_at V t hc, ← v91_at V t hc]
  unfold step_main_v40_7
  clean_types
  simp only [id]
  pointwise []

theorem step8_at (s : Fin 2048) (d : Fin 2) (b : Fin 64) (j : Fin 256) : step_main_v40_8 V (ix4 s d b j)
    = if s = t then Scalar.select (OK V (ix2 t b)) (stepAt V t d b (fun x => ST V (ix3 d b x)) j) 0 else OUT V (ix4 s d b j) := by
  rw [← v92_at V t hc, ← v91_at V t hc]
  have hs : S2048x2x64x256.Slices ![t.val, 0, 0, 0] S1x2x64x256 := by
    refine ⟨rfl, fun a => ?_⟩
    match a with
    | ⟨0, _⟩ => show t.val + 1 ≤ 2048; omega
    | ⟨1, _⟩ => show 0 + 2 ≤ 2; omega
    | ⟨2, _⟩ => show 0 + 64 ≤ 64; omega
    | ⟨3, _⟩ => show 0 + 256 ≤ 256; omega
  unfold step_main_v40_8
  clean_types
  simp only [id]
  rw [Host.dynamicUpdateSlice_eq_updateSlice (adj := ![t.val, 0, 0, 0]) (h' := hs) (hadj := by
    intro a
    match a with
    | ⟨0, _⟩ =>
      show (min (max (BitVec.toInt (V (Proc.devRef .tc main_v40_6) (Shape.Idx.first h_S_) : BitVec 32)) 0) ((2048 - 1 : ℕ) : ℤ)).toNat = t.val
      rw [ctr_toInt V t hc]; omega
    | ⟨1, _⟩ => rfl
    | ⟨2, _⟩ => rfl
    | ⟨3, _⟩ => rfl)]
  pointwise []
  by_cases h : s = t
  · subst h
    rw [dif_pos ⟨le_rfl, Nat.lt_succ_self _⟩, if_pos rfl]
  · rw [dif_neg (fun h' => h (Fin.ext (by omega))), if_neg h]

end Cert.ReferenceIdeal.Value
-- ==== Proof.Ref.Loop.lean ====
/-
The reference's loop over the extended reals: before trip `k` the state is the walk's at `k`, and the output
rows below `k` hold the masked states.
-/
module

public import proofs.«01_k».proof.Proof.Words
public import proofs.«01_k».proof.Proof.Ref.Trip

@[expose] public noncomputable section

set_option maxRecDepth 16384

namespace Cert.ReferenceIdeal.Value

open Cert.ReferenceIdeal Cert.ReferenceIdeal.Gen
open Idealize.ShloMosaic Idealize.ShloMosaic.StableHlo
open Cert.Gru

variable (m : (ℓ : Loc nD τ sig) → Buf (Elt Ideal) ℓ) (c : Dev nD)

/-- The loop's entry, and the buffers after `k` trips. -/
abbrev E : Valuation τ sig (Elt Ideal) := entryContents preI m c
def at_ (k : ℕ) : Valuation τ sig (Elt Ideal) := STEP^[k] (E m c)

theorem at_succ (k : ℕ) : at_ m c (k + 1) = STEP (at_ m c k) := Function.iterate_succ_apply' _ _ _

theorem at_const : ∀ k, XS (at_ m c k) = XS (E m c) ∧ OK (at_ m c k) = OK (E m c) ∧ WI (at_ m c k) = WI (E m c) ∧ BI (at_ m c k) = BI (E m c)
    ∧ WH (at_ m c k) = WH (E m c) ∧ BH (at_ m c k) = BH (E m c)
  | 0 => ⟨rfl, rfl, rfl, rfl, rfl, rfl⟩
  | k + 1 => by
    have ih := at_const k
    rw [at_succ]
    exact ⟨(STEP_main_v40_0 _).trans ih.1, (STEP_main_v40_1 _).trans ih.2.1, (STEP_main_v40_2 _).trans ih.2.2.1, (STEP_main_v40_3 _).trans ih.2.2.2.1,
      (STEP_main_v40_4 _).trans ih.2.2.2.2.1, (STEP_main_v40_5 _).trans ih.2.2.2.2.2⟩

theorem at_ctr (k : ℕ) : at_ m c k (Proc.devRef .tc main_v40_6) = fun _ => BitVec.ofNat 32 k := by
  have h := (atK_agree m c k main_v40_6 (by decide)).symm.trans (atK_ctr m c k)
  refine h.trans (funext fun _ => ?_)
  simp [Scf.iv]

theorem stepAt_at (k : ℕ) (t : Fin 2048) (d : Fin 2) (b : Fin 64) : stepAt (at_ m c k) t d b = stepAt (E m c) t d b := by
  obtain ⟨h0, -, h2, h3, h4, h5⟩ := at_const m c k
  unfold stepAt inGates
  rw [h0, h2, h3, h4, h5]

section

variable (w : Fin 64 → BitVec 32) (f : Fin 2 → Fin 64 → ℕ → Row → Row)
  (hok : ∀ (t : Fin 2048) (b : Fin 64), OK (E m c) (ix2 t b) = IntOp.cmpi .slt (BitVec.ofNat 32 t.val) (w b))
  (hf : ∀ (t : Fin 2048) (d : Fin 2) (b : Fin 64), (t.val : ℤ) < (w b).toInt → stepAt (E m c) t d b = f d b t.val)
  (hst : ∀ (d : Fin 2) (b : Fin 64) (x : Fin 256), ST (E m c) (ix3 d b x) = 0)

/-- The walk of direction `d` at batch row `b`. -/
abbrev W (d : Fin 2) (b : Fin 64) : ℕ → Row := walk (fun n => (n : ℤ) < (w b).toInt) (f d b)

include hok hf hst

theorem st_at : ∀ k ≤ 2048, ∀ (d : Fin 2) (b : Fin 64) (x : Fin 256), ST (at_ m c k) (ix3 d b x) = W w f d b k x
  | 0, _, d, b, x => hst d b x
  | k + 1, hk, d, b, x => by
    have ih := st_at k (by omega)
    rw [at_succ]
    refine (congrFun (STEP_main_v40_7 _) _).trans ((step7_at (at_ m c k) ⟨k, by omega⟩ (at_ctr m c k) d b x).trans ?_)
    rw [(at_const m c k).2.1, hok, select_slt (show k < 2048 by omega), stepAt_at, ih d b x, show W w f d b (k + 1) = _ from walk_succ _ _ _]
    have e : (fun x => ST (at_ m c k) (ix3 d b x)) = W w f d b k := funext fun x => ih d b x
    rw [e]
    by_cases h : (k : ℤ) < (w b).toInt
    · rw [if_pos h, if_pos h, hf ⟨k, by omega⟩ d b h]
    · rw [if_neg h, if_neg h]

theorem out_at : ∀ k ≤ 2048, ∀ (s : Fin 2048) (d : Fin 2) (b : Fin 64) (j : Fin 256), s.val < k →
    OUT (at_ m c k) (ix4 s d b j) = if (s.val : ℤ) < (w b).toInt then f d b s.val (W w f d b s.val) j else 0
  | 0, _, s, d, b, j, h => absurd h (Nat.not_lt_zero _)
  | k + 1, hk, s, d, b, j, h => by
    have ih := out_at k (by omega) s d b j
    rw [at_succ]
    refine (congrFun (STEP_main_v40_8 _) _).trans ((step8_at (at_ m c k) ⟨k, by omega⟩ (at_ctr m c k) s d b j).trans ?_)
    by_cases hs : s = ⟨k, by omega⟩
    · rw [if_pos hs]
      obtain ⟨s, hsl⟩ := s
      obtain rfl : k = s := (congrArg Fin.val hs).symm
      rw [(at_const m c k).2.1, hok, select_slt hsl, stepAt_at]
      have e : (fun x => ST (at_ m c k) (ix3 d b x)) = W w f d b k := funext fun x => st_at m c w f hok hf hst k (by omega) d b x
      rw [e]
      by_cases h : (k : ℤ) < (w b).toInt
      · rw [if_pos h, if_pos h, hf ⟨k, hsl⟩ d b h]
      · rw [if_neg h, if_neg h]
    · rw [if_neg hs]
      exact ih (Nat.lt_of_le_of_ne (Nat.le_of_lt_succ h) fun h' => hs (Fin.ext h'))

end

end Cert.ReferenceIdeal.Value
-- ==== Proof.Ref.Entry.lean ====
/-
What the reference's loop starts from, entry by entry, in terms of the arguments.
-/
module

public import proofs.«01_k».proof.Proof.Ref.Take
public import proofs.«01_k».proof.Proof.Ref.Loop

@[expose] public noncomputable section

set_option maxRecDepth 16384

namespace Cert.ReferenceIdeal.Value

open Cert.ReferenceIdeal Cert.ReferenceIdeal.Gen
open Idealize.ShloMosaic Idealize.ShloMosaic.StableHlo Idealize.ShloMosaic.Tactic Idealize.ShloMosaic.TcCoe
open Cert.Gru

variable (m : (ℓ : Loc nD τ sig) → Buf (Elt Ideal) ℓ) (c : Dev nD)

/-- The buffers after each stretch before the loop. -/
def S0 : Valuation τ sig (Elt Ideal) := after hostOps0 fun b => m (c, b)
def S1 : Valuation τ sig (Elt Ideal) := after hostOps0_1 (S0 m c)
def S2 : Valuation τ sig (Elt Ideal) := after hostOps0_2 (S1 m c)
def S3 : Valuation τ sig (Elt Ideal) := after hostOps0_3 (S2 m c)

theorem E_eq : E m c = after hostOps0_4 (S3 m c) := rfl

theorem S3_keep (r : Ref sig .tc) (h1 : r ∉ hostOps0_1_W) (h2 : r ∉ hostOps0_2_W) (h3 : r ∉ hostOps0_3_W) :
    S3 m c (Proc.devRef .tc r) = S0 m c (Proc.devRef .tc r) :=
  (after_of_writes_sub hostOps0_3 _ hostOps0_3_writes h3).trans
    ((after_of_writes_sub hostOps0_2 _ hostOps0_2_writes h2).trans (after_of_writes_sub hostOps0_1 _ hostOps0_1_writes h1))

theorem pick_dite {α : Type} (d : Fin 2) (a b : α) : (if h : d.val < 1 then a else b) = if d.val = 0 then a else b := by
  by_cases h : d.val = 0
  · rw [dif_pos (by omega), if_pos h]
  · rw [dif_neg (by omega), if_neg h]

/-! ## The arguments -/

/-- The two halves of the input, the lengths, each direction's weights and biases. -/
def inU (t : ℕ) (b : Fin 64) : Row := fun k => m ((c.tc : Thread nD τ).loc main_arg0) (ix3 ⟨t % 2048, by omega⟩ b k)
def inV (t : ℕ) (b : Fin 64) : Row := fun k => m ((c.tc : Thread nD τ).loc main_arg0) (ix3 ⟨2048 + t % 2048, by omega⟩ b k)
def lenw (b : Fin 64) : BitVec 32 := m ((c.tc : Thread nD τ).loc main_arg1) (ix1 b)
def wih (d : Fin 2) (q : Fin 768) (k : Fin 512) : EReal := pick d (m ((c.tc : Thread nD τ).loc main_arg2) (ix2 q k)) (m ((c.tc : Thread nD τ).loc main_arg6) (ix2 q k))
def whh (d : Fin 2) (q : Fin 768) (k : Fin 256) : EReal := pick d (m ((c.tc : Thread nD τ).loc main_arg3) (ix2 q k)) (m ((c.tc : Thread nD τ).loc main_arg7) (ix2 q k))
def bih (d : Fin 2) : Gates := fun q => pick d (m ((c.tc : Thread nD τ).loc main_arg4) (ix1 q)) (m ((c.tc : Thread nD τ).loc main_arg8) (ix1 q))
def bhh (d : Fin 2) : Gates := fun q => pick d (m ((c.tc : Thread nD τ).loc main_arg5) (ix1 q)) (m ((c.tc : Thread nD τ).loc main_arg9) (ix1 q))

def stepOf (d : Fin 2) (b : Fin 64) : ℕ → Row → Row :=
  layerStep (fun t => inU m c t b) (fun t => inV m c t b) (wih m c d) (bih m c d) (whh m c d) (bhh m c d)

/-! ## Before the loop -/

/-- A token's features: the two halves one after the other. -/
def feat (t : Fin 2048) (b : Fin 64) (x : Fin 512) : EReal :=
  if h : x.val < 256 then m ((c.tc : Thread nD τ).loc main_arg0) (ix3 ⟨t.val, by omega⟩ b ⟨x.val, h⟩)
  else m ((c.tc : Thread nD τ).loc main_arg0) (ix3 ⟨2048 + t.val, by omega⟩ b ⟨x.val - 256, by omega⟩)

theorem S0_v3 (b : Fin 64) (t : Fin 2048) (x : Fin 512) : (S0 m c (Proc.devRef .tc main_v3) : Vec Ideal S64x2048x512 .f32) (ix3 b t x) = feat m c t b x := by
  unfold S0
  after_reads_simp
  pointwise [feat]
  after_reads_simp
  pointwise []

theorem S0_v21 (b : Fin 64) (t : Fin 2048) : (S0 m c (Proc.devRef .tc main_v21) : IVec S64x2048 1) (ix2 b t)
    = IntOp.cmpi .slt (BitVec.ofNat 32 t.val) (lenw m c b) := by
  unfold S0
  after_reads_simp
  pointwise [lenw]

theorem S0_v28 (b : Fin 64) (t : Fin 2048) : (S0 m c (Proc.devRef .tc main_v28) : IVec S64x2048 32) (ix2 b t)
    = IntOp.subi (IntOp.subi (lenw m c b) 1#32) (BitVec.ofNat 32 t.val) := by
  unfold S0
  after_reads_simp
  pointwise [lenw]

theorem S0_c0 : S0 m c (Proc.devRef .tc main_c_0) = constantI S_ 32 0#32 := by
  unfold S0
  after_reads_simp

theorem after1_v29 (V : Valuation τ sig (Elt Ideal)) : (after hostOps0_1 V (Proc.devRef .tc main_v29) : IVec S64x2048 32)
    = maxsi (broadcastInDim S64x2048 ![] bcast_S_S64x2048 (id (V (Proc.devRef .tc main_c_0) : IVec S_ 32))) (V (Proc.devRef .tc main_v28) : IVec S64x2048 32) := by
  after_results_entrywise [cast_eq]

theorem S1_v29 (b : Fin 64) (t : Fin 2048) : (S1 m c (Proc.devRef .tc main_v29) : IVec S64x2048 32) (ix2 b t)
    = IntOp.maxsi 0#32 (IntOp.subi (IntOp.subi (lenw m c b) 1#32) (BitVec.ofNat 32 t.val)) := by
  rw [← S0_v28, S1, after1_v29, S0_c0]
  simp only [id]
  pointwise []

theorem S2_v30 (b : Fin 64) (t : Fin 2048) : (S2 m c (Proc.devRef .tc main_v30) : IVec S64x2048x1 32) (ix3 b t 0)
    = (S1 m c (Proc.devRef .tc main_v29) : IVec S64x2048 32) (ix2 b t) := by
  unfold S2
  generalize S1 m c = V
  after_reads_simp
  pointwise []

theorem E_xs (t : Fin 2048) (d : Fin 2) (b : Fin 64) (x : Fin 512) : XS (E m c) (ix4 t d b x)
    = pick d ((S3 m c (Proc.devRef .tc main_v3) : Vec Ideal S64x2048x512 .f32) (ix3 b t x)) ((S3 m c (Proc.devRef .tc main_v31) : Vec Ideal S64x2048x512 .f32) (ix3 b t x)) := by
  unfold XS
  rw [E_eq]
  generalize S3 m c = V
  after_reads_simp
  simp only [id]
  pointwise []
  after_reads_simp
  pointwise [pick]
  exact pick_dite d _ _

theorem E_ok (t : Fin 2048) (b : Fin 64) : OK (E m c) (ix2 t b) = IntOp.cmpi .slt (BitVec.ofNat 32 t.val) (lenw m c b) := by
  rw [← S0_v21, ← S3_keep m c main_v21 (by decide +kernel) (by decide +kernel) (by decide +kernel)]
  unfold OK
  rw [E_eq]
  generalize S3 m c = V
  after_reads_simp
  simp only [id]
  pointwise []

theorem E_st (d : Fin 2) (b : Fin 64) (x : Fin 256) : ST (E m c) (ix3 d b x) = 0 := by
  unfold ST
  rw [E_eq]
  generalize S3 m c = V
  after_reads_simp
  simp only [id]
  pointwise []

theorem S0_v6 (d : Fin 2) (q : Fin 768) (k : Fin 512) : (S0 m c (Proc.devRef .tc main_v6) : Vec Ideal S2x768x512 .f32) (ix3 d q k) = wih m c d q k := by
  unfold S0
  after_reads_simp
  pointwise [wih, pick]
  exact pick_dite d _ _

theorem S0_v9 (d : Fin 2) (q : Fin 768) (k : Fin 256) : (S0 m c (Proc.devRef .tc main_v9) : Vec Ideal S2x768x256 .f32) (ix3 d q k) = whh m c d q k := by
  unfold S0
  after_reads_simp
  pointwise [whh, pick]
  exact pick_dite d _ _

theorem S0_v12 (d : Fin 2) (q : Fin 768) : (S0 m c (Proc.devRef .tc main_v12) : Vec Ideal S2x768 .f32) (ix2 d q) = bih m c d q := by
  unfold S0
  after_reads_simp
  pointwise [bih, pick]
  exact pick_dite d _ _

theorem S0_v15 (d : Fin 2) (q : Fin 768) : (S0 m c (Proc.devRef .tc main_v15) : Vec Ideal S2x768 .f32) (ix2 d q) = bhh m c d q := by
  unfold S0
  after_reads_simp
  pointwise [bhh, pick]
  exact pick_dite d _ _

theorem E_wi (d : Fin 2) (q : Fin 768) (k : Fin 512) : WI (E m c) (ix3 d q k) = wih m c d q k := by
  rw [← S0_v6, ← S3_keep m c main_v6 (by decide +kernel) (by decide +kernel) (by decide +kernel)]
  unfold WI
  rw [E_eq]
  generalize S3 m c = V
  after_reads_simp
  rfl

theorem E_wh (d : Fin 2) (q : Fin 768) (k : Fin 256) : WH (E m c) (ix3 d q k) = whh m c d q k := by
  rw [← S0_v9, ← S3_keep m c main_v9 (by decide +kernel) (by decide +kernel) (by decide +kernel)]
  unfold WH
  rw [E_eq]
  generalize S3 m c = V
  after_reads_simp
  rfl

theorem E_bi (d : Fin 2) (q : Fin 768) : BI (E m c) (ix2 d q) = bih m c d q := by
  rw [← S0_v12, ← S3_keep m c main_v12 (by decide +kernel) (by decide +kernel) (by decide +kernel)]
  unfold BI
  rw [E_eq]
  generalize S3 m c = V
  after_reads_simp
  rfl

theorem E_bh (d : Fin 2) (q : Fin 768) : BH (E m c) (ix2 d q) = bhh m c d q := by
  rw [← S0_v15, ← S3_keep m c main_v15 (by decide +kernel) (by decide +kernel) (by decide +kernel)]
  unfold BH
  rw [E_eq]
  generalize S3 m c = V
  after_reads_simp
  rfl

/-! ## The reversed positions -/

/-- Below the length, the position counted from the row's end is the one the words compute. -/
theorem back_index (w : BitVec 32) (hw : w.toInt ≤ 2048) (t : Fin 2048) (ht : (t.val : ℤ) < w.toInt) :
    IntOp.maxsi 0#32 (IntOp.subi (IntOp.subi w 1#32) (BitVec.ofNat 32 t.val)) = BitVec.ofNat 32 (w.toInt - 1 - t.val).toNat := by
  have ht2 := t.isLt
  obtain ⟨l, hl⟩ : ∃ l : ℕ, w.toInt = l := ⟨w.toInt.toNat, by omega⟩
  have hwl : w = BitVec.ofNat 32 l := by
    apply BitVec.eq_of_toInt_eq
    rw [hl, toInt_ofNat_of_lt (by omega)]
  rw [hl] at hw ht ⊢
  have e : IntOp.subi (IntOp.subi w 1#32) (BitVec.ofNat 32 t.val) = BitVec.ofNat 32 (l - 1 - t.val) := by
    subst hwl
    show BitVec.ofNat 32 l - 1#32 - BitVec.ofNat 32 t.val = _
    apply BitVec.eq_of_toNat_eq
    simp only [BitVec.toNat_sub, BitVec.toNat_ofNat]
    omega
  rw [e, show ((l : ℤ) - 1 - t.val).toNat = l - 1 - t.val by omega]
  have h0 : (BitVec.ofNat 32 (l - 1 - t.val)).toInt = (l - 1 - t.val : ℕ) := by
    exact toInt_ofNat_of_lt (by omega)
  unfold IntOp.maxsi
  rw [if_neg]
  rw [BitVec.slt_eq_decide, h0]
  simp

/-- The input the loop sees at step `t`, in direction `d`. -/
theorem E_xs_at (t : Fin 2048) (d : Fin 2) (b : Fin 64) (hw : (lenw m c b).toInt ≤ 2048) (ht : (t.val : ℤ) < (lenw m c b).toInt)
    (n : Fin 2048) (hn : n.val = place d (lenw m c b).toInt t.val) (x : Fin 512) : XS (E m c) (ix4 t d b x) = feat m c n b x := by
  rw [E_xs]
  unfold pick
  unfold place at hn
  by_cases hd : d.val = 0
  · rw [if_pos hd] at hn ⊢
    rw [S3_keep m c main_v3 (by decide +kernel) (by decide +kernel) (by decide +kernel), S0_v3, Fin.ext hn]
  · rw [if_neg hd] at hn ⊢
    have h : (S2 m c (Proc.devRef .tc main_v30) : IVec S64x2048x1 32) (ix3 b t 0) = BitVec.ofNat 32 n.val := by
      rw [S2_v30, S1_v29, back_index _ hw t ht, hn]
    have e := take_in (S2 m c) b t n x h
    rw [← S0_v3, ← (after_of_writes_sub hostOps0_2 (S1 m c) hostOps0_2_writes (by decide +kernel : main_v3 ∉ hostOps0_2_W)).trans
      (after_of_writes_sub hostOps0_1 _ hostOps0_1_writes (by decide +kernel : main_v3 ∉ hostOps0_1_W))]
    exact e

/-- The features against a weight row: the two halves' sums. -/
theorem feat_sum (n : Fin 2048) (b : Fin 64) (w : Fin 512 → EReal) : (∑ x, feat m c n b x * w x)
    = (∑ k : Fin 256, inU m c n.val b k * w ⟨k.val, by omega⟩) + ∑ k : Fin 256, inV m c n.val b k * w ⟨256 + k.val, by omega⟩ := by
  have hn : n.val % 2048 = n.val := Nat.mod_eq_of_lt n.isLt
  refine (Fin.sum_univ_add (a := 256) (b := 256) (fun x : Fin 512 => feat m c n b x * w x)).trans ?_
  congr 1
  · refine Finset.sum_congr rfl fun k _ => ?_
    have h : (Fin.castAdd 256 k : Fin 512).val < 256 := k.isLt
    simp only [feat, inU]
    rw [dif_pos h]
    simp only [hn]
    rfl
  · refine Finset.sum_congr rfl fun k _ => ?_
    have h : ¬ (Fin.natAdd 256 k : Fin 512).val < 256 := by show ¬ 256 + k.val < 256; omega
    have hk : (⟨(Fin.natAdd 256 k : Fin 512).val - 256, by omega⟩ : Fin 256) = k := Fin.ext (by show 256 + k.val - 256 = k.val; omega)
    simp only [feat, inV]
    rw [dif_neg h]
    simp only [hn, hk]
    rfl

theorem stepAt_E (t : Fin 2048) (d : Fin 2) (b : Fin 64) (hw : (lenw m c b).toInt ≤ 2048) (ht : (t.val : ℤ) < (lenw m c b).toInt) :
    stepAt (E m c) t d b = stepOf m c d b (place d (lenw m c b).toInt t.val) := by
  have hp : place d (lenw m c b).toInt t.val < 2048 := by unfold place; split <;> omega
  have hx := fun x => E_xs_at m c t d b hw ht ⟨_, hp⟩ rfl x
  have hg : inGates (E m c) t d b = proj2 (inU m c (place d (lenw m c b).toInt t.val) b) (inV m c (place d (lenw m c b).toInt t.val) b) (wih m c d) (bih m c d) := by
    funext q
    unfold inGates proj2
    rw [E_bi, show (∑ x, XS (E m c) (ix4 t d b x) * WI (E m c) (ix3 d q x)) = ∑ x, feat m c ⟨_, hp⟩ b x * wih m c d q x from
      Finset.sum_congr rfl fun x _ => by rw [hx, E_wi], feat_sum]
  unfold stepAt stepOf layerStep
  rw [hg, show (fun q x => WH (E m c) (ix3 d q x)) = whh m c d from funext fun q => funext fun x => E_wh m c d q x,
    show (fun q => BH (E m c) (ix2 d q)) = bhh m c d from funext fun q => E_bh m c d q]

end Cert.ReferenceIdeal.Value
-- ==== Proof.Ref.Tail.lean ====
/-
The reference's result, entry by entry: after the loop the reversed direction is turned back along each row and
masked, and the two directions lie one after the other.
-/
module

public import proofs.«01_k».proof.Proof.Ref.Entry

@[expose] public noncomputable section

set_option maxRecDepth 16384

namespace Cert.ReferenceIdeal.Value

open Cert.ReferenceIdeal Cert.ReferenceIdeal.Gen
open Idealize.ShloMosaic Idealize.ShloMosaic.StableHlo Idealize.ShloMosaic.Tactic Idealize.ShloMosaic.TcCoe
open Cert.Gru

variable (m : (ℓ : Loc nD τ sig) → Buf (Elt Ideal) ℓ) (c : Dev nD)

/-! ## What the stretches behind the loop write -/

abbrev tail5 : List (Ref sig .tc) := [main_v41, main_v42, main_v43, main_v44, main_v45, main_v46, main_v47]
theorem tail5_writes : (hostOps0_5 (F := Ideal)).Forall fun op => op.writes ⊆ (tail5.map (Proc.devRef (τ := τ) .tc)).toFinset :=
  StableHlo.forall_writes_sub_of_map rfl

abbrev tail6 : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v48]
theorem tail6_writes : (hostOps0_6 (F := Ideal)).Forall fun op => op.writes ⊆ (tail6.map (Proc.devRef (τ := τ) .tc)).toFinset :=
  StableHlo.forall_writes_sub_of_map rfl

abbrev tail7 : List (Ref sig .tc) := [main_v49, main_cst_3]
theorem tail7_writes : (hostOps0_7 (F := Ideal)).Forall fun op => op.writes ⊆ (tail7.map (Proc.devRef (τ := τ) .tc)).toFinset :=
  StableHlo.forall_writes_sub_of_map rfl

abbrev tail8 : List (Ref sig .tc) := [main_call8_v0, main_call8_v1, main_call8_v2, main_v50]
theorem tail8_writes : (hostOps0_8 (F := Ideal)).Forall fun op => op.writes ⊆ (tail8.map (Proc.devRef (τ := τ) .tc)).toFinset :=
  StableHlo.forall_writes_sub_of_map rfl

abbrev tail9 : List (Ref sig .tc) := [main_v51, main_v52, main_v53]
theorem tail9_writes : (hostOps0_9 (F := Ideal)).Forall fun op => op.writes ⊆ (tail9.map (Proc.devRef (τ := τ) .tc)).toFinset :=
  StableHlo.forall_writes_sub_of_map rfl

/-! ## What the loop keeps -/

/-- No operation of the loop writes `r`. -/
def LoopFree (r : Ref sig .tc) : Prop :=
  r ∉ while0Ops0_W ∧ r ∉ while0Ops0_1_W ∧ r ∉ while0Ops0_2_W ∧ r ∉ while0Ops0_3_W ∧ r ∉ while0Ops0_4_W ∧ r ∉ while0Ops0_5_W
    ∧ r ∉ while0Ops0_6_W ∧ r ∉ while0Ops0_7_W ∧ r ∉ condOps_W

theorem loop_keep (r : Ref sig .tc) (h : LoopFree r) : ∀ k, atK m k c (Proc.devRef .tc r) = E m c (Proc.devRef .tc r)
  | 0 => rfl
  | k + 1 => by
    obtain ⟨h0, h1, h2, h3, h4, h5, h6, h7, hc⟩ := h
    rw [← loop_keep r ⟨h0, h1, h2, h3, h4, h5, h6, h7, hc⟩ k, show atK m (k + 1) c = afterL bodyI (after condOps (atK m k c)) from rfl]
    simp only [afterL_cons, afterL_nil]
    rw [after_of_writes_sub while0Ops0_7 _ while0Ops0_7_writes h7, after_of_writes_sub while0Ops0_6 _ while0Ops0_6_writes h6,
      after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]

/-- The buffers as the loop leaves them, and after each stretch behind it. -/
def F0 : Valuation τ sig (Elt Ideal) := after condOps (atK m 2048 c)
def F1 : Valuation τ sig (Elt Ideal) := after hostOps0_5 (F0 m c)
def F2 : Valuation τ sig (Elt Ideal) := after hostOps0_6 (F1 m c)
def F3 : Valuation τ sig (Elt Ideal) := after hostOps0_7 (F2 m c)
def F4 : Valuation τ sig (Elt Ideal) := after hostOps0_8 (F3 m c)

theorem final_eq : finalContents condOps preI bodyI postI 2048 m c = after hostOps0_9 (F4 m c) := rfl

theorem F0_keep (r : Ref sig .tc) (h : LoopFree r) : F0 m c (Proc.devRef .tc r) = E m c (Proc.devRef .tc r) :=
  (after_of_writes_sub condOps _ condOps_writes h.2.2.2.2.2.2.2.2).trans (loop_keep m c r h 2048)

theorem F0_out : F0 m c (Proc.devRef .tc main_v40_8) = at_ m c 2048 (Proc.devRef .tc main_v40_8) :=
  (cond_keeps _ main_v40_8 (by decide +kernel)).trans (atK_agree m c 2048 main_v40_8 (by decide +kernel))

theorem F0_v21 (b : Fin 64) (t : Fin 2048) : (F0 m c (Proc.devRef .tc main_v21) : IVec S64x2048 1) (ix2 b t)
    = IntOp.cmpi .slt (BitVec.ofNat 32 t.val) (lenw m c b) := by
  rw [F0_keep m c main_v21 (by unfold LoopFree; decide +kernel), E_eq,
    after_of_writes_sub hostOps0_4 _ hostOps0_4_writes (by decide +kernel : main_v21 ∉ hostOps0_4_W),
    S3_keep m c main_v21 (by decide +kernel) (by decide +kernel) (by decide +kernel), S0_v21]

theorem F0_v29 (b : Fin 64) (t : Fin 2048) : (F0 m c (Proc.devRef .tc main_v29) : IVec S64x2048 32) (ix2 b t)
    = IntOp.maxsi 0#32 (IntOp.subi (IntOp.subi (lenw m c b) 1#32) (BitVec.ofNat 32 t.val)) := by
  rw [F0_keep m c main_v29 (by unfold LoopFree; decide +kernel), E_eq,
    after_of_writes_sub hostOps0_4 _ hostOps0_4_writes (by decide +kernel : main_v29 ∉ hostOps0_4_W), S3,
    after_of_writes_sub hostOps0_3 _ hostOps0_3_writes (by decide +kernel : main_v29 ∉ hostOps0_3_W), S2,
    after_of_writes_sub hostOps0_2 _ hostOps0_2_writes (by decide +kernel : main_v29 ∉ hostOps0_2_W), S1_v29]

/-! ## Behind the loop -/

theorem F1_v43 (b : Fin 64) (t : Fin 2048) (j : Fin 256) : (F1 m c (Proc.devRef .tc main_v43) : Vec Ideal S64x2048x256 .f32) (ix3 b t j)
    = OUT (F0 m c) (ix4 t 0 b j) := by
  unfold F1 OUT
  generalize F0 m c = V
  after_reads_simp
  pointwise []

theorem F1_v46 (b : Fin 64) (t : Fin 2048) (j : Fin 256) : (F1 m c (Proc.devRef .tc main_v46) : Vec Ideal S64x2048x256 .f32) (ix3 b t j)
    = OUT (F0 m c) (ix4 t 1 b j) := by
  unfold F1 OUT
  generalize F0 m c = V
  after_reads_simp
  pointwise []

theorem F1_v47 (b : Fin 64) (t : Fin 2048) : (F1 m c (Proc.devRef .tc main_v47) : IVec S64x2048x1 32) (ix3 b t 0)
    = (F0 m c (Proc.devRef .tc main_v29) : IVec S64x2048 32) (ix2 b t) := by
  unfold F1
  generalize F0 m c = V
  after_reads_simp
  pointwise []

theorem F3_v49 (b : Fin 64) (t : Fin 2048) : (F3 m c (Proc.devRef .tc main_v49) : IVec S64x2048x1 1) (ix3 b t 0)
    = (F2 m c (Proc.devRef .tc main_v21) : IVec S64x2048 1) (ix2 b t) := by
  unfold F3
  generalize F2 m c = V
  after_reads_simp
  pointwise []

theorem F3_cst : F3 m c (Proc.devRef .tc main_cst_3) = constant (F := Ideal) S_ .f32 0x00000000#32 := by
  unfold F3
  generalize F2 m c = V
  after_reads_simp

theorem after8_v50 (V : Valuation τ sig (Elt Ideal)) : (after hostOps0_8 V (Proc.devRef .tc main_v50) : Vec Ideal S64x2048x256 .f32)
    = select (broadcastInDim S64x2048x256 ![0, 1, 2] bcast_S64x2048x1_S64x2048x256_0_1_2 (V (Proc.devRef .tc main_v49) : IVec S64x2048x1 1))
        (V (Proc.devRef .tc main_v48) : Vec Ideal S64x2048x256 .f32)
        (broadcastInDim S64x2048x256 ![] bcast_S_S64x2048x256 (id (V (Proc.devRef .tc main_cst_3) : Vec Ideal S_ .f32))) := by
  after_results_entrywise [cast_eq]

theorem F4_v50 (b : Fin 64) (t : Fin 2048) (j : Fin 256) : (F4 m c (Proc.devRef .tc main_v50) : Vec Ideal S64x2048x256 .f32) (ix3 b t j)
    = if (t.val : ℤ) < (lenw m c b).toInt then (F2 m c (Proc.devRef .tc main_v48) : Vec Ideal S64x2048x256 .f32) (ix3 b t j) else (0 : EReal) := by
  have e : (F3 m c (Proc.devRef .tc main_v49) : IVec S64x2048x1 1) (ix3 b t 0) = IntOp.cmpi .slt (BitVec.ofNat 32 t.val) (lenw m c b) := by
    rw [F3_v49, F2, after_of_writes_sub hostOps0_6 _ tail6_writes (by decide +kernel : main_v21 ∉ tail6), F1,
      after_of_writes_sub hostOps0_5 _ tail5_writes (by decide +kernel : main_v21 ∉ tail5), F0_v21]
  have e48 : F3 m c (Proc.devRef .tc main_v48) = F2 m c (Proc.devRef .tc main_v48) :=
    after_of_writes_sub hostOps0_7 _ tail7_writes (by decide +kernel)
  rw [← select_slt t.isLt, ← e, F4, after8_v50, F3_cst, e48]
  simp only [id]
  pointwise []

theorem final_v53 (i : Fin 4096) (b : Fin 64) (j : Fin 256) :
    (finalContents condOps preI bodyI postI 2048 m c (Proc.devRef .tc main_v53) : Vec Ideal S4096x64x256 .f32) (ix3 i b j)
      = if h : i.val < 2048 then (F4 m c (Proc.devRef .tc main_v43) : Vec Ideal S64x2048x256 .f32) (ix3 b ⟨i.val, h⟩ j)
        else (F4 m c (Proc.devRef .tc main_v50) : Vec Ideal S64x2048x256 .f32) (ix3 b ⟨i.val - 2048, by omega⟩ j) := by
  rw [final_eq]
  generalize F4 m c = V
  after_reads_simp
  pointwise []

/-! ## The loop's rows -/

theorem out_row (hw : ∀ b, (lenw m c b).toInt ≤ 2048) (s : Fin 2048) (d : Fin 2) (b : Fin 64) (j : Fin 256) :
    OUT (F0 m c) (ix4 s d b j) = if (s.val : ℤ) < (lenw m c b).toInt then
      stepOf m c d b (place d (lenw m c b).toInt s.val) (walkS d (lenw m c b).toInt (stepOf m c d b) s.val) j else 0 := by
  rw [show OUT (F0 m c) = OUT (at_ m c 2048) from F0_out m c]
  exact out_at m c (lenw m c) (fun d b n => stepOf m c d b (place d (lenw m c b).toInt n)) (E_ok m c)
    (fun t d b ht => stepAt_E m c t d b (hw b) ht) (E_st m c) 2048 le_rfl s d b j s.isLt

/-- The layer's output, at direction `d` and position `t`. -/
def layerAt (d : Fin 2) (t : ℕ) (b : Fin 64) (j : Fin 256) : EReal := out d (lenw m c b).toInt (stepOf m c d b) t j

theorem fwd_row (hw : ∀ b, (lenw m c b).toInt ≤ 2048) (t : Fin 2048) (b : Fin 64) (j : Fin 256) :
    OUT (F0 m c) (ix4 t 0 b j) = layerAt m c 0 t.val b j := by
  rw [out_row m c hw]
  unfold layerAt out
  by_cases h : (t.val : ℤ) < (lenw m c b).toInt
  · rw [if_pos h, if_pos h, walk_meet 0 (hw b) _ h]
    rfl
  · rw [if_neg h, if_neg h]

theorem bwd_row (hw : ∀ b, (lenw m c b).toInt ≤ 2048) (t : Fin 2048) (b : Fin 64) (j : Fin 256) :
    (F4 m c (Proc.devRef .tc main_v50) : Vec Ideal S64x2048x256 .f32) (ix3 b t j) = layerAt m c 1 t.val b j := by
  rw [F4_v50]
  unfold layerAt out
  by_cases h : (t.val : ℤ) < (lenw m c b).toInt
  · have hb := hw b
    rw [if_pos h, if_pos h, walk_meet 1 (hw b) _ h]
    have hn : ((lenw m c b).toInt - 1 - t.val).toNat < 2048 := by omega
    have e : (F1 m c (Proc.devRef .tc main_v47) : IVec S64x2048x1 32) (ix3 b t 0) = BitVec.ofNat 32 (⟨_, hn⟩ : Fin 2048).val := by
      rw [F1_v47, F0_v29, back_index _ (hw b) t h]
    rw [F2, take_out (F1 m c) b t ⟨_, hn⟩ j e, F1_v46, out_row m c hw]
    have hs : (((⟨_, hn⟩ : Fin 2048).val : ℕ) : ℤ) < (lenw m c b).toInt := by show ((((lenw m c b).toInt - 1 - t.val).toNat : ℕ) : ℤ) < _; omega
    rw [if_pos hs]
    have hp : place 1 (lenw m c b).toInt (⟨_, hn⟩ : Fin 2048).val = t.val := by
      show ((lenw m c b).toInt - 1 - ((((lenw m c b).toInt - 1 - t.val).toNat : ℕ) : ℤ)).toNat = t.val
      omega
    rw [hp]
    rfl
  · rw [if_neg h, if_neg h]

/-- The reference's result. -/
def G : Vec Ideal S4096x64x256 .f32 := fun y =>
  layerAt m c ⟨(y 0).val / 2048, by have h : (y 0).val < 4096 := (y 0).isLt; omega⟩ ((y 0).val % 2048) (y 1) (y 2)

theorem result (hw : ∀ b, (lenw m c b).toInt ≤ 2048) : finalContents condOps preI bodyI postI 2048 m c (Proc.devRef .tc main_v53) = G m c := by
  funext y
  obtain ⟨i, b, j, rfl⟩ : ∃ (i : Fin 4096) (b : Fin 64) (j : Fin 256), y = ix3 i b j := by idx_vars y; exact ⟨_, _, _, rfl⟩
  have hi := i.isLt
  refine (final_v53 m c i b j).trans ?_
  show _ = layerAt m c ⟨i.val / 2048, _⟩ (i.val % 2048) b j
  by_cases h : i.val < 2048
  · have e43 : F4 m c (Proc.devRef .tc main_v43) = F1 m c (Proc.devRef .tc main_v43) :=
      (after_of_writes_sub hostOps0_8 _ tail8_writes (by decide +kernel)).trans
        ((after_of_writes_sub hostOps0_7 _ tail7_writes (by decide +kernel)).trans
          (after_of_writes_sub hostOps0_6 _ tail6_writes (by decide +kernel)))
    rw [dif_pos h, e43, F1_v43, fwd_row m c hw]
    have h1 : (⟨i.val / 2048, by omega⟩ : Fin 2) = 0 := Fin.ext (by show i.val / 2048 = 0; omega)
    have h2 : i.val % 2048 = i.val := by omega
    rw [h1, h2]
  · rw [dif_neg h, bwd_row m c hw]
    have h1 : (⟨i.val / 2048, by omega⟩ : Fin 2) = 1 := Fin.ext (by show i.val / 2048 = 1; omega)
    have h2 : i.val % 2048 = i.val - 2048 := by omega
    rw [h1, h2]

end Cert.ReferenceIdeal.Value
-- ==== Proof.Ref.Frame.lean ====
/-
The reference's run: its arguments stay, its result is the layer.
-/
module

public import proofs.«01_k».proof.Proof.Ref.Tail
public import Idealize.ShloMosaic.Lib.Quiescent

@[expose] public noncomputable section

set_option maxRecDepth 16384

namespace Cert.ReferenceIdeal.Value

open Cert.ReferenceIdeal Cert.ReferenceIdeal.Gen
open Idealize.ShloMosaic Idealize.ShloMosaic.StableHlo Idealize.ShloMosaic.Tactic Idealize.ShloMosaic.TcCoe
open Idealize.SL.Sem
open Cert.Gru

variable (m : (ℓ : Loc nD τ sig) → Buf (Elt Ideal) ℓ) (ρ : Dev nD → PrngReg) (c : Dev nD)

/-- No operation of `main` outside the loop writes `r`. -/
def HostFree (r : Ref sig .tc) : Prop :=
  r ∉ hostOps0_W ∧ r ∉ hostOps0_1_W ∧ r ∉ hostOps0_2_W ∧ r ∉ hostOps0_3_W ∧ r ∉ hostOps0_4_W
    ∧ r ∉ tail5 ∧ r ∉ tail6 ∧ r ∉ tail7 ∧ r ∉ tail8 ∧ r ∉ tail9

theorem final_keep (r : Ref sig .tc) (h : HostFree r) (hl : LoopFree r) :
    finalContents condOps preI bodyI postI 2048 m c (Proc.devRef .tc r) = m ((c.tc : Thread nD τ).loc r) := by
  obtain ⟨h0, h1, h2, h3, h4, h5, h6, h7, h8, h9⟩ := h
  rw [final_eq, after_of_writes_sub hostOps0_9 _ tail9_writes h9, F4, after_of_writes_sub hostOps0_8 _ tail8_writes h8, F3,
    after_of_writes_sub hostOps0_7 _ tail7_writes h7, F2, after_of_writes_sub hostOps0_6 _ tail6_writes h6, F1,
    after_of_writes_sub hostOps0_5 _ tail5_writes h5, F0_keep m c r hl, E_eq,
    after_of_writes_sub hostOps0_4 _ hostOps0_4_writes h4, S3_keep m c r h1 h2 h3, S0,
    after_of_writes_sub hostOps0 _ hostOps0_writes h0]

/-- What the run leaves: the arguments as they were, and the result the last stretch's. -/
theorem run_all : θ_run (defs (F := Ideal)) (onTc (τ := τ) (main (F := Ideal))) ⟨m, fun _ => 0, ρ⟩ (fun r => (∀ c : Dev nD,
      r.2.mem ((c.tc : Thread nD τ).loc main_v53) = finalContents condOps preI bodyI postI 2048 m c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => ⟨h c main_v53 rfl,
    (h c main_arg0 rfl).trans (final_keep m c main_arg0 (by unfold HostFree; decide +kernel) (by unfold LoopFree; decide +kernel)),
    (h c main_arg1 rfl).trans (final_keep m c main_arg1 (by unfold HostFree; decide +kernel) (by unfold LoopFree; decide +kernel)),
    (h c main_arg2 rfl).trans (final_keep m c main_arg2 (by unfold HostFree; decide +kernel) (by unfold LoopFree; decide +kernel)),
    (h c main_arg3 rfl).trans (final_keep m c main_arg3 (by unfold HostFree; decide +kernel) (by unfold LoopFree; decide +kernel)),
    (h c main_arg4 rfl).trans (final_keep m c main_arg4 (by unfold HostFree; decide +kernel) (by unfold LoopFree; decide +kernel)),
    (h c main_arg5 rfl).trans (final_keep m c main_arg5 (by unfold HostFree; decide +kernel) (by unfold LoopFree; decide +kernel)),
    (h c main_arg6 rfl).trans (final_keep m c main_arg6 (by unfold HostFree; decide +kernel) (by unfold LoopFree; decide +kernel)),
    (h c main_arg7 rfl).trans (final_keep m c main_arg7 (by unfold HostFree; decide +kernel) (by unfold LoopFree; decide +kernel)),
    (h c main_arg8 rfl).trans (final_keep m c main_arg8 (by unfold HostFree; decide +kernel) (by unfold LoopFree; decide +kernel)),
    (h c main_arg9 rfl).trans (final_keep m c main_arg9 (by unfold HostFree; decide +kernel) (by unfold LoopFree; decide +kernel))⟩,
    sem_eq_zero_of_no_sems rfl r.2⟩) (run_fold m ρ)

end Cert.ReferenceIdeal.Value
-- ==== Proof.L0.Run.lean ====
module

public import proofs.«01_k».proof.Proof.Gen.Kernel0Ideal.Frame
public import proofs.«01_k».proof.Proof.Gen.Kernel0Ideal.Loops

@[expose] public section

set_option maxRecDepth 16384

noncomputable section

namespace Cert.Kernel0Ideal.L0

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The condition of the body's only branch: the chunk is the first of its direction. -/
abbrev isFirst (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S128x64 .i32) (harg2 : arg2.IsWhole) (arg3 : Memref sig .tc .vmem S64x1 .i32) (harg3 : arg3.IsWhole) (arg4 : Memref sig .tc .vmem S21x128 .f32) (harg4 : arg4.IsWhole) (arg5 : Memref sig .tc .vmem S1x768x128 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S128x64x256 .f32) (harg9 : arg9.IsWhole) (arg10 : Memref sig .tc .vmem S64x256 .f32) (harg10 : arg10.IsWhole) (arg11 : Memref sig .tc .vmem S128x64x768 .f32) (harg11 : arg11.IsWhole)
  (x0 : Vec F S128x64 .i32) (x1 : Vec F S64x1 .i32) (x2 : Vec F S21x128 .f32) (x3 : Vec F S1x768x128 .f32) (x4 : Vec F S1x1x768 .f32) (x5 : Vec F S1x256x768 .f32) (x6 : Vec F S1x1x768 .f32)

/-- The body's triple at one grid point: from the seven input buffers at their blocks, the output's and the row scratch's
    buffers at anything and the state scratch as `P10` says, it runs to the inputs unchanged, the output's buffer with the
    pieces `LO` written and the state scratch with the pieces `LS` written. -/
abbrev Triple (P10 : sProp 𝕄) (LO : List (View.Piece (Elt F) S128x64x256 .f32)) (LS : List (View.Piece (Elt F) S64x256 .f32)) : Prop :=
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ P10 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS) ∗ (∃ d, owns (c : Thread nD τ) arg11 fullShare d)) -∗ K ⟨⟩))
          ⊢ wp frame (wpE (defs₀ (F := F)) Variants.none c none) E (cc0_bigru_l0 i arg2 harg2 arg3 harg3 arg4 harg4 arg5 harg5 arg6 harg6 arg7 harg7 arg8 harg8 arg9 harg9 arg10 harg10 arg11 harg11) K

set_option maxHeartbeats 1000000 in
/-- At the first chunk of a direction the state scratch may hold anything: the body zeroes it. The pieces are what the run finds. -/
noncomputable def runA (hc0 : isFirst i) :
    Σ' (LO : List (View.Piece (Elt F) S128x64x256 .f32)), { LS : List (View.Piece (Elt F) S64x256 .f32) //
      Triple c i arg2 harg2 arg3 harg3 arg4 harg4 arg5 harg5 arg6 harg6 arg7 harg7 arg8 harg8 arg9 harg9 arg10 harg10 arg11 harg11 x0 x1 x2 x3 x4 x5 x6
        iprop(∃ d, owns (c : Thread nD τ) arg10 fullShare d) LO LS } := by
  refine ⟨?_, ?_, fun E K => ?run⟩
  case run =>
    simp only [cc0_bigru_l0_eq_skeleton]; unfold cc0_bigru_l0_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]; · iexists _; iexact HS0
    iexists _, _; isplitr; swap; · iexact HS1
    ipureintro; rfl

set_option maxHeartbeats 1000000 in
/-- At any other chunk the state scratch holds what the chunk before left, `xs`. The pieces are what the run finds. -/
noncomputable def runB (xs : Vec F S64x256 .f32) (hc0 : ¬isFirst i) :
    Σ' (LO : List (View.Piece (Elt F) S128x64x256 .f32)), { LS : List (View.Piece (Elt F) S64x256 .f32) //
      Triple c i arg2 harg2 arg3 harg3 arg4 harg4 arg5 harg5 arg6 harg6 arg7 harg7 arg8 harg8 arg9 harg9 arg10 harg10 arg11 harg11 x0 x1 x2 x3 x4 x5 x6
        (owns (c : Thread nD τ) arg10 fullShare xs) LO LS } := by
  refine ⟨?_, ?_, fun E K => ?run⟩
  case run =>
    simp only [cc0_bigru_l0_eq_skeleton]; unfold cc0_bigru_l0_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]; · iexists _; iexact HS0
    iexists _, _; isplitr; swap; · iexact HS1
    ipureintro; rfl

end Cert.Kernel0Ideal.L0

end
-- ==== Proof.L0.Trips.lean ====
module

public import proofs.«01_k».proof.Proof.L0.Run
public import Idealize.ShloMosaic.Lib.Writes
public import Idealize.ShloMosaic.Lib.WritesUnit

@[expose] public section

set_option maxRecDepth 112784

noncomputable section

namespace Cert.Kernel0Ideal.L0

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S128x64 .i32) (harg2 : arg2.IsWhole) (arg3 : Memref sig .tc .vmem S64x1 .i32) (harg3 : arg3.IsWhole) (arg4 : Memref sig .tc .vmem S21x128 .f32) (harg4 : arg4.IsWhole) (arg5 : Memref sig .tc .vmem S1x768x128 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S128x64x256 .f32) (harg9 : arg9.IsWhole) (arg10 : Memref sig .tc .vmem S64x256 .f32) (harg10 : arg10.IsWhole) (arg11 : Memref sig .tc .vmem S128x64x768 .f32) (harg11 : arg11.IsWhole)

/-! ## The counted loop: its state as a recursion over the payloads, its stores as one list -/

theorem trips_eq : k0_t1_loop.trips = 128 := by decide

/-- Trip `k`'s row of the chunk: forwards for direction 0, backwards for direction 1. -/
def rowOf (i : grid0.Coords) (k : ℕ) : ℕ := if (i 0).val = 0 then k else 127 - k

theorem word_eq (i : grid0.Coords) {k : ℕ} (hk : k < 128) :
    Scalar.addi (Scf.iv 0#32 1#32 k) (Scalar.muli (BitVec.ofNat 32 (i 0).val) (Scalar.subi 127#32 (Scalar.muli 2#32 (Scf.iv 0#32 1#32 k))))
      = BitVec.ofNat 32 (rowOf i k) := by
  have hi : (i 0).val < 2 := (i 0).isLt
  have hv : Scf.iv 0#32 1#32 k = BitVec.ofNat 32 k := by simp [Scf.iv]
  rw [hv]
  unfold rowOf
  simp only [Scalar.addi, Scalar.muli, Scalar.subi, IntOp.addi, IntOp.muli, IntOp.subi]
  rcases (by omega : (i 0).val = 0 ∨ (i 0).val = 1) with h | h
  · rw [h, if_pos rfl]; simp
  · rw [h, if_neg (by decide)]
    apply BitVec.eq_of_toNat_eq
    simp only [BitVec.toNat_add, BitVec.toNat_mul, BitVec.toNat_sub, BitVec.toNat_ofNat]
    omega

theorem off2_eq (i : grid0.Coords) (k : Fin k0_t1_loop.trips) : k0_off2 i k = ![rowOf i k.val, 0, 0] := by
  have hk : k.val < 128 := trips_eq ▸ k.isLt
  have h := congrArg BitVec.toNat (word_eq i hk)
  have hr : rowOf i k.val < 2 ^ 32 := by unfold rowOf; split <;> omega
  rw [BitVec.toNat_ofNat, Nat.mod_eq_of_lt hr] at h
  rw [← h]; rfl

theorem off1_eq (i : grid0.Coords) (k : Fin k0_t1_loop.trips) : k0_off1 i k = ![rowOf i k.val, 0, 0] :=
  Eq.trans rfl (off2_eq i k)

/-- Trip `k`'s row of the row scratch, as the trip loads it. -/
def rowLoad (X : BufTy.Contents (Elt F) arg11.view.ty) (k : Fin k0_t1_loop.trips) : Vec F S1x64x768 .f32 :=
  arg11.view.readAt (Elt F) (Rect.unit (s := S128x64x768) (k0_off1 i k) S1x64x768.size (k0_off1_inb i k)).toLoadRect X

variable (arg0 : BitVec 32) (v4 : BitVec 32) (v66 : Vec F S64x1 .i32) (v68 : Vec F S1x256x768 .f32) (v70 : Vec F S1x1x768 .f32) (X : BufTy.Contents (Elt F) arg11.view.ty) (init : Vec F S64x256 .f32)

/-- The carried state before trip `k`. -/
def hs (g : Fin k0_t1_loop.trips → Vec F S1x64x768 .f32) : ℕ → Vec F S64x256 .f32
  | 0 => init
  | k + 1 => if h : k < k0_t1_loop.trips then k0_pay4 arg0 v4 v66 v68 v70 ⟨k, h⟩ (hs g k) (g ⟨k, h⟩) else hs g k

/-- What trip `k` stores into the output's block. -/
def pieceOf (g : Fin k0_t1_loop.trips → Vec F S1x64x768 .f32) (k : Fin k0_t1_loop.trips) : View.Piece (Elt F) S128x64x256 .f32 :=
  ⟨Rect.unit (s := S128x64x256) (k0_off2 i k) S1x64x256.size (k0_off2_inb i k), k0_pay3 arg0 v4 v66 v68 v70 k (hs arg0 v4 v66 v68 v70 init g k.val) (g k)⟩

theorem st_fst (k : ℕ) (hk : k ≤ k0_t1_loop.trips) :
    (st_k0_t1 Variants.none c none i arg2 harg2 arg3 harg3 arg4 harg4 arg5 harg5 arg6 harg6 arg7 harg7 arg8 harg8 arg9 harg9 arg10 harg10 arg11 harg11 arg0 v4 v66 v68 v70 X init k).1
      = hs arg0 v4 v66 v68 v70 init (rowLoad i arg11 X) k := by
  induction k with
  | zero => rfl
  | succ k ih =>
    have h : k < k0_t1_loop.trips := hk
    rw [st_k0_t1_succ (k := ⟨k, h⟩), hs, dif_pos h, ← ih h.le]
    dsimp only [tripR_k0_t1]
    unfold trip_k0_t1
    rfl

theorem st_snd (k : ℕ) (hk : k ≤ k0_t1_loop.trips) :
    (st_k0_t1 Variants.none c none i arg2 harg2 arg3 harg3 arg4 harg4 arg5 harg5 arg6 harg6 arg7 harg7 arg8 harg8 arg9 harg9 arg10 harg10 arg11 harg11 arg0 v4 v66 v68 v70 X init k).2
      = ((List.finRange k).map fun j => pieceOf i arg0 v4 v66 v68 v70 init (rowLoad i arg11 X) (j.castLE hk)).reverse := by
  induction k with
  | zero => rfl
  | succ k ih =>
    have h : k < k0_t1_loop.trips := hk
    rw [st_k0_t1_succ (k := ⟨k, h⟩), List.finRange_succ_last]
    simp only [List.map_append, List.map_map, List.reverse_append, List.map_cons, List.map_nil, List.reverse_cons, List.reverse_nil, List.nil_append]
    rw [ih h.le, st_fst (hk := h.le)]
    dsimp only [tripL_k0_t1]
    unfold trip_k0_t1
    rfl

end Cert.Kernel0Ideal.L0

end
-- ==== Proof.L0.Point.lean ====
module

public import proofs.«01_k».proof.Proof.L0.Trips
public import Idealize.ShloMosaic.Lib.VecWindow
public import Idealize.ShloMosaic.Lib.Pipeline.FrameBody

@[expose] public section

set_option maxRecDepth 16384

noncomputable section

namespace Cert.Kernel0Ideal.L0

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What one grid point computes, as functions of its blocks -/

/-- The four stores that fill the row scratch: thirty-two rows of the input projection each, picked from the projected
    embedding table. -/
def giL (x0 : Vec F S128x64 .i32) (x2 : Vec F S21x128 .f32) (x3 : Vec F S1x768x128 .f32) (x4 : Vec F S1x1x768 .f32) :
    List (View.Piece (Elt F) S128x64x768 .f32) :=
  [⟨Rect.unit (s := S128x64x768) ![96, 0, 0] S32x64x768.size inb_S128x64x768_S32x64x768_96_0_0,
      k0_pay12 (k0_pay7 x2 x3 x4) (View.ld (Val := Elt F) x0 (Rect.unit (s := S128x64) ![96, 0] S32x64.size inb_S128x64_S32x64_96_0))⟩,
    ⟨Rect.unit (s := S128x64x768) ![64, 0, 0] S32x64x768.size inb_S128x64x768_S32x64x768_64_0_0,
      k0_pay11 (k0_pay7 x2 x3 x4) (View.ld (Val := Elt F) x0 (Rect.unit (s := S128x64) ![64, 0] S32x64.size inb_S128x64_S32x64_64_0))⟩,
    ⟨Rect.unit (s := S128x64x768) ![32, 0, 0] S32x64x768.size inb_S128x64x768_S32x64x768_32_0_0,
      k0_pay10 (k0_pay7 x2 x3 x4) (k0_pay9 (View.ld (Val := Elt F) x0 (Rect.unit (s := S128x64) ![32, 0] S32x64.size inb_S128x64_S32x64_32_0))) (iota .tc S32x64x21 32 [2] iota_S32x64x21_d2_w32)⟩,
    ⟨Rect.unit (s := S128x64x768) ![0, 0, 0] S32x64x768.size inb_S128x64x768_S32x64x768_0_0_0,
      k0_pay8 x2 x3 x4 (View.ld (Val := Elt F) x0 (Rect.unit (s := S128x64) ![0, 0] S32x64.size inb_S128x64_S32x64_0_0))⟩]

/-- The chunk's input projection, as the row scratch holds it. -/
def gi (x0 : Vec F S128x64 .i32) (x2 : Vec F S21x128 .f32) (x3 : Vec F S1x768x128 .f32) (x4 : Vec F S1x1x768 .f32) : Vec F S128x64x768 .f32 :=
  View.canon (giL x0 x2 x3 x4)

/-- Trip `k`'s row of it. -/
def giRow (i : grid0.Coords) (g : Vec F S128x64x768 .f32) (k : Fin k0_t1_loop.trips) : Vec F S1x64x768 .f32 :=
  fun y => g ((Rect.unit (s := S128x64x768) (k0_off1 i k) S1x64x768.size (k0_off1_inb i k)).toLoadRect.idx y)

/-- The first time step of the point's chunk, as the body computes it. -/
abbrev chunkWord (i : grid0.Coords) : BitVec 32 :=
  Scalar.muli (Scalar.addi (BitVec.ofNat 32 (i 1).val) (Scalar.muli (BitVec.ofNat 32 (i 0).val) (Scalar.subi 15#32 (Scalar.muli 2#32 (BitVec.ofNat 32 (i 1).val))))) 128#32

variable (i : grid0.Coords)
  (x0 : Vec F S128x64 .i32) (x1 : Vec F S64x1 .i32) (x2 : Vec F S21x128 .f32) (x3 : Vec F S1x768x128 .f32) (x4 : Vec F S1x1x768 .f32) (x5 : Vec F S1x256x768 .f32) (x6 : Vec F S1x1x768 .f32)
  (init : Vec F S64x256 .f32)

/-- The state before trip `k` of the point's chunk, entered at `init`. -/
def hAt (k : ℕ) : Vec F S64x256 .f32 :=
  hs (BitVec.ofNat 32 (i 0).val) (chunkWord i) x1 x5 x6 init (giRow i (gi x0 x2 x3 x4)) k

/-- The chunk's stores into the output's block, last first. -/
def outL : List (View.Piece (Elt F) S128x64x256 .f32) :=
  ((List.finRange k0_t1_loop.trips).map fun k => pieceOf i (BitVec.ofNat 32 (i 0).val) (chunkWord i) x1 x5 x6 init (giRow i (gi x0 x2 x3 x4)) k).reverse

/-- The output's block after the point. -/
def outV : Vec F S128x64x256 .f32 := View.canon (outL i x0 x1 x2 x3 x4 x5 x6 init)

/-- The state scratch after the point. -/
def hV : Vec F S64x256 .f32 := k0_pay5 (hAt i x0 x1 x2 x3 x4 x5 x6 init k0_t1_loop.trips)

theorem outL_cover (y : S128x64x256.Idx) : ∃ p ∈ outL i x0 x1 x2 x3 x4 x5 x6 init, y ∈ p.1.set := by
  have hk : rowOf i (y 0).val < 128 := by have : (y 0).val < 128 := (y 0).isLt; unfold rowOf; split <;> omega
  refine ⟨_, List.mem_reverse.2 (List.mem_map.2 ⟨⟨rowOf i (y 0).val, trips_eq ▸ hk⟩, List.mem_finRange _, rfl⟩), ?_⟩
  unfold pieceOf
  rw [Rect.mem_set_unit]
  have hr : rowOf i (rowOf i (y 0).val) = (y 0).val := by have : (y 0).val < 128 := (y 0).isLt; unfold rowOf; split <;> omega
  intro a
  rw [off2_eq]
  have h0 : (y 0).val < 128 := (y 0).isLt
  have h1 : (y 1).val < 64 := (y 1).isLt
  have h2 : (y 2).val < 256 := (y 2).isLt
  fin_cases a
  · exact ⟨hr.le, by show (y 0).val < rowOf i (rowOf i (y 0).val) + 1; omega⟩
  · exact ⟨Nat.zero_le _, by show (y 1).val < 0 + 64; omega⟩
  · exact ⟨Nat.zero_le _, by show (y 2).val < 0 + 256; omega⟩

variable (c : Dev nD) (arg2 : Memref sig .tc .vmem S128x64 .i32) (harg2 : arg2.IsWhole) (arg3 : Memref sig .tc .vmem S64x1 .i32) (harg3 : arg3.IsWhole) (arg4 : Memref sig .tc .vmem S21x128 .f32) (harg4 : arg4.IsWhole) (arg5 : Memref sig .tc .vmem S1x768x128 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S128x64x256 .f32) (harg9 : arg9.IsWhole) (arg10 : Memref sig .tc .vmem S64x256 .f32) (harg10 : arg10.IsWhole) (arg11 : Memref sig .tc .vmem S128x64x768 .f32) (harg11 : arg11.IsWhole)

theorem row_eq (L : List (View.Piece (Elt F) S128x64x768 .f32)) :
    rowLoad i arg11 (arg11.view.writes (Elt F) arg11.view.junk L) = giRow i (View.canon L) :=
  funext fun k => View.readAt_writes_junk_eq_canon arg11.view L _

theorem ld_eq {s : Shape} {e : EltTy} {m : Memref sig .tc .vmem s e} (h : m.IsWhole) (x : Vec F s e) (r : Rect s) :
    m.view.readAt (Elt F) r.toLoadRect (h.unread x) = View.ld (Val := Elt F) x r := by
  rw [View.readAt_eq_ld, h.read_unread]

theorem full_eq {s : Shape} {e : EltTy} {m : Memref sig .tc .vmem s e} (h : m.IsWhole) (x : Vec F s e) {off : Fin s.rank → ℕ}
    (inb : ∀ a, off a + s.size a ≤ s.size a) :
    m.view.readAt (Elt F) (Rect.unit off s.size inb).toLoadRect (h.unread x) = x := by
  rw [View.readAt_full, h.read_unread]

theorem runA_gi : runA.sl.HS1_4 c arg2 harg2 arg4 harg4 arg5 harg5 arg6 harg6 x0 x2 x3 x4 = giL x0 x2 x3 x4 := by
  unfold runA.sl.HS1_4 giL runA.sl.r_1 runA.sl.r runA.sl.v33
  rw [full_eq harg6 x4 inb_S1x1x768_S1x1x768_0_0_0, full_eq harg4 x2 inb_S21x128_S21x128_0_0, full_eq harg5 x3 inb_S1x768x128_S1x768x128_0_0_0]
  simp only [ld_eq]

theorem runA_init : runA.sl.v78 (F := F) c arg10 = (k0_pay6 : Vec F S64x256 .f32) := by
  unfold runA.sl.v78
  unfold runA.sl.HS0_1
  generalize (k0_pay6 : FVec F S64x256 .f32) = w
  exact View.readCov_cons_toLoadRect (Val := Elt F) arg10.view (Rect.unit (s := S64x256) ![0, 0] S64x256.size inb_S64x256_S64x256_0_0) w []

theorem runA_out (hc0 : isFirst i) : (runA c i arg2 harg2 arg3 harg3 arg4 harg4 arg5 harg5 arg6 harg6 arg7 harg7 arg8 harg8 arg9 harg9 arg10 harg10 arg11 harg11 x0 x1 x2 x3 x4 x5 x6 hc0).1 = outL i x0 x1 x2 x3 x4 x5 x6 k0_pay6 := by
  refine Eq.trans (st_snd c i arg2 harg2 arg3 harg3 arg4 harg4 arg5 harg5 arg6 harg6 arg7 harg7 arg8 harg8 arg9 harg9 arg10 harg10 arg11 harg11 _ _ _ _ _ _ _ k0_t1_loop.trips le_rfl) ?_
  rw [row_eq, runA_gi, runA.sl.r_2, runA_init, full_eq harg3 x1 inb_S64x1_S64x1_0_0, full_eq harg7 x5 inb_S1x256x768_S1x256x768_0_0_0,
    full_eq harg8 x6 inb_S1x1x768_S1x1x768_0_0_0]
  rfl

theorem runA_st (hc0 : isFirst i) (v : View sig .tc .vmem S64x256 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 x0 x1 x2 x3 x4 x5 x6 hc0).2.1) = hV i x0 x1 x2 x3 x4 x5 x6 k0_pay6 := by
  refine (View.read_writes_full v f inb_S64x256_S64x256_0_0 _ _).trans ?_
  refine congrArg k0_pay5 (Eq.trans (st_fst c i arg2 harg2 arg3 harg3 arg4 harg4 arg5 harg5 arg6 harg6 arg7 harg7 arg8 harg8 arg9 harg9 arg10 harg10 arg11 harg11 _ _ _ _ _ _ _ k0_t1_loop.trips le_rfl) ?_)
  rw [row_eq, runA_gi, runA.sl.r_2, runA_init, full_eq harg3 x1 inb_S64x1_S64x1_0_0, full_eq harg7 x5 inb_S1x256x768_S1x256x768_0_0_0,
    full_eq harg8 x6 inb_S1x1x768_S1x1x768_0_0_0]
  rfl

theorem runB_gi : runB.sl.HS1_4 c arg2 harg2 arg4 harg4 arg5 harg5 arg6 harg6 x0 x2 x3 x4 = giL x0 x2 x3 x4 := by
  unfold runB.sl.HS1_4 giL runB.sl.r_1 runB.sl.r runB.sl.v33
  rw [full_eq harg6 x4 inb_S1x1x768_S1x1x768_0_0_0, full_eq harg4 x2 inb_S21x128_S21x128_0_0, full_eq harg5 x3 inb_S1x768x128_S1x768x128_0_0_0]
  simp only [ld_eq]

theorem runB_out (xs : Vec F S64x256 .f32) (hc0 : ¬isFirst i) : (runB c i arg2 harg2 arg3 harg3 arg4 harg4 arg5 harg5 arg6 harg6 arg7 harg7 arg8 harg8 arg9 harg9 arg10 harg10 arg11 harg11 x0 x1 x2 x3 x4 x5 x6 xs hc0).1 = outL i x0 x1 x2 x3 x4 x5 x6 xs := by
  refine Eq.trans (st_snd c i arg2 harg2 arg3 harg3 arg4 harg4 arg5 harg5 arg6 harg6 arg7 harg7 arg8 harg8 arg9 harg9 arg10 harg10 arg11 harg11 _ _ _ _ _ _ _ k0_t1_loop.trips le_rfl) ?_
  rw [row_eq, runB_gi, runB.sl.r_2, full_eq harg10 xs inb_S64x256_S64x256_0_0, full_eq harg3 x1 inb_S64x1_S64x1_0_0, full_eq harg7 x5 inb_S1x256x768_S1x256x768_0_0_0,
    full_eq harg8 x6 inb_S1x1x768_S1x1x768_0_0_0]
  rfl

theorem runB_st (xs : Vec F S64x256 .f32) (hc0 : ¬isFirst i) (v : View sig .tc .vmem S64x256 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 x0 x1 x2 x3 x4 x5 x6 xs hc0).2.1) = hV i x0 x1 x2 x3 x4 x5 x6 xs := by
  refine (View.read_writes_full v f inb_S64x256_S64x256_0_0 _ _).trans ?_
  refine congrArg k0_pay5 (Eq.trans (st_fst c i arg2 harg2 arg3 harg3 arg4 harg4 arg5 harg5 arg6 harg6 arg7 harg7 arg8 harg8 arg9 harg9 arg10 harg10 arg11 harg11 _ _ _ _ _ _ _ k0_t1_loop.trips le_rfl) ?_)
  rw [row_eq, runB_gi, runB.sl.r_2, full_eq harg10 xs inb_S64x256_S64x256_0_0, full_eq harg3 x1 inb_S64x1_S64x1_0_0, full_eq harg7 x5 inb_S1x256x768_S1x256x768_0_0_0,
    full_eq harg8 x6 inb_S1x1x768_S1x1x768_0_0_0]
  rfl

end Cert.Kernel0Ideal.L0

end
-- ==== Proof.L0.Body.lean ====
module

public import proofs.«01_k».proof.Proof.L0.Point

@[expose] public section

set_option maxRecDepth 16384

noncomputable section

namespace Cert.Kernel0Ideal.L0

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Triple

variable (c : Dev nD) (i : grid0.Coords) (arg2 : Memref sig .tc .vmem S128x64 .i32) (harg2 : arg2.IsWhole) (arg3 : Memref sig .tc .vmem S64x1 .i32) (harg3 : arg3.IsWhole) (arg4 : Memref sig .tc .vmem S21x128 .f32) (harg4 : arg4.IsWhole) (arg5 : Memref sig .tc .vmem S1x768x128 .f32) (harg5 : arg5.IsWhole) (arg6 : Memref sig .tc .vmem S1x1x768 .f32) (harg6 : arg6.IsWhole) (arg7 : Memref sig .tc .vmem S1x256x768 .f32) (harg7 : arg7.IsWhole) (arg8 : Memref sig .tc .vmem S1x1x768 .f32) (harg8 : arg8.IsWhole) (arg9 : Memref sig .tc .vmem S128x64x256 .f32) (harg9 : arg9.IsWhole) (arg10 : Memref sig .tc .vmem S64x256 .f32) (harg10 : arg10.IsWhole) (arg11 : Memref sig .tc .vmem S128x64x768 .f32) (harg11 : arg11.IsWhole)
  (x0 : Vec F S128x64 .i32) (x1 : Vec F S64x1 .i32) (x2 : Vec F S21x128 .f32) (x3 : Vec F S1x768x128 .f32) (x4 : Vec F S1x1x768 .f32) (x5 : Vec F S1x256x768 .f32) (x6 : Vec F S1x1x768 .f32)
  (h0 : Vec F S64x256 .f32)

/-- The state scratch as the point is entered: at anything when the point zeroes it, else at `h0`. -/
def entry : sProp 𝕄 := if isFirst i then iprop(∃ d, owns (c : Thread nD τ) arg10 fullShare d) else owns (c : Thread nD τ) arg10 fullShare h0

/-- The body at one grid point: from its seven blocks and the state `h0` (zero at the first chunk of a direction) it leaves
    the output's block at `outV` and the state scratch at `hV`. -/
theorem body_triple (hz : isFirst i → h0 = k0_pay6) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ entry c i arg10 h0 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outV i x0 x1 x2 x3 x4 x5 x6 h0) ∗ owns (c : Thread nD τ) arg10 fullShare (hV i x0 x1 x2 x3 x4 x5 x6 h0) ∗ (∃ d, owns (c : Thread nD τ) arg11 fullShare d)) -∗ K ⟨⟩))
      ⊢ wp frame (wpE (defs₀ (F := F)) Variants.none c none) E (cc0_bigru_l0 i arg2 harg2 arg3 harg3 arg4 harg4 arg5 harg5 arg6 harg6 arg7 harg7 arg8 harg8 arg9 harg9 arg10 harg10 arg11 harg11) K := by
  unfold entry
  by_cases hc : isFirst i
  · rw [if_pos hc, hz hc]
    iintro ⟨H0, H1, H2, H3, H4, H5, H6, H7, HS0, HS1, Hk⟩
    iapply ((runA c i arg2 harg2 arg3 harg3 arg4 harg4 arg5 harg5 arg6 harg6 arg7 harg7 arg8 harg8 arg9 harg9 arg10 harg10 arg11 harg11 x0 x1 x2 x3 x4 x5 x6 hc).2.2 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, ⟨%eo, H7⟩, ⟨%es, HS0⟩, HS1⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [runA_out]
      exact View.read_writes_eq_canon _ _ _ (outL_cover i x0 x1 x2 x3 x4 x5 x6 _)
    isplitl [HS0]
    · unfold owns; iexists _; isplitr
      swap; · iexact HS0
      ipureintro; exact runA_st (hc0 := hc) (v := arg10.view) (f := es) ..
    iexact HS1
  · rw [if_neg hc]
    iintro ⟨H0, H1, H2, H3, H4, H5, H6, H7, HS0, HS1, Hk⟩
    iapply ((runB c i arg2 harg2 arg3 harg3 arg4 harg4 arg5 harg5 arg6 harg6 arg7 harg7 arg8 harg8 arg9 harg9 arg10 harg10 arg11 harg11 x0 x1 x2 x3 x4 x5 x6 h0 hc).2.2 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, ⟨%eo, H7⟩, ⟨%es, HS0⟩, HS1⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [runB_out]
      exact View.read_writes_eq_canon _ _ _ (outL_cover i x0 x1 x2 x3 x4 x5 x6 _)
    isplitl [HS0]
    · unfold owns; iexists _; isplitr
      swap; · iexact HS0
      ipureintro; exact runB_st (hc0 := hc) (v := arg10.view) (f := es) ..
    iexact HS1

end Triple

/-! ## The pipeline's proof data -/

variable (m : (ℓ : Loc nD τ sig) → Buf (Elt F) ℓ) (ρ : Dev nD → PrngReg)

abbrev ms0 (t : Fin cfg0.N) := win0_0.stage (cfg0.slots t 0)
abbrev hms0 (t : Fin cfg0.N) : (ms0 t).IsWhole := hstage0_0 ((cfg0.slots t 0).cast nbuf0_0)
abbrev ms1 (t : Fin cfg0.N) := win0_1.stage (cfg0.slots t 1)
abbrev hms1 (t : Fin cfg0.N) : (ms1 t).IsWhole := hstage0_1 ((cfg0.slots t 1).cast nbuf0_1)
abbrev ms2 (t : Fin cfg0.N) := win0_2.stage (cfg0.slots t 2)
abbrev hms2 (t : Fin cfg0.N) : (ms2 t).IsWhole := hstage0_2 ((cfg0.slots t 2).cast nbuf0_2)
abbrev ms3 (t : Fin cfg0.N) := win0_3.stage (cfg0.slots t 3)
abbrev hms3 (t : Fin cfg0.N) : (ms3 t).IsWhole := hstage0_3 ((cfg0.slots t 3).cast nbuf0_3)
abbrev ms4 (t : Fin cfg0.N) := win0_4.stage (cfg0.slots t 4)
abbrev hms4 (t : Fin cfg0.N) : (ms4 t).IsWhole := hstage0_4 ((cfg0.slots t 4).cast nbuf0_4)
abbrev ms5 (t : Fin cfg0.N) := win0_5.stage (cfg0.slots t 5)
abbrev hms5 (t : Fin cfg0.N) : (ms5 t).IsWhole := hstage0_5 ((cfg0.slots t 5).cast nbuf0_5)
abbrev ms6 (t : Fin cfg0.N) := win0_6.stage (cfg0.slots t 6)
abbrev hms6 (t : Fin cfg0.N) : (ms6 t).IsWhole := hstage0_6 ((cfg0.slots t 6).cast nbuf0_6)
abbrev ms7 (t : Fin cfg0.N) := win0_7.stage (cfg0.slots t 7)
abbrev hms7 (t : Fin cfg0.N) : (ms7 t).IsWhole := hstage0_7 ((cfg0.slots t 7).cast nbuf0_7)
/-- The state scratch, -/
abbrev scH : Memref sig .tc .vmem S64x256 .f32 := Memref.whole cc0_scratch0
/-- and the row scratch. -/
abbrev scG : Memref sig .tc .vmem S128x64x768 .f32 := Memref.whole cc0_scratch1

theorem isFirst_iff (t : Fin cfg0.N) : isFirst (grid0.coords t) ↔ t.val % 16 = 0 := by
  have ht : t.val < 32 := Nat.lt_of_lt_of_eq t.isLt N_0
  have e1 : (grid0.coords t 1).val = t.val / 1 % 16 := Pipeline.Grid.coords_val t 1 (by decide) rfl
  simp only [isFirst, e1]
  word_cmp

/-- The state with which point `n` is entered: zero at the first chunk of a direction, else what the point before left. -/
def hIn (c : Dev nD) : (n : ℕ) → n < cfg0.N → Vec F S64x256 .f32
  | 0, _ => k0_pay6
  | n + 1, hn => if (n + 1) % 16 = 0 then k0_pay6 else
      hV (grid0.coords ⟨n, Nat.lt_of_succ_lt hn⟩) (iblk m c 0 ⟨n, Nat.lt_of_succ_lt hn⟩) (iblk m c 1 ⟨n, Nat.lt_of_succ_lt hn⟩) (iblk m c 2 ⟨n, Nat.lt_of_succ_lt hn⟩) (iblk m c 3 ⟨n, Nat.lt_of_succ_lt hn⟩) (iblk m c 4 ⟨n, Nat.lt_of_succ_lt hn⟩) (iblk m c 5 ⟨n, Nat.lt_of_succ_lt hn⟩) (iblk m c 6 ⟨n, Nat.lt_of_succ_lt hn⟩) (hIn c n (Nat.lt_of_succ_lt hn))

/-- The state point `t` leaves. -/
def hOut (c : Dev nD) (t : Fin cfg0.N) : Vec F S64x256 .f32 := hV (grid0.coords t) (iblk m c 0 t) (iblk m c 1 t) (iblk m c 2 t) (iblk m c 3 t) (iblk m c 4 t) (iblk m c 5 t) (iblk m c 6 t) (hIn m c t.val t.isLt)

theorem hIn_first (c : Dev nD) (n : ℕ) (hn : n < cfg0.N) (h : n % 16 = 0) : hIn m c n hn = k0_pay6 := by
  cases n with
  | zero => rfl
  | succ n => exact if_pos h

theorem hIn_next (c : Dev nD) (n : ℕ) (hn : n + 1 < cfg0.N) (h : ¬(n + 1) % 16 = 0) :
    hIn m c (n + 1) hn = hOut m c ⟨n, Nat.lt_of_succ_lt hn⟩ := if_neg h

/-- The output's block after point `t`. -/
def outAt (c : Dev nD) (t : Fin cfg0.N) : Vec F S128x64x256 .f32 := outV (grid0.coords t) (iblk m c 0 t) (iblk m c 1 t) (iblk m c 2 t) (iblk m c 3 t) (iblk m c 4 t) (iblk m c 5 t) (iblk m c 6 t) (hIn m c t.val t.isLt)

/-- The region's invariant: both scratch buffers at anything before the first point; afterwards the state scratch at what the
    point before left. -/
def inv (c : Dev nD) : (n : ℕ) → n ≤ cfg0.N → sProp 𝕄
  | 0, _ => Pipeline.ΦA spec0 c
  | n + 1, hn => iprop(iprop(owns (c : Thread nD τ) scH fullShare (hOut m c ⟨n, hn⟩) ∗ (∃ d, owns (c : Thread nD τ) scG fullShare d)) ∗ (∃ r, prngReg c r))

theorem inv_succ (c : Dev nD) (t : Fin cfg0.N) :
    inv m c (t.val + 1) t.isLt = iprop(iprop(owns (c : Thread nD τ) scH fullShare (hOut m c t) ∗ (∃ d, owns (c : Thread nD τ) scG fullShare d)) ∗ (∃ r, prngReg c r)) := rfl

theorem launch_inv (c : Dev nD) :
    (Pipeline.ΦA spec0 c : sProp 𝕄)
      = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

/-- The invariant before point `t` is the body's entry condition, the row scratch and the register. -/
theorem inv_entry (c : Dev nD) (t : Fin cfg0.N) :
    inv m c t.val t.isLt.le ⊢ iprop(iprop(entry c (grid0.coords t) scH (hIn m c t.val t.isLt) ∗ (∃ d, owns (c : Thread nD τ) scG fullShare d)) ∗ (∃ r, prngReg c r)) := by
  obtain ⟨n, hn⟩ := t
  unfold entry
  cases n with
  | zero =>
    rw [if_pos ((isFirst_iff ⟨0, hn⟩).2 rfl), ← launch_inv]
    exact .rfl
  | succ n =>
    by_cases hf : (n + 1) % 16 = 0
    · rw [if_pos ((isFirst_iff ⟨n + 1, hn⟩).2 hf)]
      show iprop(iprop(owns (c : Thread nD τ) scH fullShare (hOut m c ⟨n, _⟩) ∗ _) ∗ _) ⊢ _
      iintro ⟨⟨HS0, HS1⟩, Hg⟩
      isplitl [HS0 HS1]
      · isplitl [HS0]
        · iexists _; iexact HS0
        iexact HS1
      iexact Hg
    · rw [if_neg fun h => hf ((isFirst_iff ⟨n + 1, hn⟩).1 h), hIn_next m c n hn hf]
      exact .rfl

/-- The proof data: the arrays as the region finds them; after the body at point `t` each input's buffer at its block and the
    output's at `outAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.succ = inv m c (t.val + 1) t.isLt from rfl, inv_castSucc, inv_succ]
  refine Idealize.SL.BI.BIBase.Entails.trans (sep_mono_left (inv_entry m c t)) ?_
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c (grid0.coords t) (ms0 t) (hms0 t) (ms1 t) (hms1 t) (ms2 t) (hms2 t) (ms3 t) (hms3 t) (ms4 t) (hms4 t) (ms5 t) (hms5 t) (ms6 t) (hms6 t) (ms7 t) (hms7 t) scH (Memref.isWhole_whole _) scG (Memref.isWhole_whole _) (iblk m c 0 t) (iblk m c 1 t) (iblk m c 2 t) (iblk m c 3 t) (iblk m c 4 t) (iblk m c 5 t) (iblk m c 6 t) (hIn m c t.val t.isLt)
    (fun h => hIn_first m c t.val t.isLt ((isFirst_iff t).1 h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = inv m c (31 + 1) (by rw [show cfg0.N = 32 from N_0]) from rfl, launch_inv]
  show iprop(iprop(owns (c : Thread nD τ) scH fullShare (hOut m c ⟨31, _⟩) ∗ _) ∗ _) ⊢ _
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- From any memory with zero counters every weakly fair execution ends, with every array of the launch at what the proof data
    says, every other buffer as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c w => by unfold Dat.share; split <;> rfl)
    (howed := fun _ _ => rfl) (V := V m) (hmain := hmain m Variants.none) (hA := A_eq m) (hin := hin m) (hout := hout m)

end Cert.Kernel0Ideal.L0

end
-- ==== Proof.L0.Frames.lean ====
module

public import proofs.«01_k».proof.Proof.L0.Body
public import proofs.«01_k».proof.Proof.Gen.Kernel0.Frame
public import Idealize.ShloMosaic.Lib.Claim

@[expose] public section

set_option maxRecDepth 16384

/-! # The frames of the two prints of the kernel

The two prints have one text, so the run proved of one is the run of the other: the body, the configurations and `main` are equal
as they stand, and the body tables by cases on their one label. -/

noncomputable section

namespace Cert.Kernel0Ideal.L0

open Cert.Kernel0Ideal Cert.Kernel0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel0Ideal.L0

namespace Cert.Kernel0.L0

open Idealize.ShloMosaic Idealize.ShloMosaic.TcCoe Idealize.SL.Sem

variable {F : FTy → Type} [FloatOps F]

instance : Cert.Kernel0.Facts := Cert.Kernel0.Gen.facts
instance : Cert.Kernel0Ideal.Facts := Cert.Kernel0Ideal.Gen.facts

theorem body_same : @Cert.Kernel0.cc0_bigru_l0 F _ _ = @Cert.Kernel0Ideal.cc0_bigru_l0 F _ _ := rfl

theorem main_same : Cert.Kernel0.main (F := F) = Cert.Kernel0Ideal.main (F := F) := rfl

theorem table_same : @Cert.Kernel0.defs₀ F _ _ = @Cert.Kernel0Ideal.defs₀ F _ _ := by
  unfold Cert.Kernel0.defs₀ Cert.Kernel0Ideal.defs₀
  refine congrArg Defs.onTc (funext fun l => funext fun a => ?_)
  match l, a with
  | 0, (t, s) => exact rfl
  | ⟨_ + 1, h⟩, _ => exact absurd h (Nat.not_lt.2 (Nat.le_add_left _ _))

theorem defs_same : @Cert.Kernel0.defs F _ _ = @Cert.Kernel0Ideal.defs F _ _ :=
  congrArg (Pipeline.defs (@Cert.Kernel0Ideal.pcfgs F _)) table_same

variable (m : (ℓ : Loc nD τ sig) → Buf (Elt F) ℓ) (ρ : Dev nD → PrngReg)

theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have h := Cert.Kernel0Ideal.L0.frame (F := F) m ρ
  rw [← defs_same, ← main_same] at h
  exact h

end Cert.Kernel0.L0

end
-- ==== Proof.GruOne.lean ====
module

public import proofs.«01_k».proof.Proof.Gru

@[expose] public section

/-! The recurrence over one input: the first layer's projection and step. -/

open Idealize.ShloMosaic

noncomputable section

namespace Cert.Gru

/-- A token's input projection: its features `u` against the weights. -/
def proj1 (u : Fin 128 → EReal) (w : Fin 768 → Fin 128 → EReal) (c : Gates) : Gates := fun q => (∑ k, u k * w q k) + c q

/-- The step of one direction of one row at a time: the projection of the time's token, then the cell. -/
def layerStep1 (u : ℕ → Fin 128 → EReal) (w : Fin 768 → Fin 128 → EReal) (c : Gates) (w' : Fin 768 → Fin 256 → EReal) (c' : Gates) (t : ℕ) : Row → Row :=
  next w' c' (proj1 (u t) w c)

/-- The table row a token's word names, where it names one. -/
def tokenOf (w : BitVec 32) : Fin 21 := ⟨w.toNat % 21, Nat.mod_lt _ (by decide)⟩

theorem tokenOf_word {w : BitVec 32} (h : w.toNat < 21) : w = BitVec.ofNat 32 (tokenOf w).val := by
  apply BitVec.eq_of_toNat_eq
  show w.toNat = (BitVec.ofNat 32 (w.toNat % 21)).toNat
  rw [Nat.mod_eq_of_lt h, BitVec.toNat_ofNat, Nat.mod_eq_of_lt w.isLt]

end Cert.Gru

end
-- ==== Proof.L0.Value.lean ====
module

public import proofs.«01_k».proof.Proof.Gru
public import proofs.«01_k».proof.Proof.Words
public import proofs.«01_k».proof.Proof.L0.Body
public import Idealize.ShloMosaic.Lib.Pipeline.Value
public import Idealize.ShloMosaic.Lib.Pointwise
public import Idealize.ShloMosaic.Lib.DynamicIndex

@[expose] public section

set_option maxRecDepth 16384

noncomputable section

namespace Cert.Kernel0Ideal.L0

open Cert.Kernel0Ideal Cert.Kernel0Ideal.Gen
open Idealize.ShloMosaic
open Cert (Gru.Row)
open Cert.Gru

/-! ## One grid point over the extended reals -/

section

variable (x0 : Vec Ideal S128x64 .i32) (x1 : Vec Ideal S64x1 .i32) (x2 : Vec Ideal S21x128 .f32) (x3 : Vec Ideal S1x768x128 .f32) (x4 : Vec Ideal S1x1x768 .f32)
  (x5 : Vec Ideal S1x256x768 .f32) (x6 : Vec Ideal S1x1x768 .f32)

/-- The projection of table row `v`: its features against the weights. -/
def proj (v : Fin 21) : Gates := fun q => (∑ k : Fin 128, x2 (ix2 v k) * x3 (ix3 0 q k)) + x4 (ix3 0 0 q)

theorem pay7_apply (v : Fin 21) (q : Fin 768) : k0_pay7 x2 x3 x4 (ix2 v q) = proj x2 x3 x4 v q := by
  pointwise [k0_pay7, proj]

/-- The one-hot entry of a token word at table row `v`. -/
def hot (w : BitVec 32) (v : Fin 21) : EReal := FloatOps.sitofp (F := Ideal) .f32 ((IntOp.cmpi .eq w (BitVec.ofNat 32 v.val)).setWidth 32)

theorem hot_eq (n v : Fin 21) : hot (BitVec.ofNat 32 n.val) v = if v = n then 1 else 0 := by
  have h : ∀ n v : Fin 21, ((IntOp.cmpi .eq (BitVec.ofNat 32 n.val) (BitVec.ofNat 32 v.val)).setWidth 32 : BitVec 32) = if v = n then 1#32 else 0#32 := by decide +kernel
  unfold hot
  rw [h]
  split
  · show ((((1#32 : BitVec 32).toInt : ℝ)) : EReal) = 1
    norm_num
  · show ((((0#32 : BitVec 32).toInt : ℝ)) : EReal) = 0
    norm_num

/-- The one-hot row against a column picks the token's entry. -/
theorem hot_sum (n : Fin 21) (f : Fin 21 → EReal) : (∑ v, hot (BitVec.ofNat 32 n.val) v * f v) = f n := by
  rw [Finset.sum_eq_single n (fun v _ hv => by rw [hot_eq, if_neg hv, zero_mul]) (fun h => absurd (Finset.mem_univ n) h), hot_eq, if_pos rfl, one_mul]

theorem emb_row {o : ℕ} (inb : ∀ a, (![o, 0, 0] : Fin 3 → ℕ) a + (![32, 64, 768] : Fin 3 → ℕ) a ≤ S128x64x768.size a) (ho : o + 32 ≤ 128)
    (z0 : Fin 32) (z1 : Fin 64) (z2 : Fin 768) :
    (Rect.unit (s := S128x64x768) ![o, 0, 0] ![32, 64, 768] inb).emb (ix3 z0 z1 z2) = ix3 ⟨o + z0.val, by omega⟩ z1 z2 := by
  funext a
  apply Fin.ext
  match a with
  | ⟨0, _⟩ => show o + 1 * z0.val = o + z0.val; omega
  | ⟨1, _⟩ => show 0 + 1 * z1.val = z1.val; omega
  | ⟨2, _⟩ => show 0 + 1 * z2.val = z2.val; omega

theorem mem_row {o : ℕ} (inb : ∀ a, (![o, 0, 0] : Fin 3 → ℕ) a + (![32, 64, 768] : Fin 3 → ℕ) a ≤ S128x64x768.size a)
    (r : Fin 128) (b : Fin 64) (q : Fin 768) (h1 : o ≤ r.val) (h2 : r.val < o + 32) :
    (ix3 r b q : S128x64x768.Idx) ∈ (Rect.unit (s := S128x64x768) ![o, 0, 0] ![32, 64, 768] inb).set := by
  rw [Rect.mem_set_unit]
  intro a
  match a with
  | ⟨0, _⟩ => exact ⟨h1, h2⟩
  | ⟨1, _⟩ => exact ⟨Nat.zero_le _, by show b.val < 0 + 64; omega⟩
  | ⟨2, _⟩ => exact ⟨Nat.zero_le _, by show q.val < 0 + 768; omega⟩

variable {tok : Fin 128 → Fin 64 → Fin 21} (hx : ∀ r b, x0 (ix2 r b) = BitVec.ofNat 32 (tok r b).val)

include hx in
theorem gi_apply (r : Fin 128) (b : Fin 64) (q : Fin 768) : gi x0 x2 x3 x4 (ix3 r b q) = proj x2 x3 x4 (tok r b) q := by
  unfold gi
  refine (View.canon_apply_of_pieces (Val := Elt Ideal) (fun y => proj x2 x3 x4 (tok (y 0) (y 1)) (y 2)) (giL x0 x2 x3 x4) ?_ (ix3 r b q) ?_)
  · intro p hp
    unfold giL at hp
    simp only [List.mem_cons, List.not_mem_nil, or_false] at hp
    rcases hp with rfl | rfl | rfl | rfl
    · intro z
      idx_vars z
      have hz : 96 + z0.val < 128 := by have h0 : z0.val < 32 := z0.isLt; omega
      refine Eq.trans ?_ (congrArg (fun y : S128x64x768.Idx => proj x2 x3 x4 (tok (y 0) (y 1)) (y 2)) (emb_row inb_S128x64x768_S32x64x768_96_0_0 (by decide) z0 z1 z2)).symm
      refine Eq.trans ?_ ((hot_sum (tok ⟨96 + z0.val, hz⟩ z1) fun v => k0_pay7 x2 x3 x4 (ix2 v z2)).trans (pay7_apply x2 x3 x4 _ z2))
      rw [← hx]
      pointwise [hot, k0_pay12]
    · intro z
      idx_vars z
      have hz : 64 + z0.val < 128 := by have h0 : z0.val < 32 := z0.isLt; omega
      refine Eq.trans ?_ (congrArg (fun y : S128x64x768.Idx => proj x2 x3 x4 (tok (y 0) (y 1)) (y 2)) (emb_row inb_S128x64x768_S32x64x768_64_0_0 (by decide) z0 z1 z2)).symm
      refine Eq.trans ?_ ((hot_sum (tok ⟨64 + z0.val, hz⟩ z1) fun v => k0_pay7 x2 x3 x4 (ix2 v z2)).trans (pay7_apply x2 x3 x4 _ z2))
      rw [← hx]
      pointwise [hot, k0_pay11]
    · intro z
      idx_vars z
      have hz : 32 + z0.val < 128 := by have h0 : z0.val < 32 := z0.isLt; omega
      refine Eq.trans ?_ (congrArg (fun y : S128x64x768.Idx => proj x2 x3 x4 (tok (y 0) (y 1)) (y 2)) (emb_row inb_S128x64x768_S32x64x768_32_0_0 (by decide) z0 z1 z2)).symm
      refine Eq.trans ?_ ((hot_sum (tok ⟨32 + z0.val, hz⟩ z1) fun v => k0_pay7 x2 x3 x4 (ix2 v z2)).trans (pay7_apply x2 x3 x4 _ z2))
      rw [← hx]
      pointwise [hot, k0_pay10, k0_pay9]
    · intro z
      idx_vars z
      have hz : 0 + z0.val < 128 := by have h0 : z0.val < 32 := z0.isLt; omega
      refine Eq.trans ?_ (congrArg (fun y : S128x64x768.Idx => proj x2 x3 x4 (tok (y 0) (y 1)) (y 2)) (emb_row inb_S128x64x768_S32x64x768_0_0_0 (by decide) z0 z1 z2)).symm
      refine Eq.trans ?_ ((hot_sum (tok ⟨0 + z0.val, hz⟩ z1) fun v => k0_pay7 x2 x3 x4 (ix2 v z2)).trans (pay7_apply x2 x3 x4 _ z2))
      rw [← hx]
      pointwise [hot, k0_pay8]
  · unfold giL
    rcases (by omega : 96 ≤ r.val ∨ (64 ≤ r.val ∧ r.val < 96) ∨ (32 ≤ r.val ∧ r.val < 64) ∨ r.val < 32) with h | h | h | h
    · exact ⟨_, List.mem_cons_self, mem_row inb_S128x64x768_S32x64x768_96_0_0 r b q h (by omega)⟩
    · exact ⟨_, List.mem_cons_of_mem _ List.mem_cons_self, mem_row inb_S128x64x768_S32x64x768_64_0_0 r b q h.1 (by omega)⟩
    · exact ⟨_, List.mem_cons_of_mem _ (List.mem_cons_of_mem _ List.mem_cons_self), mem_row inb_S128x64x768_S32x64x768_32_0_0 r b q h.1 (by omega)⟩
    · exact ⟨_, List.mem_cons_of_mem _ (List.mem_cons_of_mem _ (List.mem_cons_of_mem _ List.mem_cons_self)), mem_row inb_S128x64x768_S32x64x768_0_0_0 r b q (Nat.zero_le _) (by omega)⟩

/-- The state's weights and bias as the body reads them. -/
def wRec (q : Fin 768) : Row := fun x => x5 (ix3 0 x q)
def cRec : Gates := fun q => x6 (ix3 0 0 q)

theorem pay1_apply (h : Vec Ideal S64x256 .f32) (g : Vec Ideal S1x64x768 .f32) (b : Fin 64) (j : Fin 256) :
    k0_pay1 x5 x6 h g (ix2 b j) = next (wRec x5) (cRec x6) (fun q => g (ix3 0 b q)) (fun x => h (ix2 b x)) j := by
  pointwise [k0_pay1, next, cell, gates, wRec, cRec]

end

/-! ## The chunk's trips -/

/-- The point's direction, its chunk's number in the array, and the word of a trip's time step. -/
def dir (i : grid0.Coords) : Fin 2 := ⟨(i 0).val, (i 0).isLt⟩
def chunkOf (i : grid0.Coords) : ℕ := if (i 0).val = 0 then (i 1).val else 15 - (i 1).val

theorem time_eq (i : grid0.Coords) {k : ℕ} (hk : k < 128) : 128 * chunkOf i + rowOf i k = time (dir i) (128 * (i 1).val + k) := by
  have h1 : (i 1).val < 16 := (i 1).isLt
  unfold chunkOf rowOf time dir
  by_cases h : (i 0).val = 0
  · simp only [h, if_true]
  · simp only [h, if_false]; omega

theorem chunkWord_eq (i : grid0.Coords) : chunkWord i = BitVec.ofNat 32 (128 * chunkOf i) := by
  have hi : (i 0).val < 2 := (i 0).isLt
  have h1 : (i 1).val < 16 := (i 1).isLt
  unfold chunkOf
  simp only [Scalar.addi, Scalar.muli, Scalar.subi, IntOp.addi, IntOp.muli, IntOp.subi]
  rcases (by omega : (i 0).val = 0 ∨ (i 0).val = 1) with h | h
  · rw [h, if_pos rfl]
    apply BitVec.eq_of_toNat_eq
    simp only [BitVec.toNat_add, BitVec.toNat_mul, BitVec.toNat_sub, BitVec.toNat_ofNat]
    omega
  · rw [h, if_neg (by decide)]
    apply BitVec.eq_of_toNat_eq
    simp only [BitVec.toNat_add, BitVec.toNat_mul, BitVec.toNat_sub, BitVec.toNat_ofNat]
    omega

section

variable (i : grid0.Coords) (x0 : Vec Ideal S128x64 .i32) (x1 : Vec Ideal S64x1 .i32) (x2 : Vec Ideal S21x128 .f32) (x3 : Vec Ideal S1x768x128 .f32) (x4 : Vec Ideal S1x1x768 .f32)
  (x5 : Vec Ideal S1x256x768 .f32) (x6 : Vec Ideal S1x1x768 .f32) (init : Vec Ideal S64x256 .f32)

theorem pay2_apply (k : Fin k0_t1_loop.trips) (b : Fin 64) :
    k0_pay2 (BitVec.ofNat 32 (i 0).val) (chunkWord i) x1 k (ix2 b 0)
      = IntOp.cmpi .slt (BitVec.ofNat 32 (time (dir i) (128 * (i 1).val + k.val))) (x1 (ix2 b 0)) := by
  have hk : k.val < 128 := trips_eq ▸ k.isLt
  have e : Scalar.addi (chunkWord i) (Scalar.addi (Scf.iv 0#32 1#32 k) (Scalar.muli (BitVec.ofNat 32 (i 0).val) (Scalar.subi 127#32 (Scalar.muli 2#32 (Scf.iv 0#32 1#32 k)))))
      = BitVec.ofNat 32 (time (dir i) (128 * (i 1).val + k.val)) := by
    rw [word_eq i hk, chunkWord_eq, ← time_eq i hk]
    exact (BitVec.ofNat_add _ _).symm
  rw [← e]
  pointwise [k0_pay2]

theorem giRow_apply (g : Vec Ideal S128x64x768 .f32) (k : Fin k0_t1_loop.trips) (hk : rowOf i k.val < 128) (b : Fin 64) (q : Fin 768) :
    giRow i g k (ix3 0 b q) = g (ix3 ⟨rowOf i k.val, hk⟩ b q) := by
  unfold giRow
  refine congrArg g ?_
  funext a
  apply Fin.ext
  have e := off1_eq i k
  match a with
  | ⟨0, _⟩ => show k0_off1 i k 0 + 1 * 0 = rowOf i k.val; rw [e]; rfl
  | ⟨1, _⟩ => show k0_off1 i k 1 + 1 * b.val = b.val; rw [e]; show 0 + 1 * b.val = b.val; omega
  | ⟨2, _⟩ => show k0_off1 i k 2 + 1 * q.val = q.val; rw [e]; show 0 + 1 * q.val = q.val; omega

theorem rowOf_lt {k : ℕ} (hk : k < 128) : rowOf i k < 128 := by unfold rowOf; split <;> omega

/-- The point's steps are the layer's. -/
def Steps (tok : Fin 128 → Fin 64 → Fin 21) (f : Fin 64 → ℕ → Row → Row) : Prop :=
  ∀ (b : Fin 64) (k : ℕ) (hk : k < 128),
    f b (time (dir i) (128 * (i 1).val + k)) = next (wRec x5) (cRec x6) (proj x2 x3 x4 (tok ⟨rowOf i k, rowOf_lt i hk⟩ b))

variable {tok : Fin 128 → Fin 64 → Fin 21} (hx : ∀ r b, x0 (ix2 r b) = BitVec.ofNat 32 (tok r b).val)

variable {f : Fin 64 → ℕ → Row → Row} (hf : Steps i x2 x3 x4 x5 x6 tok f)
  (h0 : ∀ (b : Fin 64) (x : Fin 256), init (ix2 b x) = walkA (dir i) (x1 (ix2 b 0)).toInt (f b) (128 * (i 1).val) x)

theorem time_lt' {k : ℕ} (hk : k < 128) : time (dir i) (128 * (i 1).val + k) < 2048 := by
  have h1 : (i 1).val < 16 := (i 1).isLt
  exact time_lt _ (by omega)

include hx hf in
theorem pay1_step (b : Fin 64) (k : Fin k0_t1_loop.trips) (h : Vec Ideal S64x256 .f32) (j : Fin 256) :
    k0_pay1 x5 x6 h (giRow i (gi x0 x2 x3 x4) k) (ix2 b j) = f b (time (dir i) (128 * (i 1).val + k.val)) (fun x => h (ix2 b x)) j := by
  have hk : k.val < 128 := trips_eq ▸ k.isLt
  rw [pay1_apply, hf b k.val hk]
  simp only [giRow_apply i _ k (rowOf_lt i hk), gi_apply x0 x2 x3 x4 hx]

include hx hf h0 in
theorem hAt_row : ∀ k ≤ 128, ∀ (b : Fin 64) (x : Fin 256),
    hAt i x0 x1 x2 x3 x4 x5 x6 init k (ix2 b x) = walkA (dir i) (x1 (ix2 b 0)).toInt (f b) (128 * (i 1).val + k) x
  | 0, _, b, x => h0 b x
  | k + 1, hk, b, x => by
    have hk' : k < k0_t1_loop.trips := trips_eq ▸ (by omega : k < 128)
    have ih := hAt_row k (by omega)
    unfold hAt at ih ⊢
    rw [hs, dif_pos hk']
    generalize hs (BitVec.ofNat 32 (i 0).val) (chunkWord i) x1 x5 x6 init (giRow i (gi x0 x2 x3 x4)) k = h at ih ⊢
    have e : k0_pay4 (BitVec.ofNat 32 (i 0).val) (chunkWord i) x1 x5 x6 ⟨k, hk'⟩ h (giRow i (gi x0 x2 x3 x4) ⟨k, hk'⟩) (ix2 b x)
        = Scalar.select (k0_pay2 (BitVec.ofNat 32 (i 0).val) (chunkWord i) x1 ⟨k, hk'⟩ (ix2 b 0))
            (k0_pay1 x5 x6 h (giRow i (gi x0 x2 x3 x4) ⟨k, hk'⟩) (ix2 b x)) (h (ix2 b x)) := by
      pointwise [k0_pay4]
    rw [e, pay2_apply, select_slt (time_lt' i (show k < 128 by omega)), pay1_step i x0 x2 x3 x4 x5 x6 hx hf]
    rw [walkA, ← Nat.add_assoc, walk_succ]
    have eh : (fun x => h (ix2 b x)) = walkA (dir i) (x1 (ix2 b 0)).toInt (f b) (128 * (i 1).val + k) := funext fun x => ih b x
    rw [eh, ih b x]
    split <;> rfl

include hx hf h0 in
theorem outV_apply (r : Fin 128) (b : Fin 64) (j : Fin 256) :
    outV i x0 x1 x2 x3 x4 x5 x6 init (ix3 r b j) = Gru.out (dir i) (x1 (ix2 b 0)).toInt (f b) (128 * chunkOf i + r.val) j := by
  unfold outV
  refine (View.canon_apply_of_pieces (Val := Elt Ideal)
    (fun y => Gru.out (dir i) (x1 (ix2 (y 1) 0)).toInt (f (y 1)) (128 * chunkOf i + (y 0).val) (y 2)) _ ?_ (ix3 r b j) (outL_cover i x0 x1 x2 x3 x4 x5 x6 init _))
  intro p hp
  obtain ⟨k, -, rfl⟩ := List.mem_map.1 (List.mem_reverse.1 hp)
  have hk : k.val < 128 := trips_eq ▸ k.isLt
  have h1 : (i 1).val < 16 := (i 1).isLt
  intro z
  unfold pieceOf at z ⊢
  idx_vars z
  have hemb : (Rect.unit (s := S128x64x256) (k0_off2 i k) S1x64x256.size (k0_off2_inb i k)).emb (ix3 z0 z1 z2) = ix3 ⟨rowOf i k.val, rowOf_lt i hk⟩ z1 z2 := by
    funext a
    apply Fin.ext
    have e := off2_eq i k
    match a with
    | ⟨0, _⟩ => show k0_off2 i k 0 + 1 * z0.val = rowOf i k.val; rw [e]; show rowOf i k.val + 1 * z0.val = _; omega
    | ⟨1, _⟩ => show k0_off2 i k 1 + 1 * z1.val = z1.val; rw [e]; show 0 + 1 * z1.val = z1.val; omega
    | ⟨2, _⟩ => show k0_off2 i k 2 + 1 * z2.val = z2.val; rw [e]; show 0 + 1 * z2.val = z2.val; omega
  refine Eq.trans ?_ (congrArg (fun y : S128x64x256.Idx => Gru.out (dir i) (x1 (ix2 (y 1) 0)).toInt (f (y 1)) (128 * chunkOf i + (y 0).val) (y 2)) hemb).symm
  have ih := hAt_row i x0 x1 x2 x3 x4 x5 x6 init hx hf h0 k.val (by omega)
  unfold hAt at ih
  show k0_pay3 (BitVec.ofNat 32 (i 0).val) (chunkWord i) x1 x5 x6 k (hs (BitVec.ofNat 32 (i 0).val) (chunkWord i) x1 x5 x6 init (giRow i (gi x0 x2 x3 x4)) k.val)
    (giRow i (gi x0 x2 x3 x4) k) (ix3 z0 z1 z2) = Gru.out (dir i) (x1 (ix2 z1 0)).toInt (f z1) (128 * chunkOf i + rowOf i k.val) z2
  generalize hs (BitVec.ofNat 32 (i 0).val) (chunkWord i) x1 x5 x6 init (giRow i (gi x0 x2 x3 x4)) k.val = h at ih ⊢
  have e : k0_pay3 (BitVec.ofNat 32 (i 0).val) (chunkWord i) x1 x5 x6 k h (giRow i (gi x0 x2 x3 x4) k) (ix3 z0 z1 z2)
      = Scalar.select (k0_pay2 (BitVec.ofNat 32 (i 0).val) (chunkWord i) x1 k (ix2 z1 0))
          (k0_pay1 x5 x6 h (giRow i (gi x0 x2 x3 x4) k) (ix2 z1 z2)) 0 := by
    pointwise [k0_pay3]
  rw [e, pay2_apply, select_slt (time_lt' i hk), pay1_step i x0 x2 x3 x4 x5 x6 hx hf, time_eq i hk]
  unfold Gru.out
  have eh : (fun x => h (ix2 z1 x)) = walkA (dir i) (x1 (ix2 z1 0)).toInt (f z1) (128 * (i 1).val + k.val) := funext fun x => ih z1 x
  rw [eh, time_time _ (by omega)]

include hx hf h0 in
theorem hV_apply (b : Fin 64) (x : Fin 256) :
    hV i x0 x1 x2 x3 x4 x5 x6 init (ix2 b x) = walkA (dir i) (x1 (ix2 b 0)).toInt (f b) (128 * ((i 1).val + 1)) x := by
  have h := hAt_row i x0 x1 x2 x3 x4 x5 x6 init hx hf h0 128 le_rfl b x
  unfold hV
  rw [trips_eq]
  refine Eq.trans ?_ (h.trans (by rw [Nat.mul_add]))
  pointwise [k0_pay5]

theorem pay6_zero (b : Fin 64) (x : Fin 256) : (k0_pay6 (F := Ideal)) (ix2 b x) = 0 := by
  pointwise [k0_pay6]

end

end Cert.Kernel0Ideal.L0

end
-- ==== Proof.L0.Array.lean ====
/-
The first layer's result array over the extended reals: every entry is the masked state of its
direction's walk, in terms of the arguments' entries.
-/
module

public import proofs.«01_k».proof.Proof.GruOne
public import proofs.«01_k».proof.Proof.L0.Value
public import Idealize.ShloMosaic.Lib.Pipeline.ValueKit
import Idealize.ShloMosaic.Lib.Pipeline.Covers
import Idealize.ShloMosaic.Lib.Claim

@[expose] public noncomputable section

set_option maxRecDepth 16384

namespace Cert.Kernel0Ideal.L0

open Cert.Kernel0Ideal Cert.Kernel0Ideal.Gen
open Idealize.ShloMosaic Idealize.ShloMosaic.TcCoe Idealize.ShloMosaic.Tactic
open Idealize.SL.Sem
open Cert (Gru.Row)
open Cert.Gru

variable (m : (ℓ : Loc nD τ sig) → Buf (Elt Ideal) ℓ) (c : Dev nD)

/-! ## The points -/

theorem coords_eq : ∀ t : Fin cfg0.N, (grid0.coords t 0).val = t.val / 16 ∧ (grid0.coords t 1).val = t.val % 16 :=
  (by decide +kernel : ∀ t : Fin grid0.N, _)

theorem idx : ∀ t : Fin cfg0.N,
    win0_0.index t = ![chunkOf (grid0.coords t), 0] ∧ win0_1.index t = ![0, 0] ∧ win0_2.index t = ![0, 0]
      ∧ win0_3.index t = ![t.val / 16, 0, 0] ∧ win0_4.index t = ![t.val / 16, 0, 0] ∧ win0_5.index t = ![t.val / 16, 0, 0]
      ∧ win0_6.index t = ![t.val / 16, 0, 0] ∧ win0_7.index t = ![16 * (t.val / 16) + chunkOf (grid0.coords t), 0, 0] :=
  (by decide +kernel : ∀ t : Fin grid0.N, _)

theorem chunkOf_lt (t : Fin cfg0.N) : chunkOf (grid0.coords t) < 16 := by
  have h1 : (grid0.coords t 1).val < 16 := (grid0.coords t 1).isLt
  unfold chunkOf; split <;> omega

theorem div_lt (t : Fin cfg0.N) : t.val / 16 < 2 := by
  have : t.val < 32 := t.isLt
  omega

/-! ## The arguments -/

/-- The tokens by time and batch row; their rows of the table; the sequence lengths; each direction's weights and biases. -/
def tok (t : ℕ) (b : Fin 64) : Fin 21 := tokenOf (m ((c : Thread nD τ).loc main_arg0) (ix2 b ⟨t % 2048, by omega⟩) : BitVec 32)
def emb (v : Fin 21) (k : Fin 128) : EReal := m ((c : Thread nD τ).loc main_arg2) (ix2 v k)
def len (b : Fin 64) : ℤ := BitVec.toInt (m ((c : Thread nD τ).loc main_arg1) (ix1 b) : BitVec 32)
def wih (d : Fin 2) (q : Fin 768) (k : Fin 128) : EReal := pick d (m ((c : Thread nD τ).loc main_arg3) (ix2 q k)) (m ((c : Thread nD τ).loc main_arg7) (ix2 q k))
def whh (d : Fin 2) (q : Fin 768) (k : Fin 256) : EReal := pick d (m ((c : Thread nD τ).loc main_arg4) (ix2 q k)) (m ((c : Thread nD τ).loc main_arg8) (ix2 q k))
def bih (d : Fin 2) : Gates := fun q => pick d (m ((c : Thread nD τ).loc main_arg5) (ix1 q)) (m ((c : Thread nD τ).loc main_arg9) (ix1 q))
def bhh (d : Fin 2) : Gates := fun q => pick d (m ((c : Thread nD τ).loc main_arg6) (ix1 q)) (m ((c : Thread nD τ).loc main_arg10) (ix1 q))

/-- Every token names a row of the table. -/
def TokensOk : Prop := ∀ (b : Fin 64) (s : Fin 2048), (m ((c : Thread nD τ).loc main_arg0) (ix2 b s) : BitVec 32).toNat < 21

/-- The layer's step of direction `d` at batch row `b`. -/
def stepOf (d : Fin 2) (b : Fin 64) : ℕ → Row → Row :=
  layerStep1 (fun t => emb m c (tok m c t b)) (wih m c d) (bih m c d) (whh m c d) (bhh m c d)

/-- The layer's result at direction `d`, time `t`, batch row `b`, unit `j`. -/
def layerAt (d : Fin 2) (t : ℕ) (b : Fin 64) (j : Fin 256) : EReal := Gru.out d (len m c b) (stepOf m c d b) t j

/-! ## The staged operands -/

theorem V_v0 (s : Fin 2048) (b : Fin 64) : V m c main_v0 (ix2 s b) = m ((c : Thread nD τ).loc main_arg0) (ix2 b s) := by
  entry_read
  pointwise []

theorem V_v1 (b : Fin 64) : V m c main_v1 (ix2 b 0) = m ((c : Thread nD τ).loc main_arg1) (ix1 b) := by
  entry_read
  pointwise []

theorem V_v4 (d : Fin 2) (q : Fin 768) (k : Fin 128) : V m c main_v4 (ix3 d q k) = wih m c d q k := by
  entry_read
  pointwise [wih, pick]
  fin_cases d <;> rfl

theorem V_v13 (d : Fin 2) (k : Fin 256) (q : Fin 768) : V m c main_v13 (ix3 d k q) = whh m c d q k := by
  entry_read
  pointwise [whh, pick]
  fin_cases d <;> rfl

theorem V_v8 (d : Fin 2) (q : Fin 768) : V m c main_v8 (ix3 d 0 q) = bih m c d q := by
  entry_read
  pointwise [bih, pick]
  fin_cases d <;> rfl

theorem V_v17 (d : Fin 2) (q : Fin 768) : V m c main_v17 (ix3 d 0 q) = bhh m c d q := by
  entry_read
  pointwise [bhh, pick]
  fin_cases d <;> rfl

/-! ## The blocks -/

variable (t : Fin cfg0.N)

theorem iblk0 (r : Fin 128) (b : Fin 64) : iblk m c 0 t (ix2 r b)
    = m ((c : Thread nD τ).loc main_arg0) (ix2 b ⟨(128 * chunkOf (grid0.coords t) + r.val) % 2048, by omega⟩) := by
  have := chunkOf_lt t
  rw [← V_v0 m c]
  blk_ext [iblk, idx t]

theorem iblk1 (b : Fin 64) : iblk m c 1 t (ix2 b 0) = m ((c : Thread nD τ).loc main_arg1) (ix1 b) := by
  rw [← V_v1 m c b]
  blk_ext [iblk, idx t]

theorem iblk2 (v : Fin 21) (k : Fin 128) : iblk m c 2 t (ix2 v k) = emb m c v k := by
  unfold emb
  blk_ext [iblk, V_main_arg2, idx t]

theorem iblk3 (q : Fin 768) (k : Fin 128) : iblk m c 3 t (ix3 0 q k) = wih m c ⟨t.val / 16, div_lt t⟩ q k := by
  rw [← V_v4]
  blk_ext [iblk, idx t]

theorem iblk4 (q : Fin 768) : iblk m c 4 t (ix3 0 0 q) = bih m c ⟨t.val / 16, div_lt t⟩ q := by
  rw [← V_v8]
  blk_ext [iblk, idx t]

theorem iblk5 (k : Fin 256) (q : Fin 768) : iblk m c 5 t (ix3 0 k q) = whh m c ⟨t.val / 16, div_lt t⟩ q k := by
  rw [← V_v13]
  blk_ext [iblk, idx t]

theorem iblk6 (q : Fin 768) : iblk m c 6 t (ix3 0 0 q) = bhh m c ⟨t.val / 16, div_lt t⟩ q := by
  rw [← V_v17]
  blk_ext [iblk, idx t]

/-! ## The state and the output of a point -/

theorem dir_eq : dir (grid0.coords t) = ⟨t.val / 16, div_lt t⟩ := Fin.ext (coords_eq t).1

/-- The tokens of the point's block. -/
def blkTok (r : Fin 128) (b : Fin 64) : Fin 21 := tok m c (128 * chunkOf (grid0.coords t) + r.val) b

theorem blkTok_word (hT : TokensOk m c) (r : Fin 128) (b : Fin 64) : iblk m c 0 t (ix2 r b) = BitVec.ofNat 32 (blkTok m c t r b).val := by
  rw [iblk0]
  exact tokenOf_word (hT b _)

theorem steps : Steps (grid0.coords t) (iblk m c 2 t) (iblk m c 3 t) (iblk m c 4 t) (iblk m c 5 t) (iblk m c 6 t)
    (blkTok m c t) (stepOf m c ⟨t.val / 16, div_lt t⟩) := by
  intro b k hk
  rw [← time_eq _ hk]
  funext h j
  unfold stepOf layerStep1
  have e5 : wRec (iblk m c 5 t) = whh m c ⟨t.val / 16, div_lt t⟩ := funext fun q => funext fun x => iblk5 m c t x q
  have e6 : cRec (iblk m c 6 t) = bhh m c ⟨t.val / 16, div_lt t⟩ := funext fun q => iblk6 m c t q
  rw [e5, e6]
  refine congrArg (fun g => next _ _ g h j) ?_
  funext q
  unfold proj1 proj blkTok
  simp only [iblk2, iblk3, iblk4]

variable (hT : TokensOk m c)

include hT in
theorem hIn_row : ∀ (n : ℕ) (hn : n < cfg0.N) (b : Fin 64) (x : Fin 256), hIn m c n hn (ix2 b x)
    = walkA ⟨n / 16, div_lt ⟨n, hn⟩⟩ (len m c b) (stepOf m c ⟨n / 16, div_lt ⟨n, hn⟩⟩ b) (128 * (n % 16)) x
  | 0, hn, b, x => by
    rw [hIn_first m c 0 hn rfl, pay6_zero]; rfl
  | n + 1, hn, b, x => by
    by_cases h : (n + 1) % 16 = 0
    · rw [hIn_first m c (n + 1) hn h, pay6_zero, h]; rfl
    · have hn' : n < cfg0.N := Nat.lt_of_succ_lt hn
      have ed : (n + 1) / 16 = n / 16 := by omega
      have em : (n + 1) % 16 = n % 16 + 1 := by omega
      have ih := hIn_row n hn'
      have hc := coords_eq ⟨n, hn'⟩
      have hd := dir_eq ⟨n, hn'⟩
      have key := hV_apply (grid0.coords ⟨n, hn'⟩) _ (iblk m c 1 ⟨n, hn'⟩) _ _ _ _ _ (hIn m c n hn') (blkTok_word m c ⟨n, hn'⟩ hT) (steps m c ⟨n, hn'⟩)
        (fun b x => by rw [ih b x, hd, hc.2, iblk1]; rfl) b x
      rw [hIn_next m c n hn h]
      unfold hOut
      refine key.trans ?_
      rw [hd, hc.2, iblk1]
      simp only [ed, em]
      rfl

include hT in
theorem outAt_apply (r : Fin 128) (b : Fin 64) (j : Fin 256) : outAt m c t (ix3 r b j)
    = layerAt m c ⟨t.val / 16, div_lt t⟩ (128 * chunkOf (grid0.coords t) + r.val) b j := by
  have hc := coords_eq t
  have hd := dir_eq t
  have key := outV_apply (grid0.coords t) _ (iblk m c 1 t) _ _ _ _ _ (hIn m c t.val t.isLt) (blkTok_word m c t hT) (steps m c t)
    (fun b x => by rw [hIn_row m c hT t.val t.isLt b x, hd, hc.2, iblk1]; rfl) r b j
  unfold outAt
  refine key.trans ?_
  rw [hd, iblk1]
  rfl

/-- The result array: the forward direction's rows, then the backward direction's. -/
def G : Vec Ideal S4096x64x256 .f32 := fun y => layerAt m c ⟨(y 0).val / 2048, by have : (y 0).val < 4096 := (y 0).isLt; omega⟩ ((y 0).val % 2048) (y 1) (y 2)

theorem index7 : ∀ i : grid0.Coords, cc0_transform_7 i = ![16 * (i 0).val + chunkOf i, 0, 0] := by decide +kernel

/-- The point that writes block `b`. -/
def pointAt (b : Fin 32) : grid0.Coords
  | ⟨0, _⟩ => ⟨b.val / 16, by show b.val / 16 < 2; omega⟩
  | ⟨1, _⟩ => ⟨if b.val / 16 = 0 then b.val % 16 else 15 - b.val % 16, by show _ < 16; split <;> omega⟩

theorem pointAt_index : ∀ b : Fin 32, cc0_transform_7 (pointAt b) = ![b.val, 0, 0] := by decide +kernel

theorem nblk7 : (cfg0.win 7).nblk (0 : Fin 3) = 32 ∧ (cfg0.win 7).nblk (1 : Fin 3) = 1 ∧ (cfg0.win 7).nblk (2 : Fin 3) = 1 := by decide +kernel

theorem covers : (cfg0.win 7).Covers :=
  (cfg0.win 7).covers_of_indexMap_surj rfl (by decide) fun β => by
    have l0 : (β (0 : Fin 3)).val < 32 := lt_of_lt_of_eq (β (0 : Fin 3)).isLt nblk7.1
    have l1 : (β (1 : Fin 3)).val < 1 := lt_of_lt_of_eq (β (1 : Fin 3)).isLt nblk7.2.1
    have l2 : (β (2 : Fin 3)).val < 1 := lt_of_lt_of_eq (β (2 : Fin 3)).isLt nblk7.2.2
    refine ⟨pointAt ⟨(β (0 : Fin 3)).val, l0⟩, fun a => ?_⟩
    refine (congrFun (pointAt_index ⟨(β (0 : Fin 3)).val, l0⟩) a).trans ?_
    match a with
    | ⟨0, _⟩ => rfl
    | ⟨1, _⟩ => exact (Nat.lt_one_iff.1 l1).symm
    | ⟨2, _⟩ => exact (Nat.lt_one_iff.1 l2).symm

theorem emb7 (y0 : Fin 128) (y1 : Fin 64) (y2 : Fin 256) :
    ((cfg0.win 7).blk t).view.emb (ix3 y0 y1 y2) = ix3 ⟨128 * (16 * (t.val / 16) + chunkOf (grid0.coords t)) + y0.val, by have := chunkOf_lt t; have := div_lt t; omega⟩ y1 y2 := by
  have := chunkOf_lt t
  have := div_lt t
  blk_ext [idx t]

theorem xinj7 (y0 : Fin 128) (y1 : Fin 64) (y2 : Fin 256) : (cfg0.win 7).xinj (grid0.coords t) (ix3 y0 y1 y2) = (ix3 y0 y1 y2 : S128x64x256.Idx) := by
  funext a
  exact Fin.ext (Pipeline.Window.xinj_val ..)

theorem cast7 (x : Elt Ideal (cfg0.win 7).elt) : cast (congrArg (Elt Ideal) ((cfg0.win 7).blk t).view.elt_eq.symm) x = x := by
  rfl

theorem G_apply (d : Fin 2) (s : ℕ) (hs : s < 2048) (b : Fin 64) (j : Fin 256) :
    G m c (ix3 ⟨2048 * d.val + s, by omega⟩ b j) = layerAt m c d s b j := by
  have e1 : (2048 * d.val + s) / 2048 = d.val := by omega
  have e2 : (2048 * d.val + s) % 2048 = s := by omega
  show layerAt m c ⟨(2048 * d.val + s) / 2048, _⟩ ((2048 * d.val + s) % 2048) b j = _
  simp only [e1, e2]

include hT in
theorem result : (dats m 0 c).arrAt 7 cfg0.N = G m c := by
  refine (dats m 0 c).arrAt_eq_of_covers 7 _ covers fun t hf y => ?_
  idx_vars y
  have h16 := chunkOf_lt t
  have h2 := div_lt t
  have hX := after7 m c t
  have hG := congrArg (G m c) (emb7 t y0 y1 y2)
  have hY := outAt_apply m c t hT y0 y1 y2
  have hA := G_apply m c ⟨t.val / 16, h2⟩ (128 * chunkOf (grid0.coords t) + y0.val) (by omega) y1 y2
  rw [← hA] at hY
  rw [← hX] at hY
  generalize G m c = GG at hG hY ⊢
  clear hA hX
  generalize (dats m 0 c).after 7 t = X at hY ⊢
  refine (cast7 t _).trans ?_
  refine (congrArg X (xinj7 t y0 y1 y2)).trans ?_
  refine hY.trans (Eq.trans ?_ hG.symm)
  refine congrArg (fun r : Fin 4096 => GG (ix3 r y1 y2)) ?_
  apply Fin.ext
  show 2048 * (t.val / 16) + (128 * chunkOf (grid0.coords t) + y0.val) = 128 * (16 * (t.val / 16) + chunkOf (grid0.coords t)) + y0.val
  omega

end Cert.Kernel0Ideal.L0
-- ==== Proof.Ref0.Take.lean ====
/-
Taking along the time axis, one index per batch row and time, where the index is in range.
-/
module

public import proofs.«01_k».proof.Proof.Words
public import proofs.«01_k».proof.Proof.Gen.Reference0Ideal.Run
public import Idealize.ShloMosaic.Lib.Pointwise
public import Idealize.ShloMosaic.Lib.ReduceAll
public import Idealize.ShloMosaic.Lib.Tactic.CleanTypes

@[expose] public noncomputable section

set_option maxRecDepth 16384

namespace Cert.Reference0Ideal.Value

open Cert.Reference0Ideal Cert.Reference0Ideal.Gen
open Idealize.ShloMosaic Idealize.ShloMosaic.StableHlo

section

variable {α : Type} {C : ℕ}

/-- A gather of one row of features per batch row and time, the batch row its own. -/
abbrev alongDims (C : ℕ) (wf : GatherDims.WF ⟨3, ![64, 2048, C]⟩ ⟨3, ![64, 2048, 1]⟩ ⟨3, ![64, 2048, C]⟩ [2] [1] [0] [1] [0] 2 ![1, 1, C]) :
    GatherDims ⟨3, ![64, 2048, C]⟩ ⟨3, ![64, 2048, 1]⟩ ⟨3, ![64, 2048, C]⟩ where
  offsetDims := [2]
  collapsedSliceDims := [1]
  operandBatchingDims := [0]
  startIndicesBatchingDims := [0]
  startIndexMap := [1]
  indexVectorDim := 2
  sliceSizes := ![1, 1, C]
  wf := wf

theorem gather_along (wf : GatherDims.WF ⟨3, ![64, 2048, C]⟩ ⟨3, ![64, 2048, 1]⟩ ⟨3, ![64, 2048, C]⟩ [2] [1] [0] [1] [0] 2 ![1, 1, C])
    (x : (⟨3, ![64, 2048, C]⟩ : Shape).Idx → α) (idx : IVec ⟨3, ![64, 2048, 1]⟩ 32) (b : Fin 64) (t n : Fin 2048) (k : Fin C)
    (h : idx (ix3 b t 0) = BitVec.ofNat 32 n.val) : Host.gather (alongDims C wf) x idx (ix3 b t k) = x (ix3 b n k) := by
  unfold Host.gather
  refine congrArg x ?_
  funext a
  refine Fin.ext ?_
  show (alongDims C wf).start (ix3 b t k) idx a + (alongDims C wf).batchCoord (ix3 b t k) a + (alongDims C wf).offCoord (ix3 b t k) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.2 rfl),
      GatherDims.offCoord_eq_zero _ _ _ fun h => ((GatherDims.mem_sKept _ _).1 h).2 (List.mem_singleton.2 rfl)]
    unfold GatherDims.batchCoord
    rw [dif_pos (List.mem_singleton.2 rfl)]
    exact Nat.zero_add _
  · rw [GatherDims.batchCoord_eq_zero _ _ _ (fun h => by simp at h),
      GatherDims.offCoord_eq_zero _ _ _ fun h => ((GatherDims.mem_sKept _ _).1 h).1 (List.mem_singleton.2 rfl)]
    unfold GatherDims.start
    rw [dif_pos (List.mem_singleton.2 rfl)]
    have e : ∀ i, (alongDims C wf).siIdx (ix3 b t k) i = ix3 b t 0 := fun i => by
      funext d; refine Fin.ext ?_
      match d with
      | ⟨0, _⟩ => rfl
      | ⟨1, _⟩ => rfl
      | ⟨2, _⟩ => exact Nat.lt_one_iff.1 (Fin.isLt _)
    rw [e, h, toInt_ofNat_of_lt (by omega : n.val < 2 ^ 31)]
    show min n.val (2048 - 1) + 0 + 0 = n.val
    omega
  · rw [GatherDims.batchCoord_eq_zero _ _ _ (fun h => by simp at h)]
    unfold GatherDims.start
    rw [dif_neg (fun h => by simp at h)]
    unfold GatherDims.offCoord
    rw [dif_pos ((GatherDims.mem_sKept _ _).2 (⟨fun h => by simp at h, fun h => by simp at h⟩))]
    exact (Nat.zero_add _).trans rfl

/-- A gather of one row of a table per batch row and time. -/
abbrev rowDims (wf : GatherDims.WF ⟨2, ![21, 128]⟩ ⟨3, ![64, 2048, 1]⟩ ⟨3, ![64, 2048, 128]⟩ [2] [0] [] [0] [] 2 ![1, 128]) :
    GatherDims ⟨2, ![21, 128]⟩ ⟨3, ![64, 2048, 1]⟩ ⟨3, ![64, 2048, 128]⟩ where
  offsetDims := [2]
  collapsedSliceDims := [0]
  operandBatchingDims := []
  startIndicesBatchingDims := []
  startIndexMap := [0]
  indexVectorDim := 2
  sliceSizes := ![1, 128]
  wf := wf

theorem gather_row (wf : GatherDims.WF ⟨2, ![21, 128]⟩ ⟨3, ![64, 2048, 1]⟩ ⟨3, ![64, 2048, 128]⟩ [2] [0] [] [0] [] 2 ![1, 128])
    (x : (⟨2, ![21, 128]⟩ : Shape).Idx → α) (idx : IVec ⟨3, ![64, 2048, 1]⟩ 32) (b : Fin 64) (t : Fin 2048) (n : Fin 21) (k : Fin 128)
    (h : idx (ix3 b t 0) = BitVec.ofNat 32 n.val) : Host.gather (rowDims wf) x idx (ix3 b t k) = x (ix2 n k) := by
  unfold Host.gather
  refine congrArg x ?_
  funext a
  refine Fin.ext ?_
  show (rowDims wf).start (ix3 b t k) idx a + (rowDims wf).batchCoord (ix3 b t k) a + (rowDims wf).offCoord (ix3 b t k) a = _
  have ha : a = 0 ∨ a = 1 := by
    match a with
    | ⟨0, _⟩ => exact .inl rfl
    | ⟨1, _⟩ => exact .inr rfl
  rcases ha with rfl | rfl
  · rw [GatherDims.batchCoord_eq_zero _ _ _ (fun h => by simp at h),
      GatherDims.offCoord_eq_zero _ _ _ fun h => ((GatherDims.mem_sKept _ _).1 h).1 (List.mem_singleton.2 rfl)]
    unfold GatherDims.start
    rw [dif_pos (List.mem_singleton.2 rfl)]
    have e : ∀ i, (rowDims wf).siIdx (ix3 b t k) i = ix3 b t 0 := fun i => by
      funext d; refine Fin.ext ?_
      match d with
      | ⟨0, _⟩ => rfl
      | ⟨1, _⟩ => rfl
      | ⟨2, _⟩ => exact Nat.lt_one_iff.1 (Fin.isLt _)
    rw [e, h, toInt_ofNat_of_lt (by omega : n.val < 2 ^ 31)]
    show min n.val (21 - 1) + 0 + 0 = n.val
    omega
  · rw [GatherDims.batchCoord_eq_zero _ _ _ (fun h => by simp at h)]
    unfold GatherDims.start
    rw [dif_neg (fun h => by simp at h)]
    unfold GatherDims.offCoord
    rw [dif_pos ((GatherDims.mem_sKept _ _).2 (⟨fun h => by simp at h, fun h => by simp at h⟩))]
    exact (Nat.zero_add _).trans rfl

end

/-- An index, a negative one counted from the end; and whether it is in range. -/
def wrap (r : IVec S64x2048x1 32) : IVec S64x2048x1 32 :=
  select (cmpi .slt r (broadcastInDim S64x2048x1 ![] bcast_S_S64x2048x1 (constantI S_ 32 0#32)))
    (addi r (broadcastInDim S64x2048x1 ![] bcast_S_S64x2048x1 (constantI S_ 32 2048#32))) r
def inRange (r : IVec S64x2048x1 32) : IVec S64x2048 1 :=
  Host.reduce IntOp.andi (andi (cmpi .sge (wrap r) (broadcastInDim S64x2048x1 ![] bcast_S_S64x2048x1 (constantI S_ 32 0#32)))
    (cmpi .sle (wrap r) (broadcastInDim S64x2048x1 ![0, 1, 2] bcast_S1x1x1_S64x2048x1_0_1_2 (broadcastInDim S1x1x1 ![2] bcast_S1_S1x1x1_2 (constantI S1 32 2047#32)))))
    (constantI S_ 1 1#1) reducesTo_S64x2048x1_S64x2048_d2 h_S_

theorem wrap_at (r : IVec S64x2048x1 32) (b : Fin 64) (t n : Fin 2048) (h : r (ix3 b t 0) = BitVec.ofNat 32 n.val) : wrap r (ix3 b t 0) = BitVec.ofNat 32 n.val := by
  have e : wrap r (ix3 b t 0) = Scalar.select (IntOp.cmpi .slt (r (ix3 b t 0)) 0#32) (IntOp.addi (r (ix3 b t 0)) 2048#32) (r (ix3 b t 0)) := by
    pointwise [wrap]
  rw [e, h, Gru.select_slt n.isLt]
  exact if_neg (not_lt.2 (Int.natCast_nonneg _))

theorem inRange_at (r : IVec S64x2048x1 32) (b : Fin 64) (t n : Fin 2048) (h : r (ix3 b t 0) = BitVec.ofNat 32 n.val) : inRange r (ix2 b t) = 1#1 := by
  have hw := wrap_at r b t n h
  unfold inRange
  pointwise []
  rw [show (Finset.univ : Finset (Fin 1)) = {0} from rfl, Finset.fold_singleton, hw]
  have hn : (BitVec.ofNat 32 n.val).toInt = (n.val : ℤ) := toInt_ofNat_of_lt (by omega)
  rw [IntOp.cmpi_sge.2 (by rw [hn]; exact Int.natCast_nonneg _), IntOp.cmpi_sle.2 (by rw [hn]; show (n.val : ℤ) ≤ 2047; omega)]
  rfl

variable (V : Valuation τ sig (Elt Ideal))

theorem take_in (b : Fin 64) (t n : Fin 2048) (k : Fin 128) (h : (V (Proc.devRef .tc main_v33) : IVec S64x2048x1 32) (ix3 b t 0) = BitVec.ofNat 32 n.val) :
    (after hostOps0_3 V (Proc.devRef .tc main_v34) : Vec Ideal S64x2048x128 .f32) (ix3 b t k)
      = (V (Proc.devRef .tc main_v6) : Vec Ideal S64x2048x128 .f32) (ix3 b n k) := by
  generalize hr : (V (Proc.devRef .tc main_v33) : IVec S64x2048x1 32) = r at h
  generalize hx : (V (Proc.devRef .tc main_v6) : Vec Ideal S64x2048x128 .f32) = x
  have e : (after hostOps0_3 V (Proc.devRef .tc main_v34) : Vec Ideal S64x2048x128 .f32)
      = select (broadcastInDim S64x2048x128 ![0, 1] bcast_S64x2048_S64x2048x128_0_1 (inRange r))
          (Host.gather gather_S64x2048x128_S64x2048x1_S64x2048x128_2_1_0_0_1_2_11128 x (wrap r))
          (broadcastInDim S64x2048x128 ![] bcast_S_S64x2048x128 (constant (F := Ideal) S_ .f32 0x7FC00000#32)) := by
    unfold inRange wrap
    rw [← hr, ← hx]
    after_results_entrywise [cast_eq]
  rw [e]
  have g := gather_along gather_S64x2048x128_S64x2048x1_S64x2048x128_2_1_0_0_1_2_11128_wf x (wrap r) b t n k (wrap_at r b t n h)
  have e2 : ∀ y fill : Vec Ideal S64x2048x128 .f32, select (broadcastInDim S64x2048x128 ![0, 1] bcast_S64x2048_S64x2048x128_0_1 (inRange r)) y fill (ix3 b t k)
      = Scalar.select (inRange r (ix2 b t)) (y (ix3 b t k)) (fill (ix3 b t k)) := by
    intro y fill
    pointwise []
  rw [e2, inRange_at r b t n h]
  exact g

theorem take_out (b : Fin 64) (t n : Fin 2048) (k : Fin 256) (h : (V (Proc.devRef .tc main_v50) : IVec S64x2048x1 32) (ix3 b t 0) = BitVec.ofNat 32 n.val) :
    (after hostOps0_6 V (Proc.devRef .tc main_v51) : Vec Ideal S64x2048x256 .f32) (ix3 b t k)
      = (V (Proc.devRef .tc main_v49) : Vec Ideal S64x2048x256 .f32) (ix3 b n k) := by
  generalize hr : (V (Proc.devRef .tc main_v50) : IVec S64x2048x1 32) = r at h
  generalize hx : (V (Proc.devRef .tc main_v49) : Vec Ideal S64x2048x256 .f32) = x
  have e : (after hostOps0_6 V (Proc.devRef .tc main_v51) : Vec Ideal S64x2048x256 .f32)
      = select (broadcastInDim S64x2048x256 ![0, 1] bcast_S64x2048_S64x2048x256_0_1 (inRange r))
          (Host.gather gather_S64x2048x256_S64x2048x1_S64x2048x256_2_1_0_0_1_2_11256 x (wrap r))
          (broadcastInDim S64x2048x256 ![] bcast_S_S64x2048x256 (constant (F := Ideal) S_ .f32 0x7FC00000#32)) := by
    unfold inRange wrap
    rw [← hr, ← hx]
    after_results_entrywise [cast_eq]
  rw [e]
  have g := gather_along gather_S64x2048x256_S64x2048x1_S64x2048x256_2_1_0_0_1_2_11256_wf x (wrap r) b t n k (wrap_at r b t n h)
  have e2 : ∀ y fill : Vec Ideal S64x2048x256 .f32, select (broadcastInDim S64x2048x256 ![0, 1] bcast_S64x2048_S64x2048x256_0_1 (inRange r)) y fill (ix3 b t k)
      = Scalar.select (inRange r (ix2 b t)) (y (ix3 b t k)) (fill (ix3 b t k)) := by
    intro y fill
    pointwise []
  rw [e2, inRange_at r b t n h]
  exact g

end Cert.Reference0Ideal.Value
-- ==== Proof.Ref0.Trip.lean ====
/-
One trip of the reference's loop over the extended reals, entry by entry: the counter stands at `t`, the
state steps where time `t` is valid and stays elsewhere, and row `t` of the outputs takes the masked state.
-/
module

public import proofs.«01_k».proof.Proof.Gru
public import proofs.«01_k».proof.Proof.Gen.Reference0Ideal.Run
public import Idealize.ShloMosaic.Lib.Pointwise
public import Idealize.ShloMosaic.Lib.DynamicIndex
public import Idealize.ShloMosaic.Lib.Pipeline.Value
public import Idealize.ShloMosaic.Lib.Tactic.CleanTypes

@[expose] public noncomputable section

set_option maxRecDepth 16384

namespace Cert.Reference0Ideal.Value

open Cert.Reference0Ideal Cert.Reference0Ideal.Gen
open Idealize.ShloMosaic
open Cert.Gru

variable (V : Valuation τ sig (Elt Ideal))

/-- The loop's arrays before a trip. -/
abbrev XS : Vec Ideal S2048x2x64x128 .f32 := V (Proc.devRef .tc main_v43_0)
abbrev OK : Vec Ideal S2048x64 .i1 := V (Proc.devRef .tc main_v43_1)
abbrev WI : Vec Ideal S2x768x128 .f32 := V (Proc.devRef .tc main_v43_2)
abbrev BI : Vec Ideal S2x768 .f32 := V (Proc.devRef .tc main_v43_3)
abbrev WH : Vec Ideal S2x768x256 .f32 := V (Proc.devRef .tc main_v43_4)
abbrev BH : Vec Ideal S2x768 .f32 := V (Proc.devRef .tc main_v43_5)
abbrev ST : Vec Ideal S2x64x256 .f32 := V (Proc.devRef .tc main_v43_7)
abbrev OUT : Vec Ideal S2048x2x64x256 .f32 := V (Proc.devRef .tc main_v43_8)

/-- The input projection of one direction of one row at one time, and the step it drives. -/
def inGates (t : Fin 2048) (d : Fin 2) (b : Fin 64) : Gates := fun q => (∑ x, XS V (ix4 t d b x) * WI V (ix3 d q x)) + BI V (ix2 d q)
def stepAt (t : Fin 2048) (d : Fin 2) (b : Fin 64) : Row → Row :=
  next (fun q x => WH V (ix3 d q x)) (fun q => BH V (ix2 d q)) (inGates V t d b)

variable (t : Fin 2048) (hc : V (Proc.devRef .tc main_v43_6) = fun _ => BitVec.ofNat 32 t.val)

include hc

theorem ctr_toInt : BitVec.toInt (V (Proc.devRef .tc main_v43_6) (Shape.Idx.first h_S_) : BitVec 32) = (t.val : ℤ) := by
  rw [hc]; exact toInt_ofNat_of_lt (by omega)

theorem v62_at (d : Fin 2) (b : Fin 64) (q : Fin 768) : res_main_while0b_v62 V (ix3 d b q) = inGates V t d b q := by
  have hs : S2048x2x64x128.Slices ![t.val, 0, 0, 0] S1x2x64x128 := by
    refine ⟨rfl, fun a => ?_⟩
    match a with
    | ⟨0, _⟩ => show t.val + 1 ≤ 2048; omega
    | ⟨1, _⟩ => show 0 + 2 ≤ 2; omega
    | ⟨2, _⟩ => show 0 + 64 ≤ 64; omega
    | ⟨3, _⟩ => show 0 + 128 ≤ 128; omega
  unfold res_main_while0b_v62
  clean_types
  rw [Host.dynamicSlice_eq_extractStridedSlice (off := ![t.val, 0, 0, 0]) (hoff := hs) (hs := by
    intro a
    match a with
    | ⟨0, _⟩ => exact ctr_toInt V t hc
    | ⟨1, _⟩ => rfl
    | ⟨2, _⟩ => rfl
    | ⟨3, _⟩ => rfl)]
  pointwise [inGates]

theorem v95_at (b : Fin 64) : res_main_while0b_v95 V (ix3 0 b 0) = OK V (ix2 t b) := by
  have hs : S2048x64.Slices ![t.val, 0] S1x64 := by
    refine ⟨rfl, fun a => ?_⟩
    match a with
    | ⟨0, _⟩ => show t.val + 1 ≤ 2048; omega
    | ⟨1, _⟩ => show 0 + 64 ≤ 64; omega
  unfold res_main_while0b_v95
  clean_types
  rw [Host.dynamicSlice_eq_extractStridedSlice (off := ![t.val, 0]) (hoff := hs) (hs := by
    intro a
    match a with
    | ⟨0, _⟩ => exact ctr_toInt V t hc
    | ⟨1, _⟩ => rfl)]
  pointwise []

omit hc in
theorem v66_at (d : Fin 2) (b : Fin 64) (q : Fin 768) : res_main_while0b_v66 V (ix3 d b q)
    = gates (fun q x => WH V (ix3 d q x)) (fun q => BH V (ix2 d q)) (fun x => ST V (ix3 d b x)) q := by
  unfold res_main_while0b_v66
  clean_types
  pointwise [gates]

omit hc in
theorem v94_cell (d : Fin 2) (b : Fin 64) (j : Fin 256) : res_main_while0b_v94 V (ix3 d b j)
    = cell (fun q => res_main_while0b_v62 V (ix3 d b q)) (fun q => res_main_while0b_v66 V (ix3 d b q)) (ST V (ix3 d b j)) j := by
  unfold res_main_while0b_v94 res_main_while0b_v86
  clean_types
  pointwise [cell, Ideal.logistic]

theorem v94_at (d : Fin 2) (b : Fin 64) (j : Fin 256) : res_main_while0b_v94 V (ix3 d b j) = stepAt V t d b (fun x => ST V (ix3 d b x)) j := by
  rw [v94_cell]
  simp only [v62_at V t hc, v66_at]
  rfl

theorem step7_at (d : Fin 2) (b : Fin 64) (j : Fin 256) : step_main_v43_7 V (ix3 d b j)
    = Scalar.select (OK V (ix2 t b)) (stepAt V t d b (fun x => ST V (ix3 d b x)) j) (ST V (ix3 d b j)) := by
  rw [← v95_at V t hc, ← v94_at V t hc]
  unfold step_main_v43_7
  clean_types
  simp only [id]
  pointwise []

theorem step8_at (s : Fin 2048) (d : Fin 2) (b : Fin 64) (j : Fin 256) : step_main_v43_8 V (ix4 s d b j)
    = if s = t then Scalar.select (OK V (ix2 t b)) (stepAt V t d b (fun x => ST V (ix3 d b x)) j) 0 else OUT V (ix4 s d b j) := by
  rw [← v95_at V t hc, ← v94_at V t hc]
  have hs : S2048x2x64x256.Slices ![t.val, 0, 0, 0] S1x2x64x256 := by
    refine ⟨rfl, fun a => ?_⟩
    match a with
    | ⟨0, _⟩ => show t.val + 1 ≤ 2048; omega
    | ⟨1, _⟩ => show 0 + 2 ≤ 2; omega
    | ⟨2, _⟩ => show 0 + 64 ≤ 64; omega
    | ⟨3, _⟩ => show 0 + 256 ≤ 256; omega
  unfold step_main_v43_8
  clean_types
  simp only [id]
  rw [Host.dynamicUpdateSlice_eq_updateSlice (adj := ![t.val, 0, 0, 0]) (h' := hs) (hadj := by
    intro a
    match a with
    | ⟨0, _⟩ =>
      show (min (max (BitVec.toInt (V (Proc.devRef .tc main_v43_6) (Shape.Idx.first h_S_) : BitVec 32)) 0) ((2048 - 1 : ℕ) : ℤ)).toNat = t.val
      rw [ctr_toInt V t hc]; omega
    | ⟨1, _⟩ => rfl
    | ⟨2, _⟩ => rfl
    | ⟨3, _⟩ => rfl)]
  pointwise []
  by_cases h : s = t
  · subst h
    rw [dif_pos ⟨le_rfl, Nat.lt_succ_self _⟩, if_pos rfl]
  · rw [dif_neg (fun h' => h (Fin.ext (by omega))), if_neg h]

end Cert.Reference0Ideal.Value
-- ==== Proof.Ref0.Loop.lean ====
/-
The reference's loop over the extended reals: before trip `k` the state is the walk's at `k`, and the output
rows below `k` hold the masked states.
-/
module

public import proofs.«01_k».proof.Proof.Words
public import proofs.«01_k».proof.Proof.Ref0.Trip

@[expose] public noncomputable section

set_option maxRecDepth 16384

namespace Cert.Reference0Ideal.Value

open Cert.Reference0Ideal Cert.Reference0Ideal.Gen
open Idealize.ShloMosaic Idealize.ShloMosaic.StableHlo
open Cert.Gru

variable (m : (ℓ : Loc nD τ sig) → Buf (Elt Ideal) ℓ) (c : Dev nD)

/-- The loop's entry, and the buffers after `k` trips. -/
abbrev E : Valuation τ sig (Elt Ideal) := entryContents preI m c
def at_ (k : ℕ) : Valuation τ sig (Elt Ideal) := STEP^[k] (E m c)

theorem at_succ (k : ℕ) : at_ m c (k + 1) = STEP (at_ m c k) := Function.iterate_succ_apply' _ _ _

theorem at_const : ∀ k, XS (at_ m c k) = XS (E m c) ∧ OK (at_ m c k) = OK (E m c) ∧ WI (at_ m c k) = WI (E m c) ∧ BI (at_ m c k) = BI (E m c)
    ∧ WH (at_ m c k) = WH (E m c) ∧ BH (at_ m c k) = BH (E m c)
  | 0 => ⟨rfl, rfl, rfl, rfl, rfl, rfl⟩
  | k + 1 => by
    have ih := at_const k
    rw [at_succ]
    exact ⟨(STEP_main_v43_0 _).trans ih.1, (STEP_main_v43_1 _).trans ih.2.1, (STEP_main_v43_2 _).trans ih.2.2.1, (STEP_main_v43_3 _).trans ih.2.2.2.1,
      (STEP_main_v43_4 _).trans ih.2.2.2.2.1, (STEP_main_v43_5 _).trans ih.2.2.2.2.2⟩

theorem at_ctr (k : ℕ) : at_ m c k (Proc.devRef .tc main_v43_6) = fun _ => BitVec.ofNat 32 k := by
  have h := (atK_agree m c k main_v43_6 (by decide)).symm.trans (atK_ctr m c k)
  refine h.trans (funext fun _ => ?_)
  simp [Scf.iv]

theorem stepAt_at (k : ℕ) (t : Fin 2048) (d : Fin 2) (b : Fin 64) : stepAt (at_ m c k) t d b = stepAt (E m c) t d b := by
  obtain ⟨h0, -, h2, h3, h4, h5⟩ := at_const m c k
  unfold stepAt inGates
  rw [h0, h2, h3, h4, h5]

section

variable (w : Fin 64 → BitVec 32) (f : Fin 2 → Fin 64 → ℕ → Row → Row)
  (hok : ∀ (t : Fin 2048) (b : Fin 64), OK (E m c) (ix2 t b) = IntOp.cmpi .slt (BitVec.ofNat 32 t.val) (w b))
  (hf : ∀ (t : Fin 2048) (d : Fin 2) (b : Fin 64), (t.val : ℤ) < (w b).toInt → stepAt (E m c) t d b = f d b t.val)
  (hst : ∀ (d : Fin 2) (b : Fin 64) (x : Fin 256), ST (E m c) (ix3 d b x) = 0)

/-- The walk of direction `d` at batch row `b`. -/
abbrev W (d : Fin 2) (b : Fin 64) : ℕ → Row := walk (fun n => (n : ℤ) < (w b).toInt) (f d b)

include hok hf hst

theorem st_at : ∀ k ≤ 2048, ∀ (d : Fin 2) (b : Fin 64) (x : Fin 256), ST (at_ m c k) (ix3 d b x) = W w f d b k x
  | 0, _, d, b, x => hst d b x
  | k + 1, hk, d, b, x => by
    have ih := st_at k (by omega)
    rw [at_succ]
    refine (congrFun (STEP_main_v43_7 _) _).trans ((step7_at (at_ m c k) ⟨k, by omega⟩ (at_ctr m c k) d b x).trans ?_)
    rw [(at_const m c k).2.1, hok, select_slt (show k < 2048 by omega), stepAt_at, ih d b x, show W w f d b (k + 1) = _ from walk_succ _ _ _]
    have e : (fun x => ST (at_ m c k) (ix3 d b x)) = W w f d b k := funext fun x => ih d b x
    rw [e]
    by_cases h : (k : ℤ) < (w b).toInt
    · rw [if_pos h, if_pos h, hf ⟨k, by omega⟩ d b h]
    · rw [if_neg h, if_neg h]

theorem out_at : ∀ k ≤ 2048, ∀ (s : Fin 2048) (d : Fin 2) (b : Fin 64) (j : Fin 256), s.val < k →
    OUT (at_ m c k) (ix4 s d b j) = if (s.val : ℤ) < (w b).toInt then f d b s.val (W w f d b s.val) j else 0
  | 0, _, s, d, b, j, h => absurd h (Nat.not_lt_zero _)
  | k + 1, hk, s, d, b, j, h => by
    have ih := out_at k (by omega) s d b j
    rw [at_succ]
    refine (congrFun (STEP_main_v43_8 _) _).trans ((step8_at (at_ m c k) ⟨k, by omega⟩ (at_ctr m c k) s d b j).trans ?_)
    by_cases hs : s = ⟨k, by omega⟩
    · rw [if_pos hs]
      obtain ⟨s, hsl⟩ := s
      obtain rfl : k = s := (congrArg Fin.val hs).symm
      rw [(at_const m c k).2.1, hok, select_slt hsl, stepAt_at]
      have e : (fun x => ST (at_ m c k) (ix3 d b x)) = W w f d b k := funext fun x => st_at m c w f hok hf hst k (by omega) d b x
      rw [e]
      by_cases h : (k : ℤ) < (w b).toInt
      · rw [if_pos h, if_pos h, hf ⟨k, hsl⟩ d b h]
      · rw [if_neg h, if_neg h]
    · rw [if_neg hs]
      exact ih (Nat.lt_of_le_of_ne (Nat.le_of_lt_succ h) fun h' => hs (Fin.ext h'))

end

end Cert.Reference0Ideal.Value
-- ==== Proof.Ref0.Entry.lean ====
/-
What the reference's loop starts from, entry by entry, in terms of the arguments.
-/
module

public import proofs.«01_k».proof.Proof.Ref0.Take
public import proofs.«01_k».proof.Proof.Ref0.Loop
public import proofs.«01_k».proof.Proof.GruOne

@[expose] public noncomputable section

set_option maxRecDepth 16384

namespace Cert.Reference0Ideal.Value

open Cert.Reference0Ideal Cert.Reference0Ideal.Gen
open Idealize.ShloMosaic Idealize.ShloMosaic.StableHlo Idealize.ShloMosaic.Tactic Idealize.ShloMosaic.TcCoe
open Cert.Gru

variable (m : (ℓ : Loc nD τ sig) → Buf (Elt Ideal) ℓ) (c : Dev nD)

/-- The buffers after each stretch before the loop. -/
def S0 : Valuation τ sig (Elt Ideal) := after hostOps0 fun b => m (c, b)
def S1 : Valuation τ sig (Elt Ideal) := after hostOps0_1 (S0 m c)
def S2 : Valuation τ sig (Elt Ideal) := after hostOps0_2 (S1 m c)
def S3 : Valuation τ sig (Elt Ideal) := after hostOps0_3 (S2 m c)

theorem E_eq : E m c = after hostOps0_4 (S3 m c) := rfl

theorem S3_keep (r : Ref sig .tc) (h1 : r ∉ hostOps0_1_W) (h2 : r ∉ hostOps0_2_W) (h3 : r ∉ hostOps0_3_W) :
    S3 m c (Proc.devRef .tc r) = S0 m c (Proc.devRef .tc r) :=
  (after_of_writes_sub hostOps0_3 _ hostOps0_3_writes h3).trans
    ((after_of_writes_sub hostOps0_2 _ hostOps0_2_writes h2).trans (after_of_writes_sub hostOps0_1 _ hostOps0_1_writes h1))

theorem pick_dite {α : Type} (d : Fin 2) (a b : α) : (if h : d.val < 1 then a else b) = if d.val = 0 then a else b := by
  by_cases h : d.val = 0
  · rw [dif_pos (by omega), if_pos h]
  · rw [dif_neg (by omega), if_neg h]

/-! ## The arguments -/

/-- The tokens by time and batch row, their rows of the table, the lengths, each direction's weights and biases. -/
def tok (t : ℕ) (b : Fin 64) : Fin 21 := tokenOf (m ((c.tc : Thread nD τ).loc main_arg0) (ix2 b ⟨t % 2048, by omega⟩) : BitVec 32)
def emb (v : Fin 21) (k : Fin 128) : EReal := m ((c.tc : Thread nD τ).loc main_arg2) (ix2 v k)
def lenw (b : Fin 64) : BitVec 32 := m ((c.tc : Thread nD τ).loc main_arg1) (ix1 b)
def wih (d : Fin 2) (q : Fin 768) (k : Fin 128) : EReal := pick d (m ((c.tc : Thread nD τ).loc main_arg3) (ix2 q k)) (m ((c.tc : Thread nD τ).loc main_arg7) (ix2 q k))
def whh (d : Fin 2) (q : Fin 768) (k : Fin 256) : EReal := pick d (m ((c.tc : Thread nD τ).loc main_arg4) (ix2 q k)) (m ((c.tc : Thread nD τ).loc main_arg8) (ix2 q k))
def bih (d : Fin 2) : Gates := fun q => pick d (m ((c.tc : Thread nD τ).loc main_arg5) (ix1 q)) (m ((c.tc : Thread nD τ).loc main_arg9) (ix1 q))
def bhh (d : Fin 2) : Gates := fun q => pick d (m ((c.tc : Thread nD τ).loc main_arg6) (ix1 q)) (m ((c.tc : Thread nD τ).loc main_arg10) (ix1 q))

/-- Every token names a row of the table. -/
def TokensOk : Prop := ∀ (b : Fin 64) (s : Fin 2048), (m ((c.tc : Thread nD τ).loc main_arg0) (ix2 b s) : BitVec 32).toNat < 21

def stepOf (d : Fin 2) (b : Fin 64) : ℕ → Row → Row :=
  layerStep1 (fun t => emb m c (tok m c t b)) (wih m c d) (bih m c d) (whh m c d) (bhh m c d)

/-! ## Before the loop -/

/-- A token's features. -/
def feat (t : Fin 2048) (b : Fin 64) (x : Fin 128) : EReal := emb m c (tok m c t.val b) x

/-- A token's word below the table's size is not counted from the end. -/
theorem token_wrap (w : BitVec 32) (h : w.toNat < 21) : Scalar.select (IntOp.cmpi .slt w 0#32) (IntOp.addi w 21#32) w = w := by
  have e := tokenOf_word h
  have hl : (tokenOf w).val < 2048 := lt_of_lt_of_le (tokenOf w).isLt (by decide)
  rw [e, Gru.select_slt hl]
  exact if_neg (not_lt.2 (Int.natCast_nonneg _))

theorem S0_v5 (b : Fin 64) (t : Fin 2048) : (S0 m c (Proc.devRef .tc main_v5) : IVec S64x2048x1 32) (ix3 b t 0)
    = Scalar.select (IntOp.cmpi .slt (m ((c.tc : Thread nD τ).loc main_arg0) (ix2 b t) : BitVec 32) 0#32)
        (IntOp.addi (m ((c.tc : Thread nD τ).loc main_arg0) (ix2 b t) : BitVec 32) 21#32) (m ((c.tc : Thread nD τ).loc main_arg0) (ix2 b t) : BitVec 32) := by
  unfold S0
  after_reads_simp
  pointwise []

theorem S0_gather : (S0 m c (Proc.devRef .tc main_v6) : Vec Ideal S64x2048x128 .f32)
    = Host.gather gather_S21x128_S64x2048x1_S64x2048x128_2_0_n_n_0_2_1128 (m ((c.tc : Thread nD τ).loc main_arg2) : Vec Ideal S21x128 .f32)
        (S0 m c (Proc.devRef .tc main_v5) : IVec S64x2048x1 32) := by
  unfold S0
  after_reads_simp

theorem S0_v6 (hT : TokensOk m c) (b : Fin 64) (t : Fin 2048) (x : Fin 128) : (S0 m c (Proc.devRef .tc main_v6) : Vec Ideal S64x2048x128 .f32) (ix3 b t x) = feat m c t b x := by
  have ht : t.val % 2048 = t.val := Nat.mod_eq_of_lt t.isLt
  rw [S0_gather]
  refine (gather_row gather_S21x128_S64x2048x1_S64x2048x128_2_0_n_n_0_2_1128_wf _ _ b t (tok m c t.val b) x ?_).trans rfl
  rw [S0_v5, token_wrap _ (hT b t)]
  unfold tok
  simp only [ht]
  exact tokenOf_word (hT b t)

theorem S0_v24 (b : Fin 64) (t : Fin 2048) : (S0 m c (Proc.devRef .tc main_v24) : IVec S64x2048 1) (ix2 b t)
    = IntOp.cmpi .slt (BitVec.ofNat 32 t.val) (lenw m c b) := by
  unfold S0
  after_reads_simp
  pointwise [lenw]

theorem S0_v31 (b : Fin 64) (t : Fin 2048) : (S0 m c (Proc.devRef .tc main_v31) : IVec S64x2048 32) (ix2 b t)
    = IntOp.subi (IntOp.subi (lenw m c b) 1#32) (BitVec.ofNat 32 t.val) := by
  unfold S0
  after_reads_simp
  pointwise [lenw]

theorem S0_c0 : S0 m c (Proc.devRef .tc main_c_2) = constantI S_ 32 0#32 := by
  unfold S0
  after_reads_simp

theorem after1_v32 (V : Valuation τ sig (Elt Ideal)) : (after hostOps0_1 V (Proc.devRef .tc main_v32) : IVec S64x2048 32)
    = maxsi (broadcastInDim S64x2048 ![] bcast_S_S64x2048 (id (V (Proc.devRef .tc main_c_2) : IVec S_ 32))) (V (Proc.devRef .tc main_v31) : IVec S64x2048 32) := by
  after_results_entrywise [cast_eq]

theorem S1_v32 (b : Fin 64) (t : Fin 2048) : (S1 m c (Proc.devRef .tc main_v32) : IVec S64x2048 32) (ix2 b t)
    = IntOp.maxsi 0#32 (IntOp.subi (IntOp.subi (lenw m c b) 1#32) (BitVec.ofNat 32 t.val)) := by
  rw [← S0_v31, S1, after1_v32, S0_c0]
  simp only [id]
  pointwise []

theorem S2_v33 (b : Fin 64) (t : Fin 2048) : (S2 m c (Proc.devRef .tc main_v33) : IVec S64x2048x1 32) (ix3 b t 0)
    = (S1 m c (Proc.devRef .tc main_v32) : IVec S64x2048 32) (ix2 b t) := by
  unfold S2
  generalize S1 m c = V
  after_reads_simp
  pointwise []

theorem E_xs (t : Fin 2048) (d : Fin 2) (b : Fin 64) (x : Fin 128) : XS (E m c) (ix4 t d b x)
    = pick d ((S3 m c (Proc.devRef .tc main_v6) : Vec Ideal S64x2048x128 .f32) (ix3 b t x)) ((S3 m c (Proc.devRef .tc main_v34) : Vec Ideal S64x2048x128 .f32) (ix3 b t x)) := by
  unfold XS
  rw [E_eq]
  generalize S3 m c = V
  after_reads_simp
  simp only [id]
  pointwise []
  after_reads_simp
  pointwise [pick]
  exact pick_dite d _ _

theorem E_ok (t : Fin 2048) (b : Fin 64) : OK (E m c) (ix2 t b) = IntOp.cmpi .slt (BitVec.ofNat 32 t.val) (lenw m c b) := by
  rw [← S0_v24, ← S3_keep m c main_v24 (by decide +kernel) (by decide +kernel) (by decide +kernel)]
  unfold OK
  rw [E_eq]
  generalize S3 m c = V
  after_reads_simp
  simp only [id]
  pointwise []

theorem E_st (d : Fin 2) (b : Fin 64) (x : Fin 256) : ST (E m c) (ix3 d b x) = 0 := by
  unfold ST
  rw [E_eq]
  generalize S3 m c = V
  after_reads_simp
  simp only [id]
  pointwise []

theorem S0_v9 (d : Fin 2) (q : Fin 768) (k : Fin 128) : (S0 m c (Proc.devRef .tc main_v9) : Vec Ideal S2x768x128 .f32) (ix3 d q k) = wih m c d q k := by
  unfold S0
  after_reads_simp
  pointwise [wih, pick]
  exact pick_dite d _ _

theorem S0_v12 (d : Fin 2) (q : Fin 768) (k : Fin 256) : (S0 m c (Proc.devRef .tc main_v12) : Vec Ideal S2x768x256 .f32) (ix3 d q k) = whh m c d q k := by
  unfold S0
  after_reads_simp
  pointwise [whh, pick]
  exact pick_dite d _ _

theorem S0_v15 (d : Fin 2) (q : Fin 768) : (S0 m c (Proc.devRef .tc main_v15) : Vec Ideal S2x768 .f32) (ix2 d q) = bih m c d q := by
  unfold S0
  after_reads_simp
  pointwise [bih, pick]
  exact pick_dite d _ _

theorem S0_v18 (d : Fin 2) (q : Fin 768) : (S0 m c (Proc.devRef .tc main_v18) : Vec Ideal S2x768 .f32) (ix2 d q) = bhh m c d q := by
  unfold S0
  after_reads_simp
  pointwise [bhh, pick]
  exact pick_dite d _ _

theorem E_wi (d : Fin 2) (q : Fin 768) (k : Fin 128) : WI (E m c) (ix3 d q k) = wih m c d q k := by
  rw [← S0_v9, ← S3_keep m c main_v9 (by decide +kernel) (by decide +kernel) (by decide +kernel)]
  unfold WI
  rw [E_eq]
  generalize S3 m c = V
  after_reads_simp
  rfl

theorem E_wh (d : Fin 2) (q : Fin 768) (k : Fin 256) : WH (E m c) (ix3 d q k) = whh m c d q k := by
  rw [← S0_v12, ← S3_keep m c main_v12 (by decide +kernel) (by decide +kernel) (by decide +kernel)]
  unfold WH
  rw [E_eq]
  generalize S3 m c = V
  after_reads_simp
  rfl

theorem E_bi (d : Fin 2) (q : Fin 768) : BI (E m c) (ix2 d q) = bih m c d q := by
  rw [← S0_v15, ← S3_keep m c main_v15 (by decide +kernel) (by decide +kernel) (by decide +kernel)]
  unfold BI
  rw [E_eq]
  generalize S3 m c = V
  after_reads_simp
  rfl

theorem E_bh (d : Fin 2) (q : Fin 768) : BH (E m c) (ix2 d q) = bhh m c d q := by
  rw [← S0_v18, ← S3_keep m c main_v18 (by decide +kernel) (by decide +kernel) (by decide +kernel)]
  unfold BH
  rw [E_eq]
  generalize S3 m c = V
  after_reads_simp
  rfl

/-! ## The reversed positions -/

/-- Below the length, the position counted from the row's end is the one the words compute. -/
theorem back_index (w : BitVec 32) (hw : w.toInt ≤ 2048) (t : Fin 2048) (ht : (t.val : ℤ) < w.toInt) :
    IntOp.maxsi 0#32 (IntOp.subi (IntOp.subi w 1#32) (BitVec.ofNat 32 t.val)) = BitVec.ofNat 32 (w.toInt - 1 - t.val).toNat := by
  have ht2 := t.isLt
  obtain ⟨l, hl⟩ : ∃ l : ℕ, w.toInt = l := ⟨w.toInt.toNat, by omega⟩
  have hwl : w = BitVec.ofNat 32 l := by
    apply BitVec.eq_of_toInt_eq
    rw [hl, toInt_ofNat_of_lt (by omega)]
  rw [hl] at hw ht ⊢
  have e : IntOp.subi (IntOp.subi w 1#32) (BitVec.ofNat 32 t.val) = BitVec.ofNat 32 (l - 1 - t.val) := by
    subst hwl
    show BitVec.ofNat 32 l - 1#32 - BitVec.ofNat 32 t.val = _
    apply BitVec.eq_of_toNat_eq
    simp only [BitVec.toNat_sub, BitVec.toNat_ofNat]
    omega
  rw [e, show ((l : ℤ) - 1 - t.val).toNat = l - 1 - t.val by omega]
  have h0 : (BitVec.ofNat 32 (l - 1 - t.val)).toInt = (l - 1 - t.val : ℕ) := by
    exact toInt_ofNat_of_lt (by omega)
  unfold IntOp.maxsi
  rw [if_neg]
  rw [BitVec.slt_eq_decide, h0]
  simp

/-- The input the loop sees at step `t`, in direction `d`. -/
theorem E_xs_at (hT : TokensOk m c) (t : Fin 2048) (d : Fin 2) (b : Fin 64) (hw : (lenw m c b).toInt ≤ 2048) (ht : (t.val : ℤ) < (lenw m c b).toInt)
    (n : Fin 2048) (hn : n.val = place d (lenw m c b).toInt t.val) (x : Fin 128) : XS (E m c) (ix4 t d b x) = feat m c n b x := by
  rw [E_xs]
  unfold pick
  unfold place at hn
  by_cases hd : d.val = 0
  · rw [if_pos hd] at hn ⊢
    rw [S3_keep m c main_v6 (by decide +kernel) (by decide +kernel) (by decide +kernel), S0_v6 m c hT, Fin.ext hn]
  · rw [if_neg hd] at hn ⊢
    have h : (S2 m c (Proc.devRef .tc main_v33) : IVec S64x2048x1 32) (ix3 b t 0) = BitVec.ofNat 32 n.val := by
      rw [S2_v33, S1_v32, back_index _ hw t ht, hn]
    have e := take_in (S2 m c) b t n x h
    rw [← S0_v6 m c hT, ← (after_of_writes_sub hostOps0_2 (S1 m c) hostOps0_2_writes (by decide +kernel : main_v6 ∉ hostOps0_2_W)).trans
      (after_of_writes_sub hostOps0_1 _ hostOps0_1_writes (by decide +kernel : main_v6 ∉ hostOps0_1_W))]
    exact e

theorem stepAt_E (hT : TokensOk m c) (t : Fin 2048) (d : Fin 2) (b : Fin 64) (hw : (lenw m c b).toInt ≤ 2048) (ht : (t.val : ℤ) < (lenw m c b).toInt) :
    stepAt (E m c) t d b = stepOf m c d b (place d (lenw m c b).toInt t.val) := by
  have hp : place d (lenw m c b).toInt t.val < 2048 := by unfold place; split <;> omega
  have hx := fun x => E_xs_at m c hT t d b hw ht ⟨_, hp⟩ rfl x
  have hm : (place d (lenw m c b).toInt t.val) % 2048 = place d (lenw m c b).toInt t.val := Nat.mod_eq_of_lt hp
  have hg : inGates (E m c) t d b = proj1 (emb m c (tok m c (place d (lenw m c b).toInt t.val) b)) (wih m c d) (bih m c d) := by
    funext q
    unfold inGates proj1
    rw [E_bi]
    exact congrArg (· + _) (Finset.sum_congr rfl fun x _ => by rw [hx, E_wi]; rfl)
  unfold stepAt stepOf layerStep1
  rw [hg, show (fun q x => WH (E m c) (ix3 d q x)) = whh m c d from funext fun q => funext fun x => E_wh m c d q x,
    show (fun q => BH (E m c) (ix2 d q)) = bhh m c d from funext fun q => E_bh m c d q]

end Cert.Reference0Ideal.Value
-- ==== Proof.Ref0.Tail.lean ====
/-
The reference's result, entry by entry: after the loop the reversed direction is turned back along each row and
masked, and the two directions lie one after the other.
-/
module

public import proofs.«01_k».proof.Proof.Ref0.Entry

@[expose] public noncomputable section

set_option maxRecDepth 16384

namespace Cert.Reference0Ideal.Value

open Cert.Reference0Ideal Cert.Reference0Ideal.Gen
open Idealize.ShloMosaic Idealize.ShloMosaic.StableHlo Idealize.ShloMosaic.Tactic Idealize.ShloMosaic.TcCoe
open Cert.Gru

variable (m : (ℓ : Loc nD τ sig) → Buf (Elt Ideal) ℓ) (c : Dev nD)

/-! ## What the stretches behind the loop write -/

abbrev tail5 : List (Ref sig .tc) := [main_v44, main_v45, main_v46, main_v47, main_v48, main_v49, main_v50]
theorem tail5_writes : (hostOps0_5 (F := Ideal)).Forall fun op => op.writes ⊆ (tail5.map (Proc.devRef (τ := τ) .tc)).toFinset :=
  StableHlo.forall_writes_sub_of_map rfl

abbrev tail6 : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v51]
theorem tail6_writes : (hostOps0_6 (F := Ideal)).Forall fun op => op.writes ⊆ (tail6.map (Proc.devRef (τ := τ) .tc)).toFinset :=
  StableHlo.forall_writes_sub_of_map rfl

abbrev tail7 : List (Ref sig .tc) := [main_v52, main_cst_5]
theorem tail7_writes : (hostOps0_7 (F := Ideal)).Forall fun op => op.writes ⊆ (tail7.map (Proc.devRef (τ := τ) .tc)).toFinset :=
  StableHlo.forall_writes_sub_of_map rfl

abbrev tail8 : List (Ref sig .tc) := [main_call8_v0, main_call8_v1, main_call8_v2, main_v53]
theorem tail8_writes : (hostOps0_8 (F := Ideal)).Forall fun op => op.writes ⊆ (tail8.map (Proc.devRef (τ := τ) .tc)).toFinset :=
  StableHlo.forall_writes_sub_of_map rfl

abbrev tail9 : List (Ref sig .tc) := [main_v54, main_v55, main_v56]
theorem tail9_writes : (hostOps0_9 (F := Ideal)).Forall fun op => op.writes ⊆ (tail9.map (Proc.devRef (τ := τ) .tc)).toFinset :=
  StableHlo.forall_writes_sub_of_map rfl

/-! ## What the loop keeps -/

/-- No operation of the loop writes `r`. -/
def LoopFree (r : Ref sig .tc) : Prop :=
  r ∉ while0Ops0_W ∧ r ∉ while0Ops0_1_W ∧ r ∉ while0Ops0_2_W ∧ r ∉ while0Ops0_3_W ∧ r ∉ while0Ops0_4_W ∧ r ∉ while0Ops0_5_W
    ∧ r ∉ while0Ops0_6_W ∧ r ∉ while0Ops0_7_W ∧ r ∉ condOps_W

theorem loop_keep (r : Ref sig .tc) (h : LoopFree r) : ∀ k, atK m k c (Proc.devRef .tc r) = E m c (Proc.devRef .tc r)
  | 0 => rfl
  | k + 1 => by
    obtain ⟨h0, h1, h2, h3, h4, h5, h6, h7, hc⟩ := h
    rw [← loop_keep r ⟨h0, h1, h2, h3, h4, h5, h6, h7, hc⟩ k, show atK m (k + 1) c = afterL bodyI (after condOps (atK m k c)) from rfl]
    simp only [afterL_cons, afterL_nil]
    rw [after_of_writes_sub while0Ops0_7 _ while0Ops0_7_writes h7, after_of_writes_sub while0Ops0_6 _ while0Ops0_6_writes h6,
      after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]

/-- The buffers as the loop leaves them, and after each stretch behind it. -/
def F0 : Valuation τ sig (Elt Ideal) := after condOps (atK m 2048 c)
def F1 : Valuation τ sig (Elt Ideal) := after hostOps0_5 (F0 m c)
def F2 : Valuation τ sig (Elt Ideal) := after hostOps0_6 (F1 m c)
def F3 : Valuation τ sig (Elt Ideal) := after hostOps0_7 (F2 m c)
def F4 : Valuation τ sig (Elt Ideal) := after hostOps0_8 (F3 m c)

theorem final_eq : finalContents condOps preI bodyI postI 2048 m c = after hostOps0_9 (F4 m c) := rfl

theorem F0_keep (r : Ref sig .tc) (h : LoopFree r) : F0 m c (Proc.devRef .tc r) = E m c (Proc.devRef .tc r) :=
  (after_of_writes_sub condOps _ condOps_writes h.2.2.2.2.2.2.2.2).trans (loop_keep m c r h 2048)

theorem F0_out : F0 m c (Proc.devRef .tc main_v43_8) = at_ m c 2048 (Proc.devRef .tc main_v43_8) :=
  (cond_keeps _ main_v43_8 (by decide +kernel)).trans (atK_agree m c 2048 main_v43_8 (by decide +kernel))

theorem F0_v24 (b : Fin 64) (t : Fin 2048) : (F0 m c (Proc.devRef .tc main_v24) : IVec S64x2048 1) (ix2 b t)
    = IntOp.cmpi .slt (BitVec.ofNat 32 t.val) (lenw m c b) := by
  rw [F0_keep m c main_v24 (by unfold LoopFree; decide +kernel), E_eq,
    after_of_writes_sub hostOps0_4 _ hostOps0_4_writes (by decide +kernel : main_v24 ∉ hostOps0_4_W),
    S3_keep m c main_v24 (by decide +kernel) (by decide +kernel) (by decide +kernel), S0_v24]

theorem F0_v32 (b : Fin 64) (t : Fin 2048) : (F0 m c (Proc.devRef .tc main_v32) : IVec S64x2048 32) (ix2 b t)
    = IntOp.maxsi 0#32 (IntOp.subi (IntOp.subi (lenw m c b) 1#32) (BitVec.ofNat 32 t.val)) := by
  rw [F0_keep m c main_v32 (by unfold LoopFree; decide +kernel), E_eq,
    after_of_writes_sub hostOps0_4 _ hostOps0_4_writes (by decide +kernel : main_v32 ∉ hostOps0_4_W), S3,
    after_of_writes_sub hostOps0_3 _ hostOps0_3_writes (by decide +kernel : main_v32 ∉ hostOps0_3_W), S2,
    after_of_writes_sub hostOps0_2 _ hostOps0_2_writes (by decide +kernel : main_v32 ∉ hostOps0_2_W), S1_v32]

/-! ## Behind the loop -/

theorem F1_v46 (b : Fin 64) (t : Fin 2048) (j : Fin 256) : (F1 m c (Proc.devRef .tc main_v46) : Vec Ideal S64x2048x256 .f32) (ix3 b t j)
    = OUT (F0 m c) (ix4 t 0 b j) := by
  unfold F1 OUT
  generalize F0 m c = V
  after_reads_simp
  pointwise []

theorem F1_v49 (b : Fin 64) (t : Fin 2048) (j : Fin 256) : (F1 m c (Proc.devRef .tc main_v49) : Vec Ideal S64x2048x256 .f32) (ix3 b t j)
    = OUT (F0 m c) (ix4 t 1 b j) := by
  unfold F1 OUT
  generalize F0 m c = V
  after_reads_simp
  pointwise []

theorem F1_v50 (b : Fin 64) (t : Fin 2048) : (F1 m c (Proc.devRef .tc main_v50) : IVec S64x2048x1 32) (ix3 b t 0)
    = (F0 m c (Proc.devRef .tc main_v32) : IVec S64x2048 32) (ix2 b t) := by
  unfold F1
  generalize F0 m c = V
  after_reads_simp
  pointwise []

theorem F3_v52 (b : Fin 64) (t : Fin 2048) : (F3 m c (Proc.devRef .tc main_v52) : IVec S64x2048x1 1) (ix3 b t 0)
    = (F2 m c (Proc.devRef .tc main_v24) : IVec S64x2048 1) (ix2 b t) := by
  unfold F3
  generalize F2 m c = V
  after_reads_simp
  pointwise []

theorem F3_cst : F3 m c (Proc.devRef .tc main_cst_5) = constant (F := Ideal) S_ .f32 0x00000000#32 := by
  unfold F3
  generalize F2 m c = V
  after_reads_simp

theorem after8_v53 (V : Valuation τ sig (Elt Ideal)) : (after hostOps0_8 V (Proc.devRef .tc main_v53) : Vec Ideal S64x2048x256 .f32)
    = select (broadcastInDim S64x2048x256 ![0, 1, 2] bcast_S64x2048x1_S64x2048x256_0_1_2 (V (Proc.devRef .tc main_v52) : IVec S64x2048x1 1))
        (V (Proc.devRef .tc main_v51) : Vec Ideal S64x2048x256 .f32)
        (broadcastInDim S64x2048x256 ![] bcast_S_S64x2048x256 (id (V (Proc.devRef .tc main_cst_5) : Vec Ideal S_ .f32))) := by
  after_results_entrywise [cast_eq]

theorem F4_v53 (b : Fin 64) (t : Fin 2048) (j : Fin 256) : (F4 m c (Proc.devRef .tc main_v53) : Vec Ideal S64x2048x256 .f32) (ix3 b t j)
    = if (t.val : ℤ) < (lenw m c b).toInt then (F2 m c (Proc.devRef .tc main_v51) : Vec Ideal S64x2048x256 .f32) (ix3 b t j) else (0 : EReal) := by
  have e : (F3 m c (Proc.devRef .tc main_v52) : IVec S64x2048x1 1) (ix3 b t 0) = IntOp.cmpi .slt (BitVec.ofNat 32 t.val) (lenw m c b) := by
    rw [F3_v52, F2, after_of_writes_sub hostOps0_6 _ tail6_writes (by decide +kernel : main_v24 ∉ tail6), F1,
      after_of_writes_sub hostOps0_5 _ tail5_writes (by decide +kernel : main_v24 ∉ tail5), F0_v24]
  have e48 : F3 m c (Proc.devRef .tc main_v51) = F2 m c (Proc.devRef .tc main_v51) :=
    after_of_writes_sub hostOps0_7 _ tail7_writes (by decide +kernel)
  rw [← select_slt t.isLt, ← e, F4, after8_v53, F3_cst, e48]
  simp only [id]
  pointwise []

theorem final_v56 (i : Fin 4096) (b : Fin 64) (j : Fin 256) :
    (finalContents condOps preI bodyI postI 2048 m c (Proc.devRef .tc main_v56) : Vec Ideal S4096x64x256 .f32) (ix3 i b j)
      = if h : i.val < 2048 then (F4 m c (Proc.devRef .tc main_v46) : Vec Ideal S64x2048x256 .f32) (ix3 b ⟨i.val, h⟩ j)
        else (F4 m c (Proc.devRef .tc main_v53) : Vec Ideal S64x2048x256 .f32) (ix3 b ⟨i.val - 2048, by omega⟩ j) := by
  rw [final_eq]
  generalize F4 m c = V
  after_reads_simp
  pointwise []

/-! ## The loop's rows -/

theorem out_row (hT : TokensOk m c) (hw : ∀ b, (lenw m c b).toInt ≤ 2048) (s : Fin 2048) (d : Fin 2) (b : Fin 64) (j : Fin 256) :
    OUT (F0 m c) (ix4 s d b j) = if (s.val : ℤ) < (lenw m c b).toInt then
      stepOf m c d b (place d (lenw m c b).toInt s.val) (walkS d (lenw m c b).toInt (stepOf m c d b) s.val) j else 0 := by
  rw [show OUT (F0 m c) = OUT (at_ m c 2048) from F0_out m c]
  exact out_at m c (lenw m c) (fun d b n => stepOf m c d b (place d (lenw m c b).toInt n)) (E_ok m c)
    (fun t d b ht => stepAt_E m c hT t d b (hw b) ht) (E_st m c) 2048 le_rfl s d b j s.isLt

/-- The layer's output, at direction `d` and position `t`. -/
def layerAt (d : Fin 2) (t : ℕ) (b : Fin 64) (j : Fin 256) : EReal := out d (lenw m c b).toInt (stepOf m c d b) t j

theorem fwd_row (hT : TokensOk m c) (hw : ∀ b, (lenw m c b).toInt ≤ 2048) (t : Fin 2048) (b : Fin 64) (j : Fin 256) :
    OUT (F0 m c) (ix4 t 0 b j) = layerAt m c 0 t.val b j := by
  rw [out_row m c hT hw]
  unfold layerAt out
  by_cases h : (t.val : ℤ) < (lenw m c b).toInt
  · rw [if_pos h, if_pos h, walk_meet 0 (hw b) _ h]
    rfl
  · rw [if_neg h, if_neg h]

theorem bwd_row (hT : TokensOk m c) (hw : ∀ b, (lenw m c b).toInt ≤ 2048) (t : Fin 2048) (b : Fin 64) (j : Fin 256) :
    (F4 m c (Proc.devRef .tc main_v53) : Vec Ideal S64x2048x256 .f32) (ix3 b t j) = layerAt m c 1 t.val b j := by
  rw [F4_v53]
  unfold layerAt out
  by_cases h : (t.val : ℤ) < (lenw m c b).toInt
  · have hb := hw b
    rw [if_pos h, if_pos h, walk_meet 1 (hw b) _ h]
    have hn : ((lenw m c b).toInt - 1 - t.val).toNat < 2048 := by omega
    have e : (F1 m c (Proc.devRef .tc main_v50) : IVec S64x2048x1 32) (ix3 b t 0) = BitVec.ofNat 32 (⟨_, hn⟩ : Fin 2048).val := by
      rw [F1_v50, F0_v32, back_index _ (hw b) t h]
    rw [F2, take_out (F1 m c) b t ⟨_, hn⟩ j e, F1_v49, out_row m c hT hw]
    have hs : (((⟨_, hn⟩ : Fin 2048).val : ℕ) : ℤ) < (lenw m c b).toInt := by show ((((lenw m c b).toInt - 1 - t.val).toNat : ℕ) : ℤ) < _; omega
    rw [if_pos hs]
    have hp : place 1 (lenw m c b).toInt (⟨_, hn⟩ : Fin 2048).val = t.val := by
      show ((lenw m c b).toInt - 1 - ((((lenw m c b).toInt - 1 - t.val).toNat : ℕ) : ℤ)).toNat = t.val
      omega
    rw [hp]
    rfl
  · rw [if_neg h, if_neg h]

/-- The reference's result. -/
def G : Vec Ideal S4096x64x256 .f32 := fun y =>
  layerAt m c ⟨(y 0).val / 2048, by have h : (y 0).val < 4096 := (y 0).isLt; omega⟩ ((y 0).val % 2048) (y 1) (y 2)

theorem result (hT : TokensOk m c) (hw : ∀ b, (lenw m c b).toInt ≤ 2048) : finalContents condOps preI bodyI postI 2048 m c (Proc.devRef .tc main_v56) = G m c := by
  funext y
  obtain ⟨i, b, j, rfl⟩ : ∃ (i : Fin 4096) (b : Fin 64) (j : Fin 256), y = ix3 i b j := by idx_vars y; exact ⟨_, _, _, rfl⟩
  have hi := i.isLt
  refine (final_v56 m c i b j).trans ?_
  show _ = layerAt m c ⟨i.val / 2048, _⟩ (i.val % 2048) b j
  by_cases h : i.val < 2048
  · have e43 : F4 m c (Proc.devRef .tc main_v46) = F1 m c (Proc.devRef .tc main_v46) :=
      (after_of_writes_sub hostOps0_8 _ tail8_writes (by decide +kernel)).trans
        ((after_of_writes_sub hostOps0_7 _ tail7_writes (by decide +kernel)).trans
          (after_of_writes_sub hostOps0_6 _ tail6_writes (by decide +kernel)))
    rw [dif_pos h, e43, F1_v46, fwd_row m c hT hw]
    have h1 : (⟨i.val / 2048, by omega⟩ : Fin 2) = 0 := Fin.ext (by show i.val / 2048 = 0; omega)
    have h2 : i.val % 2048 = i.val := by omega
    rw [h1, h2]
  · rw [dif_neg h, bwd_row m c hT hw]
    have h1 : (⟨i.val / 2048, by omega⟩ : Fin 2) = 1 := Fin.ext (by show i.val / 2048 = 1; omega)
    have h2 : i.val % 2048 = i.val - 2048 := by omega
    rw [h1, h2]

end Cert.Reference0Ideal.Value
-- ==== Proof.Ref0.Frame.lean ====
/-
The reference's run: its arguments stay, its result is the layer.
-/
module

public import proofs.«01_k».proof.Proof.Ref0.Tail
public import Idealize.ShloMosaic.Lib.Quiescent

@[expose] public noncomputable section

set_option maxRecDepth 16384

namespace Cert.Reference0Ideal.Value

open Cert.Reference0Ideal Cert.Reference0Ideal.Gen
open Idealize.ShloMosaic Idealize.ShloMosaic.StableHlo Idealize.ShloMosaic.Tactic Idealize.ShloMosaic.TcCoe
open Idealize.SL.Sem
open Cert.Gru

variable (m : (ℓ : Loc nD τ sig) → Buf (Elt Ideal) ℓ) (ρ : Dev nD → PrngReg) (c : Dev nD)

/-- No operation of `main` outside the loop writes `r`. -/
def HostFree (r : Ref sig .tc) : Prop :=
  r ∉ hostOps0_W ∧ r ∉ hostOps0_1_W ∧ r ∉ hostOps0_2_W ∧ r ∉ hostOps0_3_W ∧ r ∉ hostOps0_4_W
    ∧ r ∉ tail5 ∧ r ∉ tail6 ∧ r ∉ tail7 ∧ r ∉ tail8 ∧ r ∉ tail9

theorem final_keep (r : Ref sig .tc) (h : HostFree r) (hl : LoopFree r) :
    finalContents condOps preI bodyI postI 2048 m c (Proc.devRef .tc r) = m ((c.tc : Thread nD τ).loc r) := by
  obtain ⟨h0, h1, h2, h3, h4, h5, h6, h7, h8, h9⟩ := h
  rw [final_eq, after_of_writes_sub hostOps0_9 _ tail9_writes h9, F4, after_of_writes_sub hostOps0_8 _ tail8_writes h8, F3,
    after_of_writes_sub hostOps0_7 _ tail7_writes h7, F2, after_of_writes_sub hostOps0_6 _ tail6_writes h6, F1,
    after_of_writes_sub hostOps0_5 _ tail5_writes h5, F0_keep m c r hl, E_eq,
    after_of_writes_sub hostOps0_4 _ hostOps0_4_writes h4, S3_keep m c r h1 h2 h3, S0,
    after_of_writes_sub hostOps0 _ hostOps0_writes h0]

/-- What the run leaves: the arguments as they were, and the result the last stretch's. -/
theorem run_all : θ_run (defs (F := Ideal)) (onTc (τ := τ) (main (F := Ideal))) ⟨m, fun _ => 0, ρ⟩ (fun r => (∀ c : Dev nD,
      r.2.mem ((c.tc : Thread nD τ).loc main_v56) = finalContents condOps preI bodyI postI 2048 m c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run _ _ _).mono (fun r h => ⟨fun c => ⟨h c main_v56 rfl,
    (h c main_arg0 rfl).trans (final_keep m c main_arg0 (by unfold HostFree; decide +kernel) (by unfold LoopFree; decide +kernel)),
    (h c main_arg1 rfl).trans (final_keep m c main_arg1 (by unfold HostFree; decide +kernel) (by unfold LoopFree; decide +kernel)),
    (h c main_arg2 rfl).trans (final_keep m c main_arg2 (by unfold HostFree; decide +kernel) (by unfold LoopFree; decide +kernel)),
    (h c main_arg3 rfl).trans (final_keep m c main_arg3 (by unfold HostFree; decide +kernel) (by unfold LoopFree; decide +kernel)),
    (h c main_arg4 rfl).trans (final_keep m c main_arg4 (by unfold HostFree; decide +kernel) (by unfold LoopFree; decide +kernel)),
    (h c main_arg5 rfl).trans (final_keep m c main_arg5 (by unfold HostFree; decide +kernel) (by unfold LoopFree; decide +kernel)),
    (h c main_arg6 rfl).trans (final_keep m c main_arg6 (by unfold HostFree; decide +kernel) (by unfold LoopFree; decide +kernel)),
    (h c main_arg7 rfl).trans (final_keep m c main_arg7 (by unfold HostFree; decide +kernel) (by unfold LoopFree; decide +kernel)),
    (h c main_arg8 rfl).trans (final_keep m c main_arg8 (by unfold HostFree; decide +kernel) (by unfold LoopFree; decide +kernel)),
    (h c main_arg9 rfl).trans (final_keep m c main_arg9 (by unfold HostFree; decide +kernel) (by unfold LoopFree; decide +kernel)),
    (h c main_arg10 rfl).trans (final_keep m c main_arg10 (by unfold HostFree; decide +kernel) (by unfold LoopFree; decide +kernel))⟩,
    sem_eq_zero_of_no_sems rfl r.2⟩) (run_fold m ρ)

end Cert.Reference0Ideal.Value
-- ==== Proof.Head.RunOut.lean ====
/-
The head's run, with its result array: what the last host operations leave.
-/
module

public import proofs.«01_k».proof.Proof.Gen.Kernel2Ideal.Frame

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the head ends with the arguments as launched, the counters at zero and the result array at what the
    last host operations leave of the regions' arrays. -/
theorem run_out : θ_run defs (onTc (τ := τ) (main (F := F))) ⟨m, fun _ => 0, ρ⟩ (fun r => (∀ c : Dev nD,
      r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v20 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩), funext fun g => hz g (.inr (no_unscoped g.2))⟩)

end Cert.Kernel2Ideal.Head

end
-- ==== Proof.Head.Host.lean ====
/-
What the host operations between the regions leave: transposed weights, biases and scales as rows, the
tokens by time, the table, and the result with the batch first.
-/
module

public import proofs.«01_k».proof.Proof.Gen.Kernel2Ideal.Frame
public import Idealize.ShloMosaic.Lib.Pointwise
import Idealize.ShloMosaic.Lib.StableHlo.ReadAt

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic

variable (V : Valuation τ sig (Elt Ideal))

theorem ops0_v0 (x : Fin 2048) (q : Fin 64) : StableHlo.after hostOps0 V (Proc.devRef .tc main_v0) (ix2 x q) = V (Proc.devRef .tc main_arg1) (ix2 q x) := by
  after_reads_at

theorem ops0_v1 (x : Fin 512) (q : Fin 128) : StableHlo.after hostOps0 V (Proc.devRef .tc main_v1) (ix2 x q) = V (Proc.devRef .tc main_arg3) (ix2 q x) := by
  after_reads_at

theorem ops0_v2 (x : Fin 128) : StableHlo.after hostOps0 V (Proc.devRef .tc main_v2) (ix2 0 x) = V (Proc.devRef .tc main_arg4) (ix1 x) := by
  after_reads_at

theorem ops1_v4 (x : Fin 128) : StableHlo.after hostOps1 V (Proc.devRef .tc main_v4) (ix2 0 x) = V (Proc.devRef .tc main_arg5) (ix1 x) := by
  after_reads_at

theorem ops1_v5 (x : Fin 128) : StableHlo.after hostOps1 V (Proc.devRef .tc main_v5) (ix2 0 x) = V (Proc.devRef .tc main_arg6) (ix1 x) := by
  after_reads_at

theorem ops1_v6 (x : Fin 128) (q : Fin 256) : StableHlo.after hostOps1 V (Proc.devRef .tc main_v6) (ix2 x q) = V (Proc.devRef .tc main_arg7) (ix2 q x) := by
  after_reads_at

theorem ops1_v7 (x : Fin 256) : StableHlo.after hostOps1 V (Proc.devRef .tc main_v7) (ix2 0 x) = V (Proc.devRef .tc main_arg8) (ix1 x) := by
  after_reads_at

theorem ops2_v9 (x : Fin 256) : StableHlo.after hostOps2 V (Proc.devRef .tc main_v9) (ix2 0 x) = V (Proc.devRef .tc main_arg9) (ix1 x) := by
  after_reads_at

theorem ops2_v10 (x : Fin 256) : StableHlo.after hostOps2 V (Proc.devRef .tc main_v10) (ix2 0 x) = V (Proc.devRef .tc main_arg10) (ix1 x) := by
  after_reads_at

theorem ops2_v11 (x : Fin 256) (q : Fin 128) : StableHlo.after hostOps2 V (Proc.devRef .tc main_v11) (ix2 x q) = V (Proc.devRef .tc main_arg11) (ix2 q x) := by
  after_reads_at

theorem ops2_v12 (x : Fin 128) : StableHlo.after hostOps2 V (Proc.devRef .tc main_v12) (ix2 0 x) = V (Proc.devRef .tc main_arg12) (ix1 x) := by
  after_reads_at

theorem ops3_v14 (x : Fin 128) : StableHlo.after hostOps3 V (Proc.devRef .tc main_v14) (ix2 0 x) = V (Proc.devRef .tc main_arg13) (ix1 x) := by
  after_reads_at

theorem ops3_v15 (x : Fin 128) : StableHlo.after hostOps3 V (Proc.devRef .tc main_v15) (ix2 0 x) = V (Proc.devRef .tc main_arg14) (ix1 x) := by
  after_reads_at

theorem ops3_v16 (x : Fin 128) (q : Fin 61) : StableHlo.after hostOps3 V (Proc.devRef .tc main_v16) (ix2 x q) = V (Proc.devRef .tc main_arg15) (ix2 q x) := by
  after_reads_at

theorem ops3_v17 (x : Fin 61) : StableHlo.after hostOps3 V (Proc.devRef .tc main_v17) (ix2 0 x) = V (Proc.devRef .tc main_arg16) (ix1 x) := by
  after_reads_at

theorem ops0_cst : StableHlo.after hostOps0 V (Proc.devRef .tc main_cst) = fun i => FloatOps.ofBits (F := Ideal) .f32 (lit0 (S21x61.rowMajor i)) := by
  after_reads_simp
  rfl

theorem ops4_v20 (b : Fin 64) (s : Fin 2048) (q : Fin 61) : StableHlo.after hostOps4 V (Proc.devRef .tc main_v20) (ix3 b s q)
    = V (Proc.devRef .tc main_v18) (ix2 ⟨s.val * 64 + b.val, by omega⟩ q) := by
  after_reads_at

end Cert.Kernel2Ideal.Head

end
-- ==== Proof.Head.Math.lean ====
/-
The head's mathematics over the extended reals: a linear map, a batch normalisation over all the
tokens, the leaky rectifier. Over finite values the variance as the mean of the squares less the
square of the mean is the mean of the squared deviations.
-/
module

public import Idealize.ShloMosaic.Lib.Pointwise
public import Idealize.ShloMosaic.Lib.IdealHost

@[expose] public section

set_option maxRecDepth 16384

noncomputable section

namespace Cert.Head

open Idealize.ShloMosaic

/-! ## Finite values -/

/-- The value is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.of_lt {x : EReal} (h1 : x < ⊤) (h2 : ⊥ < x) : IsReal x :=
  ⟨x.toReal, (EReal.coe_toReal h1.ne h2.ne').symm⟩

theorem coe_sum {n : ℕ} (f : Fin n → ℝ) : (∑ x, ((f x : ℝ) : EReal)) = ((∑ x, f x : ℝ) : EReal) := by
  refine Finset.induction_on (Finset.univ : Finset (Fin n)) (by simp) ?_
  intro a s ha ih
  rw [Finset.sum_insert ha, Finset.sum_insert ha, ih, EReal.coe_add]

theorem IsReal.sum {n : ℕ} {f : Fin n → EReal} (h : ∀ x, IsReal (f x)) : IsReal (∑ x, f x) := by
  choose g hg using h
  exact ⟨∑ x, g x, by rw [← coe_sum]; exact Finset.sum_congr rfl fun x _ => hg x⟩

/-! ## The constants -/

/-- The number of tokens, the normalisation's offset and the rectifier's slope. -/
def nTok : EReal := Ideal.ofBits .f32 0x48000000#32
def eps : EReal := Ideal.ofBits .f32 0x3727C5AC#32
def slope : EReal := Ideal.ofBits .f32 0x3C23D70A#32

theorem nTok_eq : nTok = ((131072 : ℝ) : EReal) := by
  unfold nTok
  simp [Ideal.ofBits, Ideal.ieee, -EReal.coe_mul]; norm_num

theorem eps_eq : eps = ((10995116 / 2 ^ 40 : ℝ) : EReal) := by
  unfold eps
  simp [Ideal.ofBits, Ideal.ieee, -EReal.coe_mul]; norm_num

theorem slope_eq : slope = ((10737418 / 2 ^ 30 : ℝ) : EReal) := by
  unfold slope
  simp [Ideal.ofBits, Ideal.ieee, -EReal.coe_mul]; norm_num

/-! ## The operations -/

/-- The leaky rectifier. -/
def leaky (a : EReal) : EReal := if 0 ≤ a then a else slope * a

/-- One value of a channel with mean `m` and variance `v`, normalised, scaled by `g` and shifted by `be`. -/
def normal (g be x m v : EReal) : EReal := g * (x - m) * Ideal.rsqrt (v + eps) + be

/-- A channel's mean over the tokens, and its variance. -/
def mean (o : Fin 131072 → EReal) : EReal := Ideal.div (∑ x, o x) nTok
def var (o : Fin 131072 → EReal) : EReal := Ideal.div (∑ x, (o x - mean o) * (o x - mean o)) nTok

/-- The mean of the squares less the square of the mean. -/
def varSq (o : Fin 131072 → EReal) : EReal := Ideal.div (∑ x, o x * o x) nTok - mean o * mean o

/-- A channel normalised over the tokens and rectified. -/
def act (g be : EReal) (o : Fin 131072 → EReal) (n : Fin 131072) : EReal := leaky (normal g be (o n) (mean o) (var o))

/-- A linear map with bias. -/
def lin {K M : ℕ} (w : Fin M → Fin K → EReal) (b : Fin M → EReal) (a : Fin K → EReal) (q : Fin M) : EReal := (∑ x, a x * w q x) + b q

/-- One hidden stage: every channel of `o` normalised and rectified, then the linear map. -/
def stage {K M : ℕ} (g be : Fin K → EReal) (w : Fin M → Fin K → EReal) (b : Fin M → EReal) (o : Fin 131072 → Fin K → EReal) (n : Fin 131072) (q : Fin M) : EReal :=
  lin w b (fun x => act (g x) (be x) (fun n => o n x) n) q

/-! ## The variance -/

theorem mean_coe (f : Fin 131072 → ℝ) : mean (fun x => (f x : EReal)) = (((∑ x, f x) * (1 / 131072) : ℝ) : EReal) := by
  rw [mean, nTok_eq, Ideal.div_coe (by norm_num), coe_sum, EReal.coe_mul]

theorem var_coe (f : Fin 131072 → ℝ) :
    var (fun x => (f x : EReal)) = (((∑ x, (f x - (∑ x, f x) * (1 / 131072)) * (f x - (∑ x, f x) * (1 / 131072))) * (1 / 131072) : ℝ) : EReal) := by
  rw [var, mean_coe, nTok_eq, Ideal.div_coe (by norm_num)]
  simp only [← EReal.coe_sub, ← EReal.coe_mul]
  rw [coe_sum, ← EReal.coe_mul]

theorem varSq_coe (f : Fin 131072 → ℝ) :
    varSq (fun x => (f x : EReal)) = (((∑ x, f x * f x) * (1 / 131072) - (∑ x, f x) * (1 / 131072) * ((∑ x, f x) * (1 / 131072)) : ℝ) : EReal) := by
  rw [varSq, mean_coe, nTok_eq, Ideal.div_coe (by norm_num)]
  simp only [← EReal.coe_mul]
  rw [coe_sum, ← EReal.coe_mul, ← EReal.coe_sub]

theorem sum_dev (f : Fin 131072 → ℝ) (m : ℝ) : (∑ x, (f x - m) * (f x - m)) = (∑ x, f x * f x) - 2 * m * (∑ x, f x) + 131072 * (m * m) := by
  have h : ∀ x, (f x - m) * (f x - m) = f x * f x - 2 * m * f x + m * m := fun x => by ring
  simp only [h]
  rw [Finset.sum_add_distrib, Finset.sum_sub_distrib, ← Finset.mul_sum, Finset.sum_const, Finset.card_univ, Fintype.card_fin, nsmul_eq_mul]
  norm_num

/-- Over finite values the two forms of the variance agree. -/
theorem varSq_eq {o : Fin 131072 → EReal} (h : ∀ x, IsReal (o x)) : varSq o = var o := by
  choose f hf using h
  obtain rfl : o = fun x => (f x : EReal) := funext hf
  rw [varSq_coe, var_coe, sum_dev]
  congr 1
  ring

theorem IsReal.leaky {a : EReal} (h : IsReal a) : IsReal (leaky a) := by
  unfold Head.leaky
  split
  · exact h
  · exact IsReal.mul ⟨_, slope_eq⟩ h

/-- A finite channel stays finite. -/
theorem IsReal.act {g be : EReal} {o : Fin 131072 → EReal} (hg : IsReal g) (hb : IsReal be) (h : ∀ x, IsReal (o x)) (n : Fin 131072) :
    IsReal (act g be o n) := by
  choose f hf using h
  obtain rfl : o = fun x => (f x : EReal) := funext hf
  unfold Head.act normal
  rw [mean_coe, var_coe, eps_eq, ← EReal.coe_add, Ideal.rsqrt_coe]
  have hp : (0 : ℝ) < (∑ x, (f x - (∑ x, f x) * (1 / 131072)) * (f x - (∑ x, f x) * (1 / 131072))) * (1 / 131072) + 10995116 / 2 ^ 40 := by
    exact add_pos_of_nonneg_of_pos (mul_nonneg (Finset.sum_nonneg fun x _ => mul_self_nonneg _) (by norm_num)) (by norm_num)
  rw [if_neg (not_lt.2 hp.le), if_neg hp.ne']
  exact (((hg.mul ((IsReal.coe _).sub (IsReal.coe _))).mul (IsReal.coe _)).add hb).leaky

theorem IsReal.lin {K M : ℕ} {w : Fin M → Fin K → EReal} {b : Fin M → EReal} {a : Fin K → EReal} (hw : ∀ q x, IsReal (w q x)) (hb : ∀ q, IsReal (b q))
    (ha : ∀ x, IsReal (a x)) (q : Fin M) : IsReal (lin w b a q) :=
  (IsReal.sum fun x => (ha x).mul (hw q x)).add (hb q)

theorem IsReal.stage {K M : ℕ} {g be : Fin K → EReal} {w : Fin M → Fin K → EReal} {b : Fin M → EReal} {o : Fin 131072 → Fin K → EReal}
    (hg : ∀ x, IsReal (g x)) (hbe : ∀ x, IsReal (be x)) (hw : ∀ q x, IsReal (w q x)) (hb : ∀ q, IsReal (b q)) (ho : ∀ n x, IsReal (o n x))
    (n : Fin 131072) (q : Fin M) : IsReal (stage g be w b o n q) :=
  IsReal.lin hw hb (fun x => IsReal.act (hg x) (hbe x) (fun n => ho n x) n) q

/-! ## The softmax -/

/-- The largest of a row's entries, from the least value there is. -/
def top (f : Fin 61 → EReal) : EReal := Finset.fold max (Ideal.ofBits .f32 4286578688#32) f Finset.univ

/-- The softmax over a row of 61 entries. -/
def soft (f : Fin 61 → EReal) (q : Fin 61) : EReal := Ideal.div (Ideal.exp (f q - top f)) (∑ x, Ideal.exp (f x - top f))

/-! ## The head -/

/-- The head's float arguments: the layer's states, then each linear map's weights and bias and the normalisations' scales and shifts. -/
@[ext] structure Args where
  h : Fin 4096 → Fin 64 → Fin 256 → EReal
  w1 : Fin 128 → Fin 512 → EReal
  b1 : Fin 128 → EReal
  g1 : Fin 128 → EReal
  be1 : Fin 128 → EReal
  w2 : Fin 256 → Fin 128 → EReal
  b2 : Fin 256 → EReal
  g2 : Fin 256 → EReal
  be2 : Fin 256 → EReal
  w3 : Fin 128 → Fin 256 → EReal
  b3 : Fin 128 → EReal
  g3 : Fin 128 → EReal
  be3 : Fin 128 → EReal
  w4 : Fin 61 → Fin 128 → EReal
  b4 : Fin 61 → EReal

/-- The arguments that reach a normalised channel are real numbers. -/
structure Args.Finite (a : Args) : Prop where
  h : ∀ i b x, IsReal (a.h i b x)
  w1 : ∀ q x, IsReal (a.w1 q x)
  b1 : ∀ q, IsReal (a.b1 q)
  g1 : ∀ q, IsReal (a.g1 q)
  be1 : ∀ q, IsReal (a.be1 q)
  w2 : ∀ q x, IsReal (a.w2 q x)
  b2 : ∀ q, IsReal (a.b2 q)
  g2 : ∀ q, IsReal (a.g2 q)
  be2 : ∀ q, IsReal (a.be2 q)
  w3 : ∀ q x, IsReal (a.w3 q x)
  b3 : ∀ q, IsReal (a.b3 q)

namespace Args

variable (a : Args)

/-- The first linear map at row `n`, the time running slowest: the forward states' product, the backward states', the bias. -/
def o1 (n : Fin 131072) (q : Fin 128) : EReal :=
  ∑ x : Fin 256, a.h ⟨n.val / 64, by omega⟩ ⟨n.val % 64, by omega⟩ x * a.w1 q ⟨x.val, by omega⟩
    + ∑ x : Fin 256, a.h ⟨2048 + n.val / 64, by omega⟩ ⟨n.val % 64, by omega⟩ x * a.w1 q ⟨256 + x.val, by omega⟩
    + a.b1 q
/-- The three stages after it. -/
def o2 : Fin 131072 → Fin 256 → EReal := stage a.g1 a.be1 a.w2 a.b2 a.o1
def o3 : Fin 131072 → Fin 128 → EReal := stage a.g2 a.be2 a.w3 a.b3 a.o2
def o4 : Fin 131072 → Fin 61 → EReal := stage a.g3 a.be3 a.w4 a.b4 a.o3

variable {a}

theorem Finite.o1 (f : a.Finite) (n : Fin 131072) (q : Fin 128) : IsReal (a.o1 n q) :=
  ((IsReal.sum fun x => (f.h _ _ _).mul (f.w1 _ _)).add (IsReal.sum fun x => (f.h _ _ _).mul (f.w1 _ _))).add (f.b1 q)
theorem Finite.o2 (f : a.Finite) (n : Fin 131072) (q : Fin 256) : IsReal (a.o2 n q) := IsReal.stage f.g1 f.be1 f.w2 f.b2 f.o1 n q
theorem Finite.o3 (f : a.Finite) (n : Fin 131072) (q : Fin 128) : IsReal (a.o3 n q) := IsReal.stage f.g2 f.be2 f.w3 f.b3 f.o2 n q

end Args

/-! ## The order of the tokens -/

/-- The row of a token when time runs slowest, from its row when the batch runs slowest. -/
def swapRow : Fin 131072 ≃ Fin 131072 where
  toFun n := ⟨n.val % 2048 * 64 + n.val / 2048, by omega⟩
  invFun n := ⟨n.val % 64 * 2048 + n.val / 64, by omega⟩
  left_inv n := Fin.ext (by show (n.val % 2048 * 64 + n.val / 2048) % 64 * 2048 + (n.val % 2048 * 64 + n.val / 2048) / 64 = n.val; omega)
  right_inv n := Fin.ext (by show (n.val % 64 * 2048 + n.val / 64) % 2048 * 64 + (n.val % 64 * 2048 + n.val / 64) / 2048 = n.val; omega)

theorem mean_swap (o : Fin 131072 → EReal) : mean (fun n => o (swapRow n)) = mean o := by
  unfold mean; rw [Equiv.sum_comp swapRow o]

theorem var_swap (o : Fin 131072 → EReal) : var (fun n => o (swapRow n)) = var o := by
  unfold var; rw [mean_swap, Equiv.sum_comp swapRow fun x => (o x - mean o) * (o x - mean o)]

theorem act_swap (g be : EReal) (o : Fin 131072 → EReal) (n : Fin 131072) : act g be (fun n => o (swapRow n)) n = act g be o (swapRow n) := by
  unfold act; rw [mean_swap, var_swap]

theorem stage_swap {K M : ℕ} (g be : Fin K → EReal) (w : Fin M → Fin K → EReal) (b : Fin M → EReal) (o : Fin 131072 → Fin K → EReal) (n : Fin 131072) (q : Fin M) :
    stage g be w b (fun n => o (swapRow n)) n q = stage g be w b o (swapRow n) q := by
  have h : ∀ x, act (g x) (be x) (fun n => o (swapRow n) x) n = act (g x) (be x) (fun n => o n x) (swapRow n) := fun x => act_swap (g x) (be x) (fun n => o n x) n
  unfold stage
  simp only [h]

/-! ## The blocks -/

/-- The row of a block's token. -/
def rowAt (i : Fin 16) (r : Fin 8192) : Fin 131072 := ⟨i.val * 8192 + r.val, by omega⟩

theorem sum_blocks (f : Fin 131072 → EReal) : (∑ i, ∑ r, f (rowAt i r)) = ∑ n, f n :=
  (Fin.sum_univ_tiles 16 8192 rfl f).symm

/-- A block's sum over its rows of a channel, and of the channel's square. -/
def part {K : ℕ} (o : Fin 131072 → Fin K → EReal) (i : Fin 16) (z : Fin 2) (x : Fin K) : EReal :=
  if z.val < 1 then ∑ r, o (rowAt i r) x else ∑ r, o (rowAt i r) x * o (rowAt i r) x

theorem sum_part0 {K : ℕ} (o : Fin 131072 → Fin K → EReal) (x : Fin K) : (∑ i, part o i 0 x) = ∑ n, o n x := by
  rw [← sum_blocks fun n => o n x]; rfl

theorem sum_part1 {K : ℕ} (o : Fin 131072 → Fin K → EReal) (x : Fin K) : (∑ i, part o i 1 x) = ∑ n, o n x * o n x := by
  rw [← sum_blocks fun n => o n x * o n x]; rfl

/-- A stage as the kernel computes it, from the channels and their blocks' sums. -/
def stageK {K M : ℕ} (g be : Fin K → EReal) (w : Fin M → Fin K → EReal) (b : Fin M → EReal) (o : Fin K → EReal) (s0 s1 : Fin K → EReal) (q : Fin M) : EReal :=
  lin w b (fun x => leaky (normal (g x) (be x) (o x) (Ideal.div (s0 x) nTok) (Ideal.div (s1 x) nTok - Ideal.div (s0 x) nTok * Ideal.div (s0 x) nTok))) q

theorem stageK_eq {K M : ℕ} (g be : Fin K → EReal) (w : Fin M → Fin K → EReal) (b : Fin M → EReal) (o : Fin 131072 → Fin K → EReal) (h : ∀ n x, IsReal (o n x))
    (n : Fin 131072) (q : Fin M) : stageK g be w b (o n) (fun x => ∑ i, part o i 0 x) (fun x => ∑ i, part o i 1 x) q = stage g be w b o n q := by
  unfold stageK stage act
  simp only [sum_part0, sum_part1]
  have hv : ∀ x, var (fun n => o n x) = varSq fun n => o n x := fun x => (varSq_eq fun n => h n x).symm
  simp only [hv]
  rfl

end Cert.Head

end
-- ==== Proof.Head.Region0.lean ====
/-
The head's first linear map: the rows the region writes, and each block's sums over its rows.
-/
module

public import proofs.«01_k».proof.Proof.Head.Math
public import proofs.«01_k».proof.Proof.Gen.Kernel2Ideal.Frame
public import Idealize.ShloMosaic.Lib.Pipeline.ValueKit
import Idealize.ShloMosaic.Lib.Pipeline.Covers
import Idealize.ShloMosaic.Lib.Claim

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic
open Idealize.SL.Sem
open Cert.Head

variable (V : (c : Dev nD) → (b : Ref sig .tc) → Buf (Elt Ideal) ((c : Thread nD τ).loc b)) (c : Dev nD)

namespace R0

theorem idx : ∀ t : Fin cfg0.N,
    win0_0.index t = ![t.val, 0, 0] ∧ win0_1.index t = ![16 + t.val, 0, 0] ∧ win0_2.index t = ![0, 0] ∧ win0_3.index t = ![0, 0]
      ∧ win0_4.index t = ![t.val, 0] ∧ win0_5.index t = ![t.val, 0, 0] :=
  (by decide +kernel : ∀ t : Fin grid0.N, _)

theorem pay1_apply (v0 v2 : Vec Ideal S128x64x256 .f32) (v4 v7 : Vec Ideal S256x128 .f32) (v11 : Vec Ideal S1x128 .f32) (r : Fin 8192) (q : Fin 128) :
    k0_pay1 v0 v2 v4 v7 v11 (ix2 r q) = (∑ x, v0 (ix3 ⟨r.val / 64, by omega⟩ ⟨r.val % 64, by omega⟩ x) * v4 (ix2 x q)
      + ∑ x, v2 (ix3 ⟨r.val / 64, by omega⟩ ⟨r.val % 64, by omega⟩ x) * v7 (ix2 x q) + v11 (ix2 0 q) : EReal) := by
  pointwise [k0_pay1]

theorem pay2_apply (v0 v2 : Vec Ideal S128x64x256 .f32) (v4 v7 : Vec Ideal S256x128 .f32) (v11 : Vec Ideal S1x128 .f32) (z : Fin 2) (q : Fin 128)
    (f : Fin 8192 → EReal) (hf : ∀ r, k0_pay1 v0 v2 v4 v7 v11 (ix2 r q) = f r) :
    k0_pay2 v0 v2 v4 v7 v11 (ix3 0 z q) = (if z.val < 1 then ∑ x, f x else ∑ x, f x * f x : EReal) := by
  pointwise [k0_pay2]
  simp only [hf]
  rfl

variable (t : Fin cfg0.N)

theorem blk0 (a : Fin 128) (b : Fin 64) (x : Fin 256) : iblk0 V c 0 t (ix3 a b x) = V c main_arg0 (ix3 ⟨128 * t.val + a.val, by have : t.val < 16 := t.isLt; omega⟩ b x) := by
  have : t.val < 16 := t.isLt
  blk_ext [iblk0, idx t]

theorem blk1 (a : Fin 128) (b : Fin 64) (x : Fin 256) : iblk0 V c 1 t (ix3 a b x) = V c main_arg0 (ix3 ⟨128 * (16 + t.val) + a.val, by have : t.val < 16 := t.isLt; omega⟩ b x) := by
  have : t.val < 16 := t.isLt
  blk_ext [iblk0, idx t]

theorem blk2 (k : Fin 512) (q : Fin 128) : iblk0 V c 2 t (ix2 k q) = V c main_v1 (ix2 k q) := by
  blk_ext [iblk0, idx t]

theorem blk3 (q : Fin 128) : iblk0 V c 3 t (ix2 0 q) = V c main_v2 (ix2 0 q) := by
  blk_ext [iblk0, idx t]

theorem ld1 (x : Vec Ideal S512x128 .f32) (k : Fin 256) (q : Fin 128) : View.ld x r0_1 (ix2 k q) = x (ix2 ⟨k.val, by omega⟩ q) := by
  pointwise []

theorem ld2 (x : Vec Ideal S512x128 .f32) (k : Fin 256) (q : Fin 128) : View.ld x r0_2 (ix2 k q) = x (ix2 ⟨256 + k.val, by omega⟩ q) := by
  pointwise []

/-- The linear map at row `n`, unit `q`: the forward half's product, the backward half's, the bias. -/
def rowOf (h : S4096x64x256.Idx → EReal) (w : S512x128.Idx → EReal) (b : S1x128.Idx → EReal) (n : Fin 131072) (q : Fin 128) : EReal :=
  ∑ x : Fin 256, h (ix3 ⟨n.val / 64, by omega⟩ ⟨n.val % 64, by omega⟩ x) * w (ix2 ⟨x.val, by omega⟩ q)
    + ∑ x : Fin 256, h (ix3 ⟨2048 + n.val / 64, by omega⟩ ⟨n.val % 64, by omega⟩ x) * w (ix2 ⟨256 + x.val, by omega⟩ q)
    + b (ix2 0 q)

/-- The linear map of the entry contents. -/
def row (n : Fin 131072) (q : Fin 128) : EReal := rowOf (V c main_arg0) (V c main_v1) (V c main_v2) n q

theorem pay_row (r : Fin 8192) (q : Fin 128) :
    k0_pay1 (iblk0 V c 0 t) (iblk0 V c 1 t) (View.ld (iblk0 V c 2 t) r0_1) (View.ld (iblk0 V c 2 t) r0_2) (iblk0 V c 3 t) (ix2 r q)
      = row V c (rowAt ⟨t.val, t.isLt⟩ r) q := by
  have h16 : t.val < 16 := t.isLt
  rw [pay1_apply]
  have l1 : ∀ x : Fin 256, View.ld (iblk0 V c 2 t) r0_1 (ix2 x q) = V c main_v1 (ix2 ⟨x.val, by omega⟩ q) := fun x => (ld1 _ x q).trans (blk2 V c t _ q)
  have l2 : ∀ x : Fin 256, View.ld (iblk0 V c 2 t) r0_2 (ix2 x q) = V c main_v1 (ix2 ⟨256 + x.val, by omega⟩ q) := fun x => (ld2 _ x q).trans (blk2 V c t _ q)
  unfold row rowOf rowAt
  simp only [blk0, blk1, blk3]
  have e1 : (t.val * 8192 + r.val) / 64 = 128 * t.val + r.val / 64 := by omega
  have e2 : (t.val * 8192 + r.val) % 64 = r.val % 64 := by omega
  have e3 : 2048 + (128 * t.val + r.val / 64) = 128 * (16 + t.val) + r.val / 64 := by omega
  simp only [e1, e2, e3]
  refine congrArg₂ (fun x y : EReal => x + y) (congrArg₂ (fun x y : EReal => x + y) ?_ ?_) rfl
  · exact Finset.sum_congr rfl fun x _ => congrArg₂ (fun x y : EReal => x * y) rfl (l1 x)
  · exact Finset.sum_congr rfl fun x _ => congrArg₂ (fun x y : EReal => x * y) rfl (l2 x)

theorem after4 : ∀ (r : Fin 8192) (q : Fin 128), (dat0 V c).after 4 t (ix2 r q) = row V c (rowAt ⟨t.val, t.isLt⟩ r) q := by
  rw [after0_4]
  frame_out
  intro r q
  exact pay_row V c t r q

theorem after5 : ∀ (z : Fin 2) (q : Fin 128), (dat0 V c).after 5 t (ix3 0 z q) = part (row V c) ⟨t.val, t.isLt⟩ z q := by
  rw [after0_5]
  frame_out
  intro z q
  exact pay2_apply _ _ _ _ _ z q _ fun r => pay_row V c t r q

/-! ## The arrays -/

theorem emb4 (y0 : Fin 8192) (y1 : Fin 128) : ((cfg0.win 4).blk t).view.emb (ix2 y0 y1) = ix2 (rowAt ⟨t.val, t.isLt⟩ y0) y1 := by
  have : t.val < 16 := t.isLt
  unfold rowAt
  blk_ext [idx t]

theorem emb5 (y1 : Fin 2) (y2 : Fin 128) : ((cfg0.win 5).blk t).view.emb (ix3 0 y1 y2) = ix3 ⟨t.val, t.isLt⟩ y1 y2 := by
  have : t.val < 16 := t.isLt
  blk_ext [idx t]

/-- The rows. -/
def G4 : Vec Ideal S131072x128 .f32 := fun y => row V c (y 0) (y 1)
/-- The blocks' sums. -/
def G5 : Vec Ideal S16x2x128 .f32 := fun y => part (row V c) (y 0) (y 1) (y 2)

theorem xinj4 (y0 : Fin 8192) (y1 : Fin 128) : (cfg0.win 4).xinj (grid0.coords t) (ix2 y0 y1) = (ix2 y0 y1 : S8192x128.Idx) := by
  funext a
  exact Fin.ext (Pipeline.Window.xinj_val ..)

theorem xinj5 (y0 : Fin 1) (y1 : Fin 2) (y2 : Fin 128) : (cfg0.win 5).xinj (grid0.coords t) (ix3 y0 y1 y2) = (ix3 y0 y1 y2 : S1x2x128.Idx) := by
  funext a
  exact Fin.ext (Pipeline.Window.xinj_val ..)

theorem cast4 (x : Elt Ideal (cfg0.win 4).elt) : cast (congrArg (Elt Ideal) ((cfg0.win 4).blk t).view.elt_eq.symm) x = x := rfl
theorem cast5 (x : Elt Ideal (cfg0.win 5).elt) : cast (congrArg (Elt Ideal) ((cfg0.win 5).blk t).view.elt_eq.symm) x = x := rfl

theorem arr4 : (dat0 V c).arrAt 4 cfg0.N = G4 V c := by
  refine (dat0 V c).arrAt_eq_of_covers 4 _ (by decide +kernel) fun t hf y => ?_
  idx_vars y
  have hG := congrArg (G4 V c) (emb4 t y0 y1)
  have hY := after4 V c t y0 y1
  refine (cast4 t _).trans ((congrArg _ (xinj4 t y0 y1)).trans (hY.trans (Eq.trans ?_ hG.symm)))
  rfl

theorem arr5 : (dat0 V c).arrAt 5 cfg0.N = G5 V c := by
  refine (dat0 V c).arrAt_eq_of_covers 5 _ (by decide +kernel) fun t hf y => ?_
  idx_vars y
  obtain rfl : y0 = 0 := Subsingleton.elim _ _
  have hG := congrArg (G5 V c) (emb5 t y1 y2)
  have hY := after5 V c t y1 y2
  refine (cast5 t _).trans ((congrArg _ (xinj5 t 0 y1 y2)).trans (hY.trans (Eq.trans ?_ hG.symm)))
  rfl

end R0

end Cert.Kernel2Ideal.Head

end
-- ==== Proof.Head.Region1.lean ====
/-
The head's second linear map over the normalised, rectified channels: the rows the region writes, and each block's sums.
-/
module

public import proofs.«01_k».proof.Proof.Head.Math
public import proofs.«01_k».proof.Proof.Gen.Kernel2Ideal.Frame
public import Idealize.ShloMosaic.Lib.Pipeline.ValueKit
import Idealize.ShloMosaic.Lib.Pipeline.Covers
import Idealize.ShloMosaic.Lib.Claim

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic
open Idealize.SL.Sem
open Cert.Head

variable (V : (c : Dev nD) → (b : Ref sig .tc) → Buf (Elt Ideal) ((c : Thread nD τ).loc b)) (c : Dev nD)

namespace R1

theorem idx : ∀ t : Fin cfg1.N,
    win1_0.index t = ![t.val, 0] ∧ win1_1.index t = ![0, 0, 0] ∧ win1_2.index t = ![0, 0] ∧ win1_3.index t = ![0, 0]
      ∧ win1_4.index t = ![0, 0] ∧ win1_5.index t = ![0, 0] ∧ win1_6.index t = ![t.val, 0] ∧ win1_7.index t = ![t.val, 0, 0] :=
  (by decide +kernel : ∀ t : Fin grid1.N, _)

/-- The stage at one row, from the row `o` of channels, the blocks' sums, the normalisation's scale and shift, the weights and the bias. -/
def rowOf (o : Fin 128 → EReal) (s : S16x2x128.Idx → EReal) (g be : S1x128.Idx → EReal) (w : S128x256.Idx → EReal) (b : S1x256.Idx → EReal) (q : Fin 256) : EReal :=
  stageK (fun x => g (ix2 0 x)) (fun x => be (ix2 0 x)) (fun q x => w (ix2 x q)) (fun q => b (ix2 0 q)) o
    (fun x => ∑ i : Fin 16, s (ix3 i 0 x)) (fun x => ∑ i : Fin 16, s (ix3 i 1 x)) q

/-- The stage of the entry contents at row `n`, unit `q`. -/
def row (n : Fin 131072) (q : Fin 256) : EReal :=
  rowOf (fun x => V c main_v3_0 (ix2 n x)) (V c main_v3_1) (V c main_v4) (V c main_v5) (V c main_v6) (V c main_v7) q

theorem pay1_apply (x0 : Vec Ideal S8192x128 .f32) (x1 : Vec Ideal S16x2x128 .f32) (x2 x3 : Vec Ideal S1x128 .f32) (x4 : Vec Ideal S128x256 .f32) (x5 : Vec Ideal S1x256 .f32)
    (r : Fin 8192) (q : Fin 256) :
    k1_pay1 (k1_pay3 x0 x1 x2 x3 x4) (k1_pay4 x5) (ix2 r q) = rowOf (fun x => x0 (ix2 r x)) x1 x2 x3 x4 x5 q := by
  pointwise [k1_pay1, k1_pay3, k1_pay4]
  rfl

theorem pay2_apply (v w : FVec Ideal S8192x256 .f32) (z : Fin 2) (q : Fin 256) (f : Fin 8192 → EReal) (hf : ∀ r, k1_pay1 v w (ix2 r q) = f r) :
    k1_pay2 v w (ix3 0 z q) = (if z.val < 1 then ∑ x, f x else ∑ x, f x * f x : EReal) := by
  pointwise [k1_pay2]
  simp only [hf]
  rfl

variable (t : Fin cfg1.N)

theorem blk0 (r : Fin 8192) (x : Fin 128) : iblk1 V c 0 t (ix2 r x) = V c main_v3_0 (ix2 (rowAt ⟨t.val, t.isLt⟩ r) x) := by
  have : t.val < 16 := t.isLt
  unfold rowAt
  blk_ext [iblk1, idx t]

theorem blk1 (i : Fin 16) (z : Fin 2) (x : Fin 128) : iblk1 V c 1 t (ix3 i z x) = V c main_v3_1 (ix3 i z x) := by
  blk_ext [iblk1, idx t]

theorem blk2 (x : Fin 128) : iblk1 V c 2 t (ix2 0 x) = V c main_v4 (ix2 0 x) := by
  blk_ext [iblk1, idx t]

theorem blk3 (x : Fin 128) : iblk1 V c 3 t (ix2 0 x) = V c main_v5 (ix2 0 x) := by
  blk_ext [iblk1, idx t]

theorem blk4 (x : Fin 128) (q : Fin 256) : iblk1 V c 4 t (ix2 x q) = V c main_v6 (ix2 x q) := by
  blk_ext [iblk1, idx t]

theorem blk5 (q : Fin 256) : iblk1 V c 5 t (ix2 0 q) = V c main_v7 (ix2 0 q) := by
  blk_ext [iblk1, idx t]

/-- The stage depends only on the entries it reads. -/
theorem rowOf_congr {o o' : Fin 128 → EReal} {s s' : S16x2x128.Idx → EReal} {g g' be be' : S1x128.Idx → EReal} {w w' : S128x256.Idx → EReal} {b b' : S1x256.Idx → EReal}
    (ho : ∀ x, o x = o' x) (hs : ∀ i z x, s (ix3 i z x) = s' (ix3 i z x)) (hg : ∀ x, g (ix2 0 x) = g' (ix2 0 x)) (hbe : ∀ x, be (ix2 0 x) = be' (ix2 0 x))
    (hw : ∀ x q, w (ix2 x q) = w' (ix2 x q)) (hb : ∀ q, b (ix2 0 q) = b' (ix2 0 q)) (q : Fin 256) : rowOf o s g be w b q = rowOf o' s' g' be' w' b' q := by
  unfold rowOf
  simp only [funext ho, hs, hg, hbe, hw, hb]

theorem pay_row (r : Fin 8192) (q : Fin 256) :
    k1_pay1 (k1_pay3 (iblk1 V c 0 t) (iblk1 V c 1 t) (iblk1 V c 2 t) (iblk1 V c 3 t) (iblk1 V c 4 t)) (k1_pay4 (iblk1 V c 5 t)) (ix2 r q)
      = row V c (rowAt ⟨t.val, t.isLt⟩ r) q :=
  (pay1_apply _ _ _ _ _ _ r q).trans
    (rowOf_congr (fun x => blk0 V c t r x) (fun i z x => blk1 V c t i z x) (fun x => blk2 V c t x) (fun x => blk3 V c t x) (fun x q => blk4 V c t x q) (fun q => blk5 V c t q) q)

theorem after6 : ∀ (r : Fin 8192) (q : Fin 256), (dat1 V c).after 6 t (ix2 r q) = row V c (rowAt ⟨t.val, t.isLt⟩ r) q := by
  rw [after1_6]
  unfold_out out1_6
  frame_out
  intro r q
  exact pay_row V c t r q

theorem after7 : ∀ (z : Fin 2) (q : Fin 256), (dat1 V c).after 7 t (ix3 0 z q) = part (row V c) ⟨t.val, t.isLt⟩ z q := by
  rw [after1_7]
  unfold_out out1_7
  frame_out
  intro z q
  exact pay2_apply _ _ z q _ fun r => pay_row V c t r q

/-! ## The arrays -/

theorem xinj6 (y0 : Fin 8192) (y1 : Fin 256) : (cfg1.win 6).xinj (grid1.coords t) (ix2 y0 y1) = (ix2 y0 y1 : S8192x256.Idx) := by
  funext a
  exact Fin.ext (Pipeline.Window.xinj_val ..)

theorem cast6 (x : Elt Ideal (cfg1.win 6).elt) : cast (congrArg (Elt Ideal) ((cfg1.win 6).blk t).view.elt_eq.symm) x = x := rfl

theorem emb6 (y0 : Fin 8192) (y1 : Fin 256) : ((cfg1.win 6).blk t).view.emb (ix2 y0 y1) = ix2 (rowAt ⟨t.val, t.isLt⟩ y0) y1 := by
  have : t.val < 16 := t.isLt
  unfold rowAt
  blk_ext [idx t]

/-- The rows. -/
def G6 : Vec Ideal S131072x256 .f32 := fun y => row V c (y 0) (y 1)

theorem arr6 : (dat1 V c).arrAt 6 cfg1.N = G6 V c := by
  refine (dat1 V c).arrAt_eq_of_covers 6 _ (by decide +kernel) fun t hf y => ?_
  idx_vars y
  have hG := congrArg (G6 V c) (emb6 t y0 y1)
  have hY := after6 V c t y0 y1
  refine (cast6 t _).trans ((congrArg _ (xinj6 t y0 y1)).trans (hY.trans (Eq.trans ?_ hG.symm)))
  rfl

theorem xinj7 (y0 : Fin 1) (y1 : Fin 2) (y2 : Fin 256) : (cfg1.win 7).xinj (grid1.coords t) (ix3 y0 y1 y2) = (ix3 y0 y1 y2 : S1x2x256.Idx) := by
  funext a
  exact Fin.ext (Pipeline.Window.xinj_val ..)

theorem cast7 (x : Elt Ideal (cfg1.win 7).elt) : cast (congrArg (Elt Ideal) ((cfg1.win 7).blk t).view.elt_eq.symm) x = x := rfl

theorem emb7 (y1 : Fin 2) (y2 : Fin 256) : ((cfg1.win 7).blk t).view.emb (ix3 0 y1 y2) = ix3 ⟨t.val, t.isLt⟩ y1 y2 := by
  have : t.val < 16 := t.isLt
  blk_ext [idx t]

/-- The blocks' sums. -/
def G7 : Vec Ideal S16x2x256 .f32 := fun y => part (row V c) (y 0) (y 1) (y 2)

theorem arr7 : (dat1 V c).arrAt 7 cfg1.N = G7 V c := by
  refine (dat1 V c).arrAt_eq_of_covers 7 _ (by decide +kernel) fun t hf y => ?_
  idx_vars y
  obtain rfl : y0 = 0 := Subsingleton.elim _ _
  have hG := congrArg (G7 V c) (emb7 t y1 y2)
  have hY := after7 V c t y1 y2
  refine (cast7 t _).trans ((congrArg _ (xinj7 t 0 y1 y2)).trans (hY.trans (Eq.trans ?_ hG.symm)))
  rfl

end R1

end Cert.Kernel2Ideal.Head

end
-- ==== Proof.Head.Region2.lean ====
/-
The head's third linear map over the normalised, rectified channels: the rows the region writes, and each block's sums.
-/
module

public import proofs.«01_k».proof.Proof.Head.Math
public import proofs.«01_k».proof.Proof.Gen.Kernel2Ideal.Frame
public import Idealize.ShloMosaic.Lib.Pipeline.ValueKit
import Idealize.ShloMosaic.Lib.Pipeline.Covers
import Idealize.ShloMosaic.Lib.Claim

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic
open Idealize.SL.Sem
open Cert.Head

variable (V : (c : Dev nD) → (b : Ref sig .tc) → Buf (Elt Ideal) ((c : Thread nD τ).loc b)) (c : Dev nD)

namespace R2

theorem idx : ∀ t : Fin cfg2.N,
    win2_0.index t = ![t.val, 0] ∧ win2_1.index t = ![0, 0, 0] ∧ win2_2.index t = ![0, 0] ∧ win2_3.index t = ![0, 0]
      ∧ win2_4.index t = ![0, 0] ∧ win2_5.index t = ![0, 0] ∧ win2_6.index t = ![t.val, 0] ∧ win2_7.index t = ![t.val, 0, 0] :=
  (by decide +kernel : ∀ t : Fin grid2.N, _)

/-- The stage at one row, from the row `o` of channels, the blocks' sums, the normalisation's scale and shift, the weights and the bias. -/
def rowOf (o : Fin 256 → EReal) (s : S16x2x256.Idx → EReal) (g be : S1x256.Idx → EReal) (w : S256x128.Idx → EReal) (b : S1x128.Idx → EReal) (q : Fin 128) : EReal :=
  stageK (fun x => g (ix2 0 x)) (fun x => be (ix2 0 x)) (fun q x => w (ix2 x q)) (fun q => b (ix2 0 q)) o
    (fun x => ∑ i : Fin 16, s (ix3 i 0 x)) (fun x => ∑ i : Fin 16, s (ix3 i 1 x)) q

/-- The stage of the entry contents at row `n`, unit `q`. -/
def row (n : Fin 131072) (q : Fin 128) : EReal :=
  rowOf (fun x => V c main_v8_0 (ix2 n x)) (V c main_v8_1) (V c main_v9) (V c main_v10) (V c main_v11) (V c main_v12) q

theorem pay1_apply (x0 : Vec Ideal S8192x256 .f32) (x1 : Vec Ideal S16x2x256 .f32) (x2 x3 : Vec Ideal S1x256 .f32) (x4 : Vec Ideal S256x128 .f32) (x5 : Vec Ideal S1x128 .f32)
    (r : Fin 8192) (q : Fin 128) :
    k2_pay1 (k2_pay3 x0 x1 x2 x3 x4) (k2_pay4 x5) (ix2 r q) = rowOf (fun x => x0 (ix2 r x)) x1 x2 x3 x4 x5 q := by
  pointwise [k2_pay1, k2_pay3, k2_pay4]
  rfl

theorem pay2_apply (v w : FVec Ideal S8192x128 .f32) (z : Fin 2) (q : Fin 128) (f : Fin 8192 → EReal) (hf : ∀ r, k2_pay1 v w (ix2 r q) = f r) :
    k2_pay2 v w (ix3 0 z q) = (if z.val < 1 then ∑ x, f x else ∑ x, f x * f x : EReal) := by
  pointwise [k2_pay2]
  simp only [hf]
  rfl

variable (t : Fin cfg2.N)

theorem blk0 (r : Fin 8192) (x : Fin 256) : iblk2 V c 0 t (ix2 r x) = V c main_v8_0 (ix2 (rowAt ⟨t.val, t.isLt⟩ r) x) := by
  have : t.val < 16 := t.isLt
  unfold rowAt
  blk_ext [iblk2, idx t]

theorem blk1 (i : Fin 16) (z : Fin 2) (x : Fin 256) : iblk2 V c 1 t (ix3 i z x) = V c main_v8_1 (ix3 i z x) := by
  blk_ext [iblk2, idx t]

theorem blk2 (x : Fin 256) : iblk2 V c 2 t (ix2 0 x) = V c main_v9 (ix2 0 x) := by
  blk_ext [iblk2, idx t]

theorem blk3 (x : Fin 256) : iblk2 V c 3 t (ix2 0 x) = V c main_v10 (ix2 0 x) := by
  blk_ext [iblk2, idx t]

theorem blk4 (x : Fin 256) (q : Fin 128) : iblk2 V c 4 t (ix2 x q) = V c main_v11 (ix2 x q) := by
  blk_ext [iblk2, idx t]

theorem blk5 (q : Fin 128) : iblk2 V c 5 t (ix2 0 q) = V c main_v12 (ix2 0 q) := by
  blk_ext [iblk2, idx t]

/-- The stage depends only on the entries it reads. -/
theorem rowOf_congr {o o' : Fin 256 → EReal} {s s' : S16x2x256.Idx → EReal} {g g' be be' : S1x256.Idx → EReal} {w w' : S256x128.Idx → EReal} {b b' : S1x128.Idx → EReal}
    (ho : ∀ x, o x = o' x) (hs : ∀ i z x, s (ix3 i z x) = s' (ix3 i z x)) (hg : ∀ x, g (ix2 0 x) = g' (ix2 0 x)) (hbe : ∀ x, be (ix2 0 x) = be' (ix2 0 x))
    (hw : ∀ x q, w (ix2 x q) = w' (ix2 x q)) (hb : ∀ q, b (ix2 0 q) = b' (ix2 0 q)) (q : Fin 128) : rowOf o s g be w b q = rowOf o' s' g' be' w' b' q := by
  unfold rowOf
  simp only [funext ho, hs, hg, hbe, hw, hb]

theorem pay_row (r : Fin 8192) (q : Fin 128) :
    k2_pay1 (k2_pay3 (iblk2 V c 0 t) (iblk2 V c 1 t) (iblk2 V c 2 t) (iblk2 V c 3 t) (iblk2 V c 4 t)) (k2_pay4 (iblk2 V c 5 t)) (ix2 r q)
      = row V c (rowAt ⟨t.val, t.isLt⟩ r) q :=
  (pay1_apply _ _ _ _ _ _ r q).trans
    (rowOf_congr (fun x => blk0 V c t r x) (fun i z x => blk1 V c t i z x) (fun x => blk2 V c t x) (fun x => blk3 V c t x) (fun x q => blk4 V c t x q) (fun q => blk5 V c t q) q)

theorem after6 : ∀ (r : Fin 8192) (q : Fin 128), (dat2 V c).after 6 t (ix2 r q) = row V c (rowAt ⟨t.val, t.isLt⟩ r) q := by
  rw [after2_6]
  unfold_out out2_6
  frame_out
  intro r q
  exact pay_row V c t r q

theorem after7 : ∀ (z : Fin 2) (q : Fin 128), (dat2 V c).after 7 t (ix3 0 z q) = part (row V c) ⟨t.val, t.isLt⟩ z q := by
  rw [after2_7]
  unfold_out out2_7
  frame_out
  intro z q
  exact pay2_apply _ _ z q _ fun r => pay_row V c t r q

/-! ## The arrays -/

theorem xinj6 (y0 : Fin 8192) (y1 : Fin 128) : (cfg2.win 6).xinj (grid2.coords t) (ix2 y0 y1) = (ix2 y0 y1 : S8192x128.Idx) := by
  funext a
  exact Fin.ext (Pipeline.Window.xinj_val ..)

theorem cast6 (x : Elt Ideal (cfg2.win 6).elt) : cast (congrArg (Elt Ideal) ((cfg2.win 6).blk t).view.elt_eq.symm) x = x := rfl

theorem emb6 (y0 : Fin 8192) (y1 : Fin 128) : ((cfg2.win 6).blk t).view.emb (ix2 y0 y1) = ix2 (rowAt ⟨t.val, t.isLt⟩ y0) y1 := by
  have : t.val < 16 := t.isLt
  unfold rowAt
  blk_ext [idx t]

/-- The rows. -/
def G6 : Vec Ideal S131072x128 .f32 := fun y => row V c (y 0) (y 1)

theorem arr6 : (dat2 V c).arrAt 6 cfg2.N = G6 V c := by
  refine (dat2 V c).arrAt_eq_of_covers 6 _ (by decide +kernel) fun t hf y => ?_
  idx_vars y
  have hG := congrArg (G6 V c) (emb6 t y0 y1)
  have hY := after6 V c t y0 y1
  refine (cast6 t _).trans ((congrArg _ (xinj6 t y0 y1)).trans (hY.trans (Eq.trans ?_ hG.symm)))
  rfl

theorem xinj7 (y0 : Fin 1) (y1 : Fin 2) (y2 : Fin 128) : (cfg2.win 7).xinj (grid2.coords t) (ix3 y0 y1 y2) = (ix3 y0 y1 y2 : S1x2x128.Idx) := by
  funext a
  exact Fin.ext (Pipeline.Window.xinj_val ..)

theorem cast7 (x : Elt Ideal (cfg2.win 7).elt) : cast (congrArg (Elt Ideal) ((cfg2.win 7).blk t).view.elt_eq.symm) x = x := rfl

theorem emb7 (y1 : Fin 2) (y2 : Fin 128) : ((cfg2.win 7).blk t).view.emb (ix3 0 y1 y2) = ix3 ⟨t.val, t.isLt⟩ y1 y2 := by
  have : t.val < 16 := t.isLt
  blk_ext [idx t]

/-- The blocks' sums. -/
def G7 : Vec Ideal S16x2x128 .f32 := fun y => part (row V c) (y 0) (y 1) (y 2)

theorem arr7 : (dat2 V c).arrAt 7 cfg2.N = G7 V c := by
  refine (dat2 V c).arrAt_eq_of_covers 7 _ (by decide +kernel) fun t hf y => ?_
  idx_vars y
  obtain rfl : y0 = 0 := Subsingleton.elim _ _
  have hG := congrArg (G7 V c) (emb7 t y1 y2)
  have hY := after7 V c t y1 y2
  refine (cast7 t _).trans ((congrArg _ (xinj7 t 0 y1 y2)).trans (hY.trans (Eq.trans ?_ hG.symm)))
  rfl

end R2

end Cert.Kernel2Ideal.Head

end
-- ==== Proof.Head.Region3.lean ====
/-
The head's last linear map, the softmax over its units and the mask: the rows the region writes.
-/
module

public import proofs.«01_k».proof.Proof.Head.Math
public import proofs.«01_k».proof.Proof.Gen.Kernel2Ideal.Frame
public import Idealize.ShloMosaic.Lib.Pipeline.ValueKit
import Idealize.ShloMosaic.Lib.Pipeline.Covers
import Idealize.ShloMosaic.Lib.Claim

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic
open Idealize.SL.Sem
open Cert.Head

variable (V : (c : Dev nD) → (b : Ref sig .tc) → Buf (Elt Ideal) ((c : Thread nD τ).loc b)) (c : Dev nD)

namespace R3

theorem idx : ∀ t : Fin cfg3.N,
    win3_0.index t = ![t.val, 0] ∧ win3_1.index t = ![0, 0, 0] ∧ win3_2.index t = ![0, 0] ∧ win3_3.index t = ![0, 0]
      ∧ win3_4.index t = ![0, 0] ∧ win3_5.index t = ![0, 0] ∧ win3_6.index t = ![t.val, 0] ∧ win3_7.index t = ![0, 0] ∧ win3_8.index t = ![t.val, 0] :=
  (by decide +kernel : ∀ t : Fin grid3.N, _)

/-- The stage at one row, from the row `o` of channels, the blocks' sums, the normalisation's scale and shift, the weights and the bias. -/
def rowOf (o : Fin 128 → EReal) (s : S16x2x128.Idx → EReal) (g be : S1x128.Idx → EReal) (w : S128x61.Idx → EReal) (b : S1x61.Idx → EReal) (q : Fin 61) : EReal :=
  stageK (fun x => g (ix2 0 x)) (fun x => be (ix2 0 x)) (fun q x => w (ix2 x q)) (fun q => b (ix2 0 q)) o
    (fun x => ∑ i : Fin 16, s (ix3 i 0 x)) (fun x => ∑ i : Fin 16, s (ix3 i 1 x)) q

/-- The stage of the entry contents at row `n`, unit `q`. -/
def row (n : Fin 131072) (q : Fin 61) : EReal :=
  rowOf (fun x => V c main_v13_0 (ix2 n x)) (V c main_v13_1) (V c main_v14) (V c main_v15) (V c main_v16) (V c main_v17) q

theorem pay23_apply (x0 : Vec Ideal S8192x128 .f32) (x1 : Vec Ideal S16x2x128 .f32) (x2 x3 : Vec Ideal S1x128 .f32) (x4 : Vec Ideal S128x61 .f32) (x5 : Vec Ideal S1x61 .f32)
    (r : Fin 8192) (q : Fin 61) :
    (k3_pay2 x0 x1 x2 x3 x4 (ix2 r q) + k3_pay3 x5 (ix2 r q) : EReal) = rowOf (fun x => x0 (ix2 r x)) x1 x2 x3 x4 x5 q := by
  pointwise [k3_pay2, k3_pay3]
  rfl

/-- What the kernel adds to a token's probability: the token's one-hot product with the table `T`, less one, scaled. -/
def maskK (w : BitVec 32) (T : S21x61.Idx → EReal) (q : Fin 61) : EReal :=
  (∑ x : Fin 21, FloatOps.sitofp (F := Ideal) .f32 (BitVec.setWidth 32 (IntOp.cmpi .eq w (BitVec.ofNat 32 x.val))) * T (ix2 x q) - 1) * Ideal.ofBits .f32 1315859240#32

theorem pay1_apply (v w : FVec Ideal S8192x61 .f32) (y : Vec Ideal S128x64 .i32) (T : Vec Ideal S21x61 .f32) (r : Fin 8192) (q : Fin 61)
    (f : Fin 61 → EReal) (hf : ∀ x, (v (ix2 r x) + w (ix2 r x) : EReal) = f x) :
    k3_pay1 v w y T (ix2 r q) = soft f q + maskK (y (ix2 ⟨r.val / 64, by omega⟩ ⟨r.val % 64, by omega⟩)) T q := by
  pointwise [k3_pay1]
  simp only [hf]
  rfl

variable (t : Fin cfg3.N)

theorem blk0 (r : Fin 8192) (x : Fin 128) : iblk3 V c 0 t (ix2 r x) = V c main_v13_0 (ix2 (rowAt ⟨t.val, t.isLt⟩ r) x) := by
  have : t.val < 16 := t.isLt
  unfold rowAt
  blk_ext [iblk3, idx t]

theorem blk1 (i : Fin 16) (z : Fin 2) (x : Fin 128) : iblk3 V c 1 t (ix3 i z x) = V c main_v13_1 (ix3 i z x) := by
  blk_ext [iblk3, idx t]

theorem blk2 (x : Fin 128) : iblk3 V c 2 t (ix2 0 x) = V c main_v14 (ix2 0 x) := by
  blk_ext [iblk3, idx t]

theorem blk3 (x : Fin 128) : iblk3 V c 3 t (ix2 0 x) = V c main_v15 (ix2 0 x) := by
  blk_ext [iblk3, idx t]

theorem blk4 (x : Fin 128) (q : Fin 61) : iblk3 V c 4 t (ix2 x q) = V c main_v16 (ix2 x q) := by
  blk_ext [iblk3, idx t]

theorem blk5 (q : Fin 61) : iblk3 V c 5 t (ix2 0 q) = V c main_v17 (ix2 0 q) := by
  blk_ext [iblk3, idx t]

/-- The stage depends only on the entries it reads. -/
theorem rowOf_congr {o o' : Fin 128 → EReal} {s s' : S16x2x128.Idx → EReal} {g g' be be' : S1x128.Idx → EReal} {w w' : S128x61.Idx → EReal} {b b' : S1x61.Idx → EReal}
    (ho : ∀ x, o x = o' x) (hs : ∀ i z x, s (ix3 i z x) = s' (ix3 i z x)) (hg : ∀ x, g (ix2 0 x) = g' (ix2 0 x)) (hbe : ∀ x, be (ix2 0 x) = be' (ix2 0 x))
    (hw : ∀ x q, w (ix2 x q) = w' (ix2 x q)) (hb : ∀ q, b (ix2 0 q) = b' (ix2 0 q)) (q : Fin 61) : rowOf o s g be w b q = rowOf o' s' g' be' w' b' q := by
  unfold rowOf
  simp only [funext ho, hs, hg, hbe, hw, hb]

theorem blk6 (a : Fin 128) (b : Fin 64) : iblk3 V c 6 t (ix2 a b) = V c main_v0 (ix2 ⟨128 * t.val + a.val, by have : t.val < 16 := t.isLt; omega⟩ b) := by
  have : t.val < 16 := t.isLt
  blk_ext [iblk3, idx t]

theorem blk7 (x : Fin 21) (q : Fin 61) : iblk3 V c 7 t (ix2 x q) = V c main_cst (ix2 x q) := by
  blk_ext [iblk3, idx t]

/-- The masked probabilities at row `n`, unit `q`. -/
def prob (n : Fin 131072) (q : Fin 61) : EReal :=
  soft (row V c n) q + maskK (V c main_v0 (ix2 ⟨n.val / 64, by omega⟩ ⟨n.val % 64, by omega⟩)) (V c main_cst) q

theorem maskK_congr {w w' : BitVec 32} {T T' : S21x61.Idx → EReal} (hw : w = w') (hT : ∀ x q, T (ix2 x q) = T' (ix2 x q)) (q : Fin 61) : maskK w T q = maskK w' T' q := by
  unfold maskK
  simp only [hw, hT]

theorem word_row (r : Fin 8192) : iblk3 V c 6 t (ix2 ⟨r.val / 64, by omega⟩ ⟨r.val % 64, by omega⟩)
    = V c main_v0 (ix2 ⟨(rowAt ⟨t.val, t.isLt⟩ r).val / 64, by omega⟩ ⟨(rowAt ⟨t.val, t.isLt⟩ r).val % 64, by omega⟩) := by
  rw [blk6]
  unfold rowAt
  have e1 : (t.val * 8192 + r.val) / 64 = 128 * t.val + r.val / 64 := by omega
  have e2 : (t.val * 8192 + r.val) % 64 = r.val % 64 := by omega
  simp only [e1, e2]

theorem after8 : ∀ (r : Fin 8192) (q : Fin 61), (dat3 V c).after 8 t (ix2 r q) = prob V c (rowAt ⟨t.val, t.isLt⟩ r) q := by
  rw [after3_8]
  frame_out
  intro r q
  refine (pay1_apply _ _ _ _ r q (row V c (rowAt ⟨t.val, t.isLt⟩ r)) fun x => (pay23_apply _ _ _ _ _ _ r x).trans
    (rowOf_congr (fun x => blk0 V c t r x) (fun i z x => blk1 V c t i z x) (fun x => blk2 V c t x) (fun x => blk3 V c t x) (fun x q => blk4 V c t x q) (fun q => blk5 V c t q) x)).trans ?_
  exact congrArg (fun e : EReal => soft (row V c (rowAt ⟨t.val, t.isLt⟩ r)) q + e) (maskK_congr (word_row V c t r) (fun x q => blk7 V c t x q) q)

/-! ## The array -/

theorem xinj8 (y0 : Fin 8192) (y1 : Fin 61) : (cfg3.win 8).xinj (grid3.coords t) (ix2 y0 y1) = (ix2 y0 y1 : S8192x61.Idx) := by
  funext a
  exact Fin.ext (Pipeline.Window.xinj_val ..)

theorem cast8 (x : Elt Ideal (cfg3.win 8).elt) : cast (congrArg (Elt Ideal) ((cfg3.win 8).blk t).view.elt_eq.symm) x = x := rfl

theorem emb8 (y0 : Fin 8192) (y1 : Fin 61) : ((cfg3.win 8).blk t).view.emb (ix2 y0 y1) = ix2 (rowAt ⟨t.val, t.isLt⟩ y0) y1 := by
  have : t.val < 16 := t.isLt
  unfold rowAt
  blk_ext [idx t]

/-- The rows. -/
def G8 : Vec Ideal S131072x61 .f32 := fun y => prob V c (y 0) (y 1)

theorem arr8 : (dat3 V c).arrAt 8 cfg3.N = G8 V c := by
  refine (dat3 V c).arrAt_eq_of_covers 8 _ (by decide +kernel) fun t hf y => ?_
  idx_vars y
  have hG := congrArg (G8 V c) (emb8 t y0 y1)
  have hY := after8 V c t y0 y1
  refine (cast8 t _).trans ((congrArg _ (xinj8 t y0 y1)).trans (hY.trans (Eq.trans ?_ hG.symm)))
  rfl

end R3

end Cert.Kernel2Ideal.Head

end
-- ==== Proof.Head.Chain.lean ====
/-
The head's result array, in terms of the arguments: region after region, each array it reads is what
the host operations and the regions before it left.
-/
module

public import proofs.«01_k».proof.Proof.Head.Host
public import proofs.«01_k».proof.Proof.Head.Region0
public import proofs.«01_k».proof.Proof.Head.Region1
public import proofs.«01_k».proof.Proof.Head.Region2
public import proofs.«01_k».proof.Proof.Head.Region3

@[expose] public section

set_option maxRecDepth 16384

noncomputable section

namespace Cert.Kernel2Ideal.Head

open Cert.Kernel2Ideal Cert.Kernel2Ideal.Gen
open Idealize.ShloMosaic Idealize.ShloMosaic.TcCoe Idealize.ShloMosaic.Tactic
open Cert.Head

variable (m : (ℓ : Loc nD τ sig) → Buf (Elt Ideal) ℓ) (ρ : Dev nD → PrngReg) (c : Dev nD)

/-- The arguments' entries. -/
def args : Args where
  h := fun i b x => m ((c : Thread nD τ).loc main_arg0) (ix3 i b x)
  w1 := fun q x => m ((c : Thread nD τ).loc main_arg3) (ix2 q x)
  b1 := fun q => m ((c : Thread nD τ).loc main_arg4) (ix1 q)
  g1 := fun q => m ((c : Thread nD τ).loc main_arg5) (ix1 q)
  be1 := fun q => m ((c : Thread nD τ).loc main_arg6) (ix1 q)
  w2 := fun q x => m ((c : Thread nD τ).loc main_arg7) (ix2 q x)
  b2 := fun q => m ((c : Thread nD τ).loc main_arg8) (ix1 q)
  g2 := fun q => m ((c : Thread nD τ).loc main_arg9) (ix1 q)
  be2 := fun q => m ((c : Thread nD τ).loc main_arg10) (ix1 q)
  w3 := fun q x => m ((c : Thread nD τ).loc main_arg11) (ix2 q x)
  b3 := fun q => m ((c : Thread nD τ).loc main_arg12) (ix1 q)
  g3 := fun q => m ((c : Thread nD τ).loc main_arg13) (ix1 q)
  be3 := fun q => m ((c : Thread nD τ).loc main_arg14) (ix1 q)
  w4 := fun q x => m ((c : Thread nD τ).loc main_arg15) (ix2 q x)
  b4 := fun q => m ((c : Thread nD τ).loc main_arg16) (ix1 q)

/-! ## The first region -/

theorem row0 (n : Fin 131072) (q : Fin 128) : R0.row (V1 m ρ) c n q = (args m c).o1 n q := by
  have h0 : V1 m ρ c main_arg0 = m ((c : Thread nD τ).loc main_arg0) := W1_args m ρ c main_arg0 (by decide)
  have h1 : ∀ (k : Fin 512) (q : Fin 128), V1 m ρ c main_v1 (ix2 k q) = m ((c : Thread nD τ).loc main_arg3) (ix2 q k) := fun k q => ops0_v1 (W0 m ρ c) k q
  have h2 : ∀ (q : Fin 128), V1 m ρ c main_v2 (ix2 0 q) = m ((c : Thread nD τ).loc main_arg4) (ix1 q) := fun q => ops0_v2 (W0 m ρ c) q
  unfold R0.row R0.rowOf
  rw [h0, h2]
  simp only [h1]
  rfl

/-! ## The second region -/

theorem v3_0 (n : Fin 131072) (q : Fin 128) : V3 m ρ c main_v3_0 (ix2 n q) = (args m c).o1 n q := by
  have e := (W3_of m ρ c main_v3_0 (by decide)).trans ((W2_arr m ρ c 4).trans (R0.arr4 (V1 m ρ) c))
  exact (congrFun e (ix2 n q)).trans (row0 m ρ c n q)

theorem v3_1 (i : Fin 16) (z : Fin 2) (q : Fin 128) : V3 m ρ c main_v3_1 (ix3 i z q) = part (args m c).o1 i z q := by
  have e := (W3_of m ρ c main_v3_1 (by decide)).trans ((W2_arr m ρ c 5).trans (R0.arr5 (V1 m ρ) c))
  have h : R0.row (V1 m ρ) c = (args m c).o1 := funext fun n => funext fun q => row0 m ρ c n q
  exact (congrFun e (ix3 i z q)).trans (congrArg (fun f => part f i z q) h)

variable (hf : (args m c).Finite)

include hf in
theorem row1 (n : Fin 131072) (q : Fin 256) : R1.row (V3 m ρ) c n q = (args m c).o2 n q := by
  have a : ∀ r ∈ argRefs, W2 m ρ c (Proc.devRef .tc r) = m ((c : Thread nD τ).loc r) := W2_args m ρ c
  have hg : ∀ x, V3 m ρ c main_v4 (ix2 0 x) = (args m c).g1 x := fun x => (ops1_v4 (W2 m ρ c) x).trans (congrFun (a main_arg5 (by decide)) _)
  have hbe : ∀ x, V3 m ρ c main_v5 (ix2 0 x) = (args m c).be1 x := fun x => (ops1_v5 (W2 m ρ c) x).trans (congrFun (a main_arg6 (by decide)) _)
  have hw : ∀ x q, V3 m ρ c main_v6 (ix2 x q) = (args m c).w2 q x := fun x q => (ops1_v6 (W2 m ρ c) x q).trans (congrFun (a main_arg7 (by decide)) _)
  have hb : ∀ x, V3 m ρ c main_v7 (ix2 0 x) = (args m c).b2 x := fun x => (ops1_v7 (W2 m ρ c) x).trans (congrFun (a main_arg8 (by decide)) _)
  unfold R1.row R1.rowOf
  rw [Args.o2, ← stageK_eq _ _ _ _ _ hf.o1]
  refine (R1.rowOf_congr (s' := fun y => part (args m c).o1 (y 0) (y 1) (y 2)) (g' := fun y => (args m c).g1 (y 1)) (be' := fun y => (args m c).be1 (y 1))
    (w' := fun y => (args m c).w2 (y 1) (y 0)) (b' := fun y => (args m c).b2 (y 1))
    (fun x => v3_0 m ρ c n x) (fun i z x => v3_1 m ρ c i z x) hg hbe hw hb q).trans ?_
  rfl

/-! ## The third region -/

include hf in
theorem v8_0 (n : Fin 131072) (q : Fin 256) : V5 m ρ c main_v8_0 (ix2 n q) = (args m c).o2 n q := by
  have e := (W5_of m ρ c main_v8_0 (by decide)).trans ((W4_arr m ρ c 6).trans (R1.arr6 (V3 m ρ) c))
  exact (congrFun e (ix2 n q)).trans (row1 m ρ c hf n q)

include hf in
theorem v8_1 (i : Fin 16) (z : Fin 2) (q : Fin 256) : V5 m ρ c main_v8_1 (ix3 i z q) = part (args m c).o2 i z q := by
  have e := (W5_of m ρ c main_v8_1 (by decide)).trans ((W4_arr m ρ c 7).trans (R1.arr7 (V3 m ρ) c))
  have h : R1.row (V3 m ρ) c = (args m c).o2 := funext fun n => funext fun q => row1 m ρ c hf n q
  exact (congrFun e (ix3 i z q)).trans (congrArg (fun f => part f i z q) h)

include hf in
theorem row2 (n : Fin 131072) (q : Fin 128) : R2.row (V5 m ρ) c n q = (args m c).o3 n q := by
  have a : ∀ r ∈ argRefs, W4 m ρ c (Proc.devRef .tc r) = m ((c : Thread nD τ).loc r) := W4_args m ρ c
  have hg : ∀ x, V5 m ρ c main_v9 (ix2 0 x) = (args m c).g2 x := fun x => (ops2_v9 (W4 m ρ c) x).trans (congrFun (a main_arg9 (by decide)) _)
  have hbe : ∀ x, V5 m ρ c main_v10 (ix2 0 x) = (args m c).be2 x := fun x => (ops2_v10 (W4 m ρ c) x).trans (congrFun (a main_arg10 (by decide)) _)
  have hw : ∀ x q, V5 m ρ c main_v11 (ix2 x q) = (args m c).w3 q x := fun x q => (ops2_v11 (W4 m ρ c) x q).trans (congrFun (a main_arg11 (by decide)) _)
  have hb : ∀ x, V5 m ρ c main_v12 (ix2 0 x) = (args m c).b3 x := fun x => (ops2_v12 (W4 m ρ c) x).trans (congrFun (a main_arg12 (by decide)) _)
  unfold R2.row R2.rowOf
  rw [Args.o3, ← stageK_eq _ _ _ _ _ hf.o2]
  refine (R2.rowOf_congr (s' := fun y => part (args m c).o2 (y 0) (y 1) (y 2)) (g' := fun y => (args m c).g2 (y 1)) (be' := fun y => (args m c).be2 (y 1))
    (w' := fun y => (args m c).w3 (y 1) (y 0)) (b' := fun y => (args m c).b3 (y 1))
    (fun x => v8_0 m ρ c hf n x) (fun i z x => v8_1 m ρ c hf i z x) hg hbe hw hb q).trans ?_
  rfl

/-! ## The last region -/

include hf in
theorem v13_0 (n : Fin 131072) (q : Fin 128) : V7 m ρ c main_v13_0 (ix2 n q) = (args m c).o3 n q := by
  have e := (W7_of m ρ c main_v13_0 (by decide)).trans ((W6_arr m ρ c 6).trans (R2.arr6 (V5 m ρ) c))
  exact (congrFun e (ix2 n q)).trans (row2 m ρ c hf n q)

include hf in
theorem v13_1 (i : Fin 16) (z : Fin 2) (q : Fin 128) : V7 m ρ c main_v13_1 (ix3 i z q) = part (args m c).o3 i z q := by
  have e := (W7_of m ρ c main_v13_1 (by decide)).trans ((W6_arr m ρ c 7).trans (R2.arr7 (V5 m ρ) c))
  have h : R2.row (V5 m ρ) c = (args m c).o3 := funext fun n => funext fun q => row2 m ρ c hf n q
  exact (congrFun e (ix3 i z q)).trans (congrArg (fun f => part f i z q) h)

include hf in
theorem row3 (n : Fin 131072) (q : Fin 61) : R3.row (V7 m ρ) c n q = (args m c).o4 n q := by
  have a : ∀ r ∈ argRefs, W6 m ρ c (Proc.devRef .tc r) = m ((c : Thread nD τ).loc r) := W6_args m ρ c
  have hg : ∀ x, V7 m ρ c main_v14 (ix2 0 x) = (args m c).g3 x := fun x => (ops3_v14 (W6 m ρ c) x).trans (congrFun (a main_arg13 (by decide)) _)
  have hbe : ∀ x, V7 m ρ c main_v15 (ix2 0 x) = (args m c).be3 x := fun x => (ops3_v15 (W6 m ρ c) x).trans (congrFun (a main_arg14 (by decide)) _)
  have hw : ∀ x q, V7 m ρ c main_v16 (ix2 x q) = (args m c).w4 q x := fun x q => (ops3_v16 (W6 m ρ c) x q).trans (congrFun (a main_arg15 (by decide)) _)
  have hb : ∀ x, V7 m ρ c main_v17 (ix2 0 x) = (args m c).b4 x := fun x => (ops3_v17 (W6 m ρ c) x).trans (congrFun (a main_arg16 (by decide)) _)
  unfold R3.row R3.rowOf
  rw [Args.o4, ← stageK_eq _ _ _ _ _ hf.o3]
  refine (R3.rowOf_congr (s' := fun y => part (args m c).o3 (y 0) (y 1) (y 2)) (g' := fun y => (args m c).g3 (y 1)) (be' := fun y => (args m c).be3 (y 1))
    (w' := fun y => (args m c).w4 (y 1) (y 0)) (b' := fun y => (args m c).b4 (y 1))
    (fun x => v13_0 m ρ c hf n x) (fun i z x => v13_1 m ρ c hf i z x) hg hbe hw hb q).trans ?_
  rfl

theorem v0 (s : Fin 2048) (b : Fin 64) : V7 m ρ c main_v0 (ix2 s b) = m ((c : Thread nD τ).loc main_arg1) (ix2 b s) := by
  have e := (W7_of m ρ c main_v0 (by decide)).trans ((W6_of m ρ c main_v0 (by decide)).trans ((W5_of m ρ c main_v0 (by decide)).trans ((W4_of m ρ c main_v0 (by decide)).trans
    ((W3_of m ρ c main_v0 (by decide)).trans (W2_of m ρ c main_v0 (by decide))))))
  exact (congrFun e (ix2 s b)).trans (ops0_v0 (W0 m ρ c) s b)

/-- The table of the kernel: one where a codon is a token's, else zero. -/
def table : S21x61.Idx → EReal := fun i => FloatOps.ofBits (F := Ideal) .f32 (lit0 (S21x61.rowMajor i))

theorem cst : V7 m ρ c main_cst = table := by
  have e := (W7_of m ρ c main_cst (by decide)).trans ((W6_of m ρ c main_cst (by decide)).trans ((W5_of m ρ c main_cst (by decide)).trans ((W4_of m ρ c main_cst (by decide)).trans
    ((W3_of m ρ c main_cst (by decide)).trans (W2_of m ρ c main_cst (by decide))))))
  exact e.trans (ops0_cst (W0 m ρ c))

include hf in
/-- The result at batch row `b`, time `s`, codon `q`: the softmax of the last linear map, and the token's mask. -/
theorem result (b : Fin 64) (s : Fin 2048) (q : Fin 61) : W9 m ρ c (Proc.devRef .tc main_v20) (ix3 b s q)
    = soft ((args m c).o4 ⟨s.val * 64 + b.val, by omega⟩) q + R3.maskK (m ((c : Thread nD τ).loc main_arg1) (ix2 b s)) table q := by
  have h : R3.row (V7 m ρ) c = (args m c).o4 := funext fun n => funext fun q => row3 m ρ c hf n q
  have e := (W8_arr m ρ c 8).trans (R3.arr8 (V7 m ρ) c)
  refine (ops4_v20 (W8 m ρ c) b s q).trans ((congrFun e (ix2 ⟨s.val * 64 + b.val, by omega⟩ q)).trans ?_)
  show R3.prob (V7 m ρ) c ⟨s.val * 64 + b.val, _⟩ q = _
  have e1 : (s.val * 64 + b.val) / 64 = s.val := by omega
  have e2 : (s.val * 64 + b.val) % 64 = b.val := by omega
  unfold R3.prob
  rw [h]
  simp only [e1, e2]
  exact congrArg (fun e : EReal => soft ((args m c).o4 ⟨s.val * 64 + b.val, by omega⟩) q + e)
    (R3.maskK_congr (v0 m ρ c s b) (fun x q => congrFun (cst m ρ c) (ix2 x q)) q)

end Cert.Kernel2Ideal.Head

end
-- ==== Proof.Head.RefStages.lean ====
/-
The reference head's composed terms, read entry by entry: the four linear maps, the normalisations
between them, and the softmax.
-/
module

public import proofs.«01_k».proof.Proof.Head.Math
public import proofs.«01_k».proof.Proof.Gen.Reference2Ideal.Run
public import Idealize.ShloMosaic.Lib.Pointwise

@[expose] public section

set_option maxRecDepth 16384

noncomputable section

namespace Cert.Reference2Ideal.Head

open Cert.Reference2Ideal Cert.Reference2Ideal.Gen Cert.Reference2Ideal.Value
open Idealize.ShloMosaic
open Cert.Head

variable (V : Valuation τ sig (Elt Ideal))

/-- The arguments' entries. -/
def args : Args where
  h := fun i b x => V (Proc.devRef .tc main_arg0) (ix3 i b x)
  w1 := fun q x => V (Proc.devRef .tc main_arg3) (ix2 q x)
  b1 := fun q => V (Proc.devRef .tc main_arg4) (ix1 q)
  g1 := fun q => V (Proc.devRef .tc main_arg5) (ix1 q)
  be1 := fun q => V (Proc.devRef .tc main_arg6) (ix1 q)
  w2 := fun q x => V (Proc.devRef .tc main_arg7) (ix2 q x)
  b2 := fun q => V (Proc.devRef .tc main_arg8) (ix1 q)
  g2 := fun q => V (Proc.devRef .tc main_arg9) (ix1 q)
  be2 := fun q => V (Proc.devRef .tc main_arg10) (ix1 q)
  w3 := fun q x => V (Proc.devRef .tc main_arg11) (ix2 q x)
  b3 := fun q => V (Proc.devRef .tc main_arg12) (ix1 q)
  g3 := fun q => V (Proc.devRef .tc main_arg13) (ix1 q)
  be3 := fun q => V (Proc.devRef .tc main_arg14) (ix1 q)
  w4 := fun q x => V (Proc.devRef .tc main_arg15) (ix2 q x)
  b4 := fun q => V (Proc.devRef .tc main_arg16) (ix1 q)

/-! ## The divisor's check -/

/-- The count of tokens less no correction is the count, a positive number. -/
theorem count_sub : Ideal.ofBits .f32 0x48000000#32 - FloatOps.sitofp (F := Ideal) .f32 (0#32) = nTok := by
  have e : (FloatOps.sitofp (F := Ideal) .f32 (0#32) : EReal) = ((0 : ℝ) : EReal) := by
    show (((BitVec.toInt 0#32 : ℤ) : ℝ) : EReal) = _
    norm_num
  have h := nTok_eq
  show nTok - _ = nTok
  rw [e, h, ← EReal.coe_sub]
  norm_num

theorem count_pos : (0 : EReal) < nTok := by
  rw [nTok_eq, ← EReal.coe_zero, EReal.coe_lt_coe_iff]
  norm_num

/-! ## The stages -/

theorem lin1 (r : Fin 131072) (q : Fin 128) : res_main_v9 V (ix2 r q) = (args V).o1 (swapRow r) q := by
  have e1 : (r.val % 2048 * 64 + r.val / 2048) / 64 = r.val % 2048 := by omega
  have e2 : (r.val % 2048 * 64 + r.val / 2048) % 64 = r.val / 2048 := by omega
  show (res_main_v9 V : FVec Ideal S131072x128 .f32) (ix2 r q) = (_ : EReal)
  pointwise [res_main_v9]
  unfold Args.o1 swapRow
  simp only [Equiv.coe_fn_mk, e1, e2]
  rfl

theorem norm1 (r : Fin 131072) (q : Fin 128) : res_main_v28 V (ix2 r q) = normal ((args V).g1 q) ((args V).be1 q) (res_main_v9 V (ix2 r q))
    (mean fun n => res_main_v9 V (ix2 n q)) (var fun n => res_main_v9 V (ix2 n q)) := by
  show (res_main_v28 V : FVec Ideal S131072x128 .f32) (ix2 r q) = (_ : EReal)
  pointwise [res_main_v28, res_main_call0_v5, res_main_call0_v8]
  rw [count_sub, if_pos count_pos]
  rfl

theorem lin2 (r : Fin 131072) (q : Fin 256) : res_main_v38 V (ix2 r q) = lin (args V).w2 (args V).b2 (fun x => leaky (res_main_v28 V (ix2 r x))) q := by
  show (res_main_v38 V : FVec Ideal S131072x256 .f32) (ix2 r q) = (_ : EReal)
  pointwise [res_main_v38]
  rfl

theorem stage2 (r : Fin 131072) (q : Fin 256) : res_main_v38 V (ix2 r q) = (args V).o2 (swapRow r) q := by
  rw [lin2]
  have h : ∀ n x, res_main_v9 V (ix2 n x) = (args V).o1 (swapRow n) x := fun n x => lin1 V n x
  simp only [norm1, h]
  exact stage_swap (args V).g1 (args V).be1 (args V).w2 (args V).b2 (args V).o1 r q

theorem norm2 (r : Fin 131072) (q : Fin 256) : res_main_v57 V (ix2 r q) = normal ((args V).g2 q) ((args V).be2 q) (res_main_v38 V (ix2 r q))
    (mean fun n => res_main_v38 V (ix2 n q)) (var fun n => res_main_v38 V (ix2 n q)) := by
  show (res_main_v57 V : FVec Ideal S131072x256 .f32) (ix2 r q) = (_ : EReal)
  pointwise [res_main_v57, res_main_call2_v5, res_main_call2_v8]
  rw [count_sub, if_pos count_pos]
  rfl

theorem lin3 (r : Fin 131072) (q : Fin 128) : res_main_v67 V (ix2 r q) = lin (args V).w3 (args V).b3 (fun x => leaky (res_main_v57 V (ix2 r x))) q := by
  show (res_main_v67 V : FVec Ideal S131072x128 .f32) (ix2 r q) = (_ : EReal)
  pointwise [res_main_v67]
  rfl

theorem stage3 (r : Fin 131072) (q : Fin 128) : res_main_v67 V (ix2 r q) = (args V).o3 (swapRow r) q := by
  rw [lin3]
  have h : ∀ n x, res_main_v38 V (ix2 n x) = (args V).o2 (swapRow n) x := fun n x => stage2 V n x
  simp only [norm2, h]
  exact stage_swap (args V).g2 (args V).be2 (args V).w3 (args V).b3 (args V).o2 r q

theorem norm3 (r : Fin 131072) (q : Fin 128) : res_main_v86 V (ix2 r q) = normal ((args V).g3 q) ((args V).be3 q) (res_main_v67 V (ix2 r q))
    (mean fun n => res_main_v67 V (ix2 n q)) (var fun n => res_main_v67 V (ix2 n q)) := by
  show (res_main_v86 V : FVec Ideal S131072x128 .f32) (ix2 r q) = (_ : EReal)
  pointwise [res_main_v86, res_main_call4_v5, res_main_call4_v8]
  rw [count_sub, if_pos count_pos]
  rfl

theorem lin4 (b : Fin 64) (s : Fin 2048) (q : Fin 61) : res_main_v97 V (ix3 b s q)
    = lin (args V).w4 (args V).b4 (fun x => leaky (res_main_v86 V (ix2 ⟨b.val * 2048 + s.val, by omega⟩ x))) q := by
  show (res_main_v97 V : FVec Ideal S64x2048x61 .f32) (ix3 b s q) = (_ : EReal)
  pointwise [res_main_v97]
  rfl

theorem stage4 (b : Fin 64) (s : Fin 2048) (q : Fin 61) : res_main_v97 V (ix3 b s q) = (args V).o4 ⟨s.val * 64 + b.val, by omega⟩ q := by
  rw [lin4]
  have h : ∀ n x, res_main_v67 V (ix2 n x) = (args V).o3 (swapRow n) x := fun n x => stage3 V n x
  simp only [norm3, h]
  refine (stage_swap (args V).g3 (args V).be3 (args V).w4 (args V).b4 (args V).o3 ⟨b.val * 2048 + s.val, by omega⟩ q).trans ?_
  have e : swapRow ⟨b.val * 2048 + s.val, by omega⟩ = ⟨s.val * 64 + b.val, by omega⟩ := Fin.ext (by
    show (b.val * 2048 + s.val) % 2048 * 64 + (b.val * 2048 + s.val) / 2048 = s.val * 64 + b.val
    omega)
  rw [e]
  rfl

end Cert.Reference2Ideal.Head

end
-- ==== Proof.Head.RefSoft.lean ====
/-
The reference head's composed terms, read entry by entry: the softmax.
-/
module

public import proofs.«01_k».proof.Proof.Head.RefStages
public import proofs.«01_k».proof.Proof.Gen.Reference2Ideal.Run
public import proofs.«01_k».proof.Proof.Words
public import Idealize.ShloMosaic.Lib.Pointwise

@[expose] public section

set_option maxRecDepth 16384

noncomputable section

namespace Cert.Reference2Ideal.Head

open Cert.Reference2Ideal Cert.Reference2Ideal.Gen Cert.Reference2Ideal.Value
open Idealize.ShloMosaic
open Cert.Head

variable (V : Valuation τ sig (Elt Ideal))

/-! ## The softmax -/

/-- A maximum over the last of three axes is the fold along it. -/
theorem reduce_max {n0 n1 n2 : ℕ} {u : Shape} (h : (⟨3, ![n0, n1, n2]⟩ : Shape).ReducesTo [2] ⟨2, ![n0, n1]⟩) (hu : 0 < u.numel)
    (x : (⟨3, ![n0, n1, n2]⟩ : Shape).Idx → EReal) (init : u.Idx → EReal) (b : Fin n0) (s : Fin n1) :
    Host.reduce (FloatOps.maximumf (F := Ideal) (φ := .f32)) x init h hu (ix2 b s)
      = Finset.fold max (init (Shape.Idx.first hu)) (fun k : Fin n2 => x (ix3 b s k)) Finset.univ :=
  (Host.reduce_eq_fold _ x init h hu (ix2 b s)).trans (h.fold_fiber_r3_a2 (ix2 b s) _ _ x)

/-- The exponentials of a row shifted by `R`'s entry. -/
theorem exp_of (L : FVec Ideal S64x2048x61 .f32) (R : FVec Ideal S64x2048 .f32) (b : Fin 64) (s : Fin 2048) (q : Fin 61) :
    Host.exp (subf L (broadcastInDim S64x2048x61 ![0, 1, 2] bcast_S64x2048x1_S64x2048x61_0_1_2 (broadcastInDim S64x2048x1 ![0, 1] bcast_S64x2048_S64x2048x1_0_1
      (maximumf (broadcastInDim S64x2048 ![] bcast_S_S64x2048 (constant S_ .f32 0xFF800000#32)) R))))
      (ix3 b s q) = Ideal.exp (L (ix3 b s q) - max (Ideal.ofBits .f32 4286578688#32) (R (ix2 b s))) := by
  pointwise []

theorem max_top (f : Fin 61 → EReal) : max (Ideal.ofBits .f32 4286578688#32) (top f) = top f :=
  max_eq_right ((Finset.le_fold_max _).2 (.inl le_rfl))

theorem exp_at (b : Fin 64) (s : Fin 2048) (q : Fin 61) : res_main_v104 V (ix3 b s q)
    = Ideal.exp ((args V).o4 ⟨s.val * 64 + b.val, by omega⟩ q - top ((args V).o4 ⟨s.val * 64 + b.val, by omega⟩)) := by
  refine (exp_of (res_main_v97 V) _ b s q).trans ?_
  have hR := reduce_max reducesTo_S64x2048x61_S64x2048_d2 h_S_ (res_main_v97 V) (constant (F := Ideal) S_ .f32 0xFF800000#32) b s
  have hf : (fun k : Fin 61 => res_main_v97 V (ix3 b s k)) = (args V).o4 ⟨s.val * 64 + b.val, by omega⟩ := funext fun k => stage4 V b s k
  rw [hf] at hR
  rw [stage4]
  refine congrArg (fun e : EReal => Ideal.exp ((args V).o4 ⟨s.val * 64 + b.val, by omega⟩ q - e)) ?_
  refine Eq.trans (congrArg (fun e : EReal => max (Ideal.ofBits .f32 4286578688#32) e) hR) ?_
  exact max_top _

/-! ## The result -/

/-- The result from the shifted exponentials `E`, the tokens `x` and the sequence lengths `lens`: the softmax, and the
    token's row of the table or the padding's constant. -/
def resOf (E : FVec Ideal S64x2048x61 .f32) (x : IVec S64x2048 32) (lens : IVec S64 32) : FVec Ideal S64x2048x61 .f32 :=
  addf (Host.divf E (broadcastInDim S64x2048x61 ![0, 1, 2] bcast_S64x2048x1_S64x2048x61_0_1_2 (broadcastInDim S64x2048x1 ![0, 1] bcast_S64x2048_S64x2048x1_0_1 (Host.reduceAdd E (constant S_ .f32 0x00000000#32) reducesTo_S64x2048x61_S64x2048_d2 h_S_)))) (select (broadcastInDim S64x2048x61 ![0, 1, 2] bcast_S64x2048x1_S64x2048x61_0_1_2 (broadcastInDim S64x2048x1 ![0, 1] bcast_S64x2048_S64x2048x1_0_1 (cmpi .slt (broadcastInDim S64x2048 ![0, 1] bcast_S1x2048_S64x2048_0_1 (broadcastInDim S1x2048 ![1] bcast_S2048_S1x2048_1 (iotaInDim S2048 32 0))) (broadcastInDim S64x2048 ![0, 1] bcast_S64x1_S64x2048_0_1 (broadcastInDim S64x1 ![0] bcast_S64_S64x1_0 lens))))) (Host.gather gather_S21x61_S64x2048x1_S64x2048x61_2_0_n_n_0_2_161 ((fun i => FloatOps.ofBits .f32 (lit0 (S21x61.rowMajor i)))) (broadcastInDim S64x2048x1 ![0, 1] bcast_S64x2048_S64x2048x1_0_1 (select (cmpi .slt x (broadcastInDim S64x2048 ![] bcast_S_S64x2048 (constantI S_ 32 0#32))) (addi x (broadcastInDim S64x2048 ![] bcast_S_S64x2048 (constantI S_ 32 21#32))) x))) (broadcastInDim S64x2048x61 ![] bcast_S_S64x2048x61 (id (constant S_ .f32 0xCE6E6B28#32))))

/-- The reference's table: zero where a codon is a token's, else the large negative constant. -/
def table : S21x61.Idx → EReal := fun i => FloatOps.ofBits (F := Ideal) .f32 (lit0 (S21x61.rowMajor i))

/-- The tokens as row indices, a negative one counted from the end. -/
def rows (x : IVec S64x2048 32) : IVec S64x2048x1 32 :=
  broadcastInDim S64x2048x1 ![0, 1] bcast_S64x2048_S64x2048x1_0_1 (select (cmpi .slt x (broadcastInDim S64x2048 ![] bcast_S_S64x2048 (constantI S_ 32 0#32)))
    (addi x (broadcastInDim S64x2048 ![] bcast_S_S64x2048 (constantI S_ 32 21#32))) x)

theorem resOf_at (E : FVec Ideal S64x2048x61 .f32) (x : IVec S64x2048 32) (lens : IVec S64 32) (b : Fin 64) (s : Fin 2048) (q : Fin 61) :
    resOf E x lens (ix3 b s q) = Ideal.div (E (ix3 b s q)) (∑ k, E (ix3 b s k))
      + Scalar.select (IntOp.cmpi .slt (BitVec.ofNat 32 s.val) (lens (ix1 b)))
        (Host.gather gather_S21x61_S64x2048x1_S64x2048x61_2_0_n_n_0_2_161 table (rows x) (ix3 b s q)) (Ideal.ofBits .f32 0xCE6E6B28#32) := by
  pointwise [resOf]
  rfl

/-- A gather of one row of the table per batch row and time. -/
abbrev rowDims (wf : GatherDims.WF ⟨2, ![21, 61]⟩ ⟨3, ![64, 2048, 1]⟩ ⟨3, ![64, 2048, 61]⟩ [2] [0] [] [0] [] 2 ![1, 61]) :
    GatherDims ⟨2, ![21, 61]⟩ ⟨3, ![64, 2048, 1]⟩ ⟨3, ![64, 2048, 61]⟩ where
  offsetDims := [2]
  collapsedSliceDims := [0]
  operandBatchingDims := []
  startIndicesBatchingDims := []
  startIndexMap := [0]
  indexVectorDim := 2
  sliceSizes := ![1, 61]
  wf := wf

theorem gather_row (wf : GatherDims.WF ⟨2, ![21, 61]⟩ ⟨3, ![64, 2048, 1]⟩ ⟨3, ![64, 2048, 61]⟩ [2] [0] [] [0] [] 2 ![1, 61])
    (x : (⟨2, ![21, 61]⟩ : Shape).Idx → EReal) (idx : IVec ⟨3, ![64, 2048, 1]⟩ 32) (b : Fin 64) (t : Fin 2048) (n : Fin 21) (k : Fin 61)
    (h : idx (ix3 b t 0) = BitVec.ofNat 32 n.val) : Host.gather (rowDims wf) x idx (ix3 b t k) = x (ix2 n k) := by
  unfold Host.gather
  refine congrArg x ?_
  funext a
  refine Fin.ext ?_
  show (rowDims wf).start (ix3 b t k) idx a + (rowDims wf).batchCoord (ix3 b t k) a + (rowDims wf).offCoord (ix3 b t k) a = _
  have ha : a = 0 ∨ a = 1 := by
    match a with
    | ⟨0, _⟩ => exact .inl rfl
    | ⟨1, _⟩ => exact .inr rfl
  rcases ha with rfl | rfl
  · rw [GatherDims.batchCoord_eq_zero _ _ _ (fun h => by simp at h),
      GatherDims.offCoord_eq_zero _ _ _ fun h => ((GatherDims.mem_sKept _ _).1 h).1 (List.mem_singleton.2 rfl)]
    unfold GatherDims.start
    rw [dif_pos (List.mem_singleton.2 rfl)]
    have e : ∀ i, (rowDims wf).siIdx (ix3 b t k) i = ix3 b t 0 := fun i => by
      funext d; refine Fin.ext ?_
      match d with
      | ⟨0, _⟩ => rfl
      | ⟨1, _⟩ => rfl
      | ⟨2, _⟩ => exact Nat.lt_one_iff.1 (Fin.isLt _)
    rw [e, h, toInt_ofNat_of_lt (by omega : n.val < 2 ^ 31)]
    show min n.val (21 - 1) + 0 + 0 = n.val
    omega
  · rw [GatherDims.batchCoord_eq_zero _ _ _ (fun h => by simp at h)]
    unfold GatherDims.start
    rw [dif_neg (fun h => by simp at h)]
    unfold GatherDims.offCoord
    rw [dif_pos ((GatherDims.mem_sKept _ _).2 (⟨fun h => by simp at h, fun h => by simp at h⟩))]
    exact (Nat.zero_add _).trans rfl

theorem gather_at (x : IVec S64x2048 32) (b : Fin 64) (s : Fin 2048) (n : Fin 21) (q : Fin 61) (h : x (ix2 b s) = BitVec.ofNat 32 n.val) :
    Host.gather gather_S21x61_S64x2048x1_S64x2048x61_2_0_n_n_0_2_161 table (rows x) (ix3 b s q) = table (ix2 n q) := by
  refine gather_row _ _ _ b s n q ?_
  have e : rows x (ix3 b s 0) = Scalar.select (IntOp.cmpi .slt (x (ix2 b s)) 0#32) (IntOp.addi (x (ix2 b s)) 21#32) (x (ix2 b s)) := by
    pointwise [rows]
  rw [e, h, Gru.select_slt (by omega : n.val < 2048)]
  exact if_neg (not_lt.2 (Int.natCast_nonneg _))

/-- The result at batch row `b`, time `s`, codon `q`. -/
theorem result (x : IVec S64x2048 32) (lens : IVec S64 32) (b : Fin 64) (s : Fin 2048) (q : Fin 61) :
    resOf (res_main_v104 V) x lens (ix3 b s q) = soft ((args V).o4 ⟨s.val * 64 + b.val, by omega⟩) q
      + Scalar.select (IntOp.cmpi .slt (BitVec.ofNat 32 s.val) (lens (ix1 b)))
        (Host.gather gather_S21x61_S64x2048x1_S64x2048x61_2_0_n_n_0_2_161 table (rows x) (ix3 b s q)) (Ideal.ofBits .f32 0xCE6E6B28#32) := by
  refine (resOf_at (res_main_v104 V) x lens b s q).trans ?_
  simp only [exp_at]
  rfl

end Cert.Reference2Ideal.Head

end
-- ==== Proof.Head.Mask.lean ====
/-
The two ways of masking a codon: the one-hot product with a table of zeros and ones, less one, times
a large constant; and a row of a table of zeros and large negative constants. They are one number.
-/
module

public import proofs.«01_k».proof.Proof.Head.Chain
public import proofs.«01_k».proof.Proof.Head.RefSoft
public import proofs.«01_k».proof.Proof.GruOne

@[expose] public section

set_option maxRecDepth 16384

noncomputable section

namespace Cert.Kernel2Ideal.Head

open Idealize.ShloMosaic
open Cert.Kernel2Ideal

/-- One entry of a token's one-hot row. -/
def hot (w : BitVec 32) (v : Fin 21) : EReal := FloatOps.sitofp (F := Ideal) .f32 (BitVec.setWidth 32 (IntOp.cmpi .eq w (BitVec.ofNat 32 v.val)))

theorem hot_eq (n v : Fin 21) : hot (BitVec.ofNat 32 n.val) v = if v = n then 1 else 0 := by
  have h : ∀ n v : Fin 21, (BitVec.setWidth 32 (IntOp.cmpi .eq (BitVec.ofNat 32 n.val) (BitVec.ofNat 32 v.val)) : BitVec 32) = if v = n then 1#32 else 0#32 := by decide +kernel
  unfold hot
  rw [h]
  split
  · show ((((1#32 : BitVec 32).toInt : ℝ)) : EReal) = 1
    norm_num
  · show ((((0#32 : BitVec 32).toInt : ℝ)) : EReal) = 0
    norm_num

theorem hot_sum (n : Fin 21) (f : Fin 21 → EReal) : (∑ v, hot (BitVec.ofNat 32 n.val) v * f v) = f n := by
  rw [Finset.sum_eq_single n (fun v _ hv => by rw [hot_eq, if_neg hv, zero_mul]) (fun h => absurd (Finset.mem_univ n) h), hot_eq, if_pos rfl, one_mul]

theorem maskK_at (n : Fin 21) (T : S21x61.Idx → EReal) (q : Fin 61) :
    R3.maskK (BitVec.ofNat 32 n.val) T q = (T (ix2 n q) - 1) * Ideal.ofBits .f32 1315859240#32 := by
  have h := hot_sum n fun v => T (ix2 v q)
  unfold hot at h
  unfold R3.maskK
  rw [h]

/-! ## The tables -/

theorem one_eq : Ideal.ofBits .f32 0x3F800000#32 = ((1 : ℝ) : EReal) := by
  simp [Ideal.ofBits, Ideal.ieee, -EReal.coe_mul]; norm_num
theorem big_eq : Ideal.ofBits .f32 1315859240#32 = ((1000000000 : ℝ) : EReal) := by
  simp [Ideal.ofBits, Ideal.ieee, -EReal.coe_mul]; norm_num
theorem neg_eq : Ideal.ofBits .f32 0xCE6E6B28#32 = ((-1000000000 : ℝ) : EReal) := by
  simp [Ideal.ofBits, Ideal.ieee, -EReal.coe_mul]; norm_num
theorem zero_eq : Ideal.ofBits .f32 0x00000000#32 = ((0 : ℝ) : EReal) := by
  simp [Ideal.ofBits, Ideal.ieee, -EReal.coe_mul]

/-- Entry by entry: a one against a zero, or a zero against the large negative constant. -/
theorem tables : ∀ i : Fin 1281, (lit0 i = 0x3F800000#32 ∧ Cert.Reference2Ideal.lit0 i = 0x00000000#32)
    ∨ (lit0 i = 0x00000000#32 ∧ Cert.Reference2Ideal.lit0 i = 0xCE6E6B28#32) := by decide +kernel

/-- The padding's token allows no codon. -/
theorem table_pad : ∀ i : Fin 1281, i.val < 61 → Cert.Reference2Ideal.lit0 i = 0xCE6E6B28#32 := by decide +kernel

theorem mask_row (n : Fin 21) (q : Fin 61) :
    R3.maskK (BitVec.ofNat 32 n.val) table q = Cert.Reference2Ideal.Head.table (ix2 n q) := by
  rw [maskK_at, big_eq]
  unfold table Cert.Reference2Ideal.Head.table
  rcases tables (S21x61.rowMajor (ix2 n q)) with ⟨h1, h2⟩ | ⟨h1, h2⟩
  · have e1 : FloatOps.ofBits (F := Ideal) .f32 (lit0 (S21x61.rowMajor (ix2 n q))) = ((1 : ℝ) : EReal) := by rw [h1]; exact one_eq
    have e2 : FloatOps.ofBits (F := Ideal) .f32 (Cert.Reference2Ideal.lit0 (Cert.Reference2Ideal.S21x61.rowMajor (ix2 n q))) = ((0 : ℝ) : EReal) :=
      (congrArg (FloatOps.ofBits (F := Ideal) .f32) h2).trans zero_eq
    rw [e1]
    refine Eq.trans ?_ e2.symm
    rw [← EReal.coe_one, ← EReal.coe_sub, ← EReal.coe_mul]
    norm_num
  · have e1 : FloatOps.ofBits (F := Ideal) .f32 (lit0 (S21x61.rowMajor (ix2 n q))) = ((0 : ℝ) : EReal) := by rw [h1]; exact zero_eq
    have e2 : FloatOps.ofBits (F := Ideal) .f32 (Cert.Reference2Ideal.lit0 (Cert.Reference2Ideal.S21x61.rowMajor (ix2 n q))) = ((-1000000000 : ℝ) : EReal) :=
      (congrArg (FloatOps.ofBits (F := Ideal) .f32) h2).trans neg_eq
    rw [e1]
    refine Eq.trans ?_ e2.symm
    rw [← EReal.coe_one, ← EReal.coe_sub, ← EReal.coe_mul]
    norm_num

theorem row_pad (q : Fin 61) : Cert.Reference2Ideal.Head.table (ix2 (0 : Fin 21) q) = Ideal.ofBits .f32 0xCE6E6B28#32 := by
  unfold Cert.Reference2Ideal.Head.table
  refine congrArg (FloatOps.ofBits (F := Ideal) .f32) (table_pad _ ?_)
  rw [Shape.rowMajor_val_two]
  show (0 : ℕ) * 61 + q.val < 61
  omega

/-- The token is in the table inside the sequence, and the padding's past its end. -/
def Good (x : IVec S64x2048 32) (lens : IVec S64 32) : Prop := ∀ (b : Fin 64) (s : Fin 2048),
  if ((s.val : ℤ) < (lens (ix1 b)).toInt) then (x (ix2 b s)).toNat < 21 else x (ix2 b s) = 0#32

theorem mask_eq (x : IVec S64x2048 32) (lens : IVec S64 32) (h : Good x lens) (b : Fin 64) (s : Fin 2048) (q : Fin 61) :
    R3.maskK (x (ix2 b s)) table q = Scalar.select (IntOp.cmpi .slt (BitVec.ofNat 32 s.val) (lens (ix1 b)))
      (Host.gather Cert.Reference2Ideal.gather_S21x61_S64x2048x1_S64x2048x61_2_0_n_n_0_2_161 Cert.Reference2Ideal.Head.table (Cert.Reference2Ideal.Head.rows x) (ix3 b s q))
      (Ideal.ofBits .f32 0xCE6E6B28#32) := by
  rw [Gru.select_slt s.isLt]
  have hg := h b s
  split
  · rename_i hs
    rw [if_pos hs] at hg
    have e := Gru.tokenOf_word hg
    rw [Cert.Reference2Ideal.Head.gather_at x b s _ q e]
    exact (congrArg (fun w => R3.maskK w table q) e).trans (mask_row _ q)
  · rename_i hs
    rw [if_neg hs] at hg
    exact (congrArg (fun w => R3.maskK w table q) hg).trans ((mask_row 0 q).trans (row_pad q))

end Cert.Kernel2Ideal.Head

end
-- ==== Proof.Head.Within.lean ====
/-
What the precondition says of the arguments: the tokens are in the table inside a sequence and the
padding's past its end, and the arrays that reach a normalised channel hold real numbers.
-/
module

public import proofs.«01_k».proof.Proof.Gen.Pre_head_within
public import proofs.«01_k».proof.Proof.Head.Mask
public import Idealize.ShloMosaic.Lib.ReduceAll

@[expose] public section

set_option maxRecDepth 16384

noncomputable section

namespace Cert.Pre_head_within.Head

open Idealize.ShloMosaic
open Cert.Pre_head_within Cert.Pre_head_within.Facts
open Cert.Head

instance : Subsingleton S_.Idx := ⟨fun _ _ => funext fun a => a.elim0⟩

theorem and_one : ∀ {a b : BitVec 1}, IntOp.andi a b = 1#1 → a = 1#1 ∧ b = 1#1 := by decide

theorem top_eq : Ideal.ofBits .f32 0x7F800000#32 = ⊤ := by
  simp [Ideal.ofBits, Ideal.ieee]
theorem bot_eq : Ideal.ofBits .f32 0xFF800000#32 = ⊥ := by
  simp [Ideal.ofBits, Ideal.ieee]

theorem real_of {a : EReal} (h : IntOp.andi (Ideal.cmp .olt a (Ideal.ofBits .f32 0x7F800000#32)) (Ideal.cmp .ogt a (Ideal.ofBits .f32 0xFF800000#32)) = 1#1) : IsReal a := by
  obtain ⟨h1, h2⟩ := and_one h
  rw [top_eq] at h1
  rw [bot_eq] at h2
  unfold Ideal.cmp at h1 h2
  refine IsReal.of_lt ?_ ?_
  · by_contra hn
    rw [decide_eq_false hn] at h1
    exact absurd (show BitVec.ofBool false = 1#1 from h1) (by decide)
  · by_contra hn
    rw [decide_eq_false hn] at h2
    exact absurd (show BitVec.ofBool false = 1#1 from h2) (by decide)

/-- An array whose entries are all below infinity and above its negative holds real numbers. -/
theorem all_real {s : Shape} {axes : List (Fin s.rank)} (hb : S_.BroadcastsInDim s (![] : Fin 0 → Fin s.rank)) (hr : s.ReducesTo axes S_) (hu : 0 < S_.numel)
    (a : FVec Ideal s .f32) {j : S_.Idx}
    (e : Host.reduce IntOp.andi (andi (cmpf .olt a (broadcastInDim s ![] hb (constant (F := Ideal) S_ .f32 0x7F800000#32))) (cmpf .ogt a (broadcastInDim s ![] hb (constant (F := Ideal) S_ .f32 0xFF800000#32))))
      (constantI S_ 1 1#1) hr hu j = 1#1) (i : s.Idx) : IsReal (a i) :=
  real_of (Host.reduce_andi_all _ _ hr hu j e i)

theorem toNat_lt_of_range {w : BitVec 32} (h0 : 0 ≤ w.toInt) (h1 : w.toInt < 21) : w.toNat < 21 := by
  rw [BitVec.toInt_eq_toNat_cond] at h0 h1
  have := w.isLt
  split at h0 <;> split at h1 <;> omega

/-- The tokens' condition at one batch row and time. -/
theorem tok_at (x : IVec S64x2048 32) (lens : IVec S64 32) (b : Fin 64) (s : Fin 2048) :
    fn_where (F := Ideal) (cmpi .slt (broadcastInDim S64x2048 ![0, 1] bcast_S1x2048_S64x2048_0_1 (broadcastInDim S1x2048 ![1] bcast_S2048_S1x2048_1 (iotaInDim S2048 32 0)))
        (broadcastInDim S64x2048 ![0, 1] bcast_S64x1_S64x2048_0_1 (broadcastInDim S64x1 ![0] bcast_S64_S64x1_0 lens)))
      (andi (cmpi .sge x (broadcastInDim S64x2048 ![] bcast_S_S64x2048 (constantI S_ 32 0#32))) (cmpi .slt x (broadcastInDim S64x2048 ![] bcast_S_S64x2048 (constantI S_ 32 21#32))))
      (cmpi .eq x (broadcastInDim S64x2048 ![] bcast_S_S64x2048 (constantI S_ 32 0#32))) (ix2 b s)
    = Scalar.select (IntOp.cmpi .slt (BitVec.ofNat 32 s.val) (lens (ix1 b)))
        (IntOp.andi (IntOp.cmpi .sge (x (ix2 b s)) 0#32) (IntOp.cmpi .slt (x (ix2 b s)) 21#32)) (IntOp.cmpi .eq (x (ix2 b s)) 0#32) := by
  pointwise [fn_where]

theorem good_of (x : IVec S64x2048 32) (lens : IVec S64 32)
    (h : ∀ (b : Fin 64) (s : Fin 2048), Scalar.select (IntOp.cmpi .slt (BitVec.ofNat 32 s.val) (lens (ix1 b)))
        (IntOp.andi (IntOp.cmpi .sge (x (ix2 b s)) 0#32) (IntOp.cmpi .slt (x (ix2 b s)) 21#32)) (IntOp.cmpi .eq (x (ix2 b s)) 0#32) = 1#1) :
    Cert.Kernel2Ideal.Head.Good x lens := by
  intro b s
  have e := h b s
  rw [Gru.select_slt s.isLt] at e
  split
  · rename_i hs
    rw [if_pos hs] at e
    obtain ⟨e1, e2⟩ := and_one e
    exact toNat_lt_of_range (IntOp.cmpi_sge.mp e1) (IntOp.cmpi_slt.mp e2)
  · rename_i hs
    rw [if_neg hs] at e
    exact IntOp.cmpi_eq.mp e

theorem facts_of (a0 : FVec Ideal S4096x64x256 .f32) (x : IVec S64x2048 32) (lens : IVec S64 32) (a3 : FVec Ideal S128x512 .f32) (a4 : FVec Ideal S128 .f32) (a5 : FVec Ideal S128 .f32) (a6 : FVec Ideal S128 .f32) (a7 : FVec Ideal S256x128 .f32) (a8 : FVec Ideal S256 .f32) (a9 : FVec Ideal S256 .f32) (a10 : FVec Ideal S256 .f32) (a11 : FVec Ideal S128x256 .f32) (a12 : FVec Ideal S128 .f32) (a13 : FVec Ideal S128 .f32) (a14 : FVec Ideal S128 .f32) (a15 : FVec Ideal S61x128 .f32) (a16 : FVec Ideal S61 .f32)
    (h : fn (F := Ideal) a0 x lens a3 a4 a5 a6 a7 a8 a9 a10 a11 a12 a13 a14 a15 a16 = fun _ => 1#1) :
    Cert.Kernel2Ideal.Head.Good x lens ∧ (∀ i, IsReal (a0 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  have e := congrFun h (fun a => a.elim0)
  dsimp only [fn, fn_part1, fn_part2, fn_part3, fn_part4, fn_part5] at e
  obtain ⟨e, ha12⟩ := and_one e
  obtain ⟨e, ha11⟩ := and_one e
  obtain ⟨e, ha10⟩ := and_one e
  obtain ⟨e, ha9⟩ := and_one e
  obtain ⟨e, ha8⟩ := and_one e
  obtain ⟨e, ha7⟩ := and_one e
  obtain ⟨e, ha6⟩ := and_one e
  obtain ⟨e, ha5⟩ := and_one e
  obtain ⟨e, ha4⟩ := and_one e
  obtain ⟨e, ha3⟩ := and_one e
  obtain ⟨e, ha0⟩ := and_one e
  exact ⟨good_of x lens fun b s => (tok_at x lens b s).symm.trans (Host.reduce_andi_all _ _ _ _ _ e (ix2 b s)), all_real _ _ _ a0 ha0, all_real _ _ _ a3 ha3, all_real _ _ _ a4 ha4, all_real _ _ _ a5 ha5, all_real _ _ _ a6 ha6, all_real _ _ _ a7 ha7, all_real _ _ _ a8 ha8, all_real _ _ _ a9 ha9, all_real _ _ _ a10 ha10, all_real _ _ _ a11 ha11, all_real _ _ _ a12 ha12⟩

end Cert.Pre_head_within.Head

end
-- ==== Proof.Head.Equal.lean ====
/-
The head and its reference end with one array where the arguments agree and the precondition holds.
-/
module

public import proofs.«01_k».proof.Defs
public import proofs.«01_k».proof.Proof.Head.RunOut
public import proofs.«01_k».proof.Proof.Head.Mask
public import proofs.«01_k».proof.Proof.Head.Within

@[expose] public section

set_option maxRecDepth 16384

noncomputable section

namespace Cert.Head

open Idealize.ShloMosaic Idealize.ShloMosaic.TcCoe Idealize.ShloMosaic.StableHlo

variable (m : (ℓ : Loc Cert.Kernel2Ideal.nD Cert.Kernel2Ideal.τ Cert.Kernel2Ideal.sig) → Buf (Elt Ideal) ℓ) (ρ : Dev Cert.Kernel2Ideal.nD → PrngReg)
variable (m' : (ℓ : Loc Cert.Reference2Ideal.nD Cert.Reference2Ideal.τ Cert.Reference2Ideal.sig) → Buf (Elt Ideal) ℓ) (c : Dev Cert.Kernel2Ideal.nD)

theorem args_eq (e : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6) ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7) ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8) ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9) ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10) ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11) ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12) ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13) ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14) ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15) ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) :
    Cert.Reference2Ideal.Head.args (launchContents m' c) = Cert.Kernel2Ideal.Head.args m c := by
  obtain ⟨e0, e1, e2, e3, e4, e5, e6, e7, e8, e9, e10, e11, e12, e13, e14, e15, e16⟩ := e
  have k0 : (Cert.Reference2Ideal.Head.args (launchContents m' c)).h = (Cert.Kernel2Ideal.Head.args m c).h := by
    funext i; funext j; funext k; exact congrFun e0 _
  have k3 : (Cert.Reference2Ideal.Head.args (launchContents m' c)).w1 = (Cert.Kernel2Ideal.Head.args m c).w1 := by
    funext i; funext j; exact congrFun e3 _
  have k4 : (Cert.Reference2Ideal.Head.args (launchContents m' c)).b1 = (Cert.Kernel2Ideal.Head.args m c).b1 := by
    funext i; exact congrFun e4 _
  have k5 : (Cert.Reference2Ideal.Head.args (launchContents m' c)).g1 = (Cert.Kernel2Ideal.Head.args m c).g1 := by
    funext i; exact congrFun e5 _
  have k6 : (Cert.Reference2Ideal.Head.args (launchContents m' c)).be1 = (Cert.Kernel2Ideal.Head.args m c).be1 := by
    funext i; exact congrFun e6 _
  have k7 : (Cert.Reference2Ideal.Head.args (launchContents m' c)).w2 = (Cert.Kernel2Ideal.Head.args m c).w2 := by
    funext i; funext j; exact congrFun e7 _
  have k8 : (Cert.Reference2Ideal.Head.args (launchContents m' c)).b2 = (Cert.Kernel2Ideal.Head.args m c).b2 := by
    funext i; exact congrFun e8 _
  have k9 : (Cert.Reference2Ideal.Head.args (launchContents m' c)).g2 = (Cert.Kernel2Ideal.Head.args m c).g2 := by
    funext i; exact congrFun e9 _
  have k10 : (Cert.Reference2Ideal.Head.args (launchContents m' c)).be2 = (Cert.Kernel2Ideal.Head.args m c).be2 := by
    funext i; exact congrFun e10 _
  have k11 : (Cert.Reference2Ideal.Head.args (launchContents m' c)).w3 = (Cert.Kernel2Ideal.Head.args m c).w3 := by
    funext i; funext j; exact congrFun e11 _
  have k12 : (Cert.Reference2Ideal.Head.args (launchContents m' c)).b3 = (Cert.Kernel2Ideal.Head.args m c).b3 := by
    funext i; exact congrFun e12 _
  have k13 : (Cert.Reference2Ideal.Head.args (launchContents m' c)).g3 = (Cert.Kernel2Ideal.Head.args m c).g3 := by
    funext i; exact congrFun e13 _
  have k14 : (Cert.Reference2Ideal.Head.args (launchContents m' c)).be3 = (Cert.Kernel2Ideal.Head.args m c).be3 := by
    funext i; exact congrFun e14 _
  have k15 : (Cert.Reference2Ideal.Head.args (launchContents m' c)).w4 = (Cert.Kernel2Ideal.Head.args m c).w4 := by
    funext i; funext j; exact congrFun e15 _
  have k16 : (Cert.Reference2Ideal.Head.args (launchContents m' c)).b4 = (Cert.Kernel2Ideal.Head.args m c).b4 := by
    funext i; exact congrFun e16 _
  exact Args.ext k0 k3 k4 k5 k6 k7 k8 k9 k10 k11 k12 k13 k14 k15 k16

theorem finite_of (h : Cert.Pre_Kernel2Ideal_head_within m) : (Cert.Kernel2Ideal.Head.args m c).Finite := by
  obtain ⟨-, h0, h3, h4, h5, h6, h7, h8, h9, h10, h11, h12⟩ := Cert.Pre_head_within.Head.facts_of _ _ _ _ _ _ _ _ _ _ _ _ _ _ _ _ _ (h c)
  exact {
  h := fun i j k => h0 (ix3 i j k)
  w1 := fun i j => h3 (ix2 i j)
  b1 := fun i => h4 (ix1 i)
  g1 := fun i => h5 (ix1 i)
  be1 := fun i => h6 (ix1 i)
  w2 := fun i j => h7 (ix2 i j)
  b2 := fun i => h8 (ix1 i)
  g2 := fun i => h9 (ix1 i)
  be2 := fun i => h10 (ix1 i)
  w3 := fun i j => h11 (ix2 i j)
  b3 := fun i => h12 (ix1 i) }

theorem good_of (h : Cert.Pre_Kernel2Ideal_head_within m) :
    Cert.Kernel2Ideal.Head.Good (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) :=
  (Cert.Pre_head_within.Head.facts_of _ _ _ _ _ _ _ _ _ _ _ _ _ _ _ _ _ (h c)).1

/-- The reference's result is the kernel's, entry by entry. -/
theorem equal_at (h : Cert.Pre_Kernel2Ideal_head_within m) (e : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6) ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7) ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8) ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9) ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10) ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11) ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12) ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13) ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14) ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15) ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16))  (b : Fin 64) (s : Fin 2048) (q : Fin 61) :
    (Cert.Reference2Ideal.Head.resOf (Cert.Reference2Ideal.Value.res_main_v104 (launchContents m' c)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (ix3 b s q) : EReal) = Cert.Kernel2Ideal.Gen.W9 m ρ c (Proc.devRef .tc Cert.Kernel2Ideal.main_v20) (ix3 b s q) := by
  have hA := args_eq m m' c e
  have e1 : (m' ((c.tc : Thread Cert.Reference2Ideal.nD Cert.Reference2Ideal.τ).loc Cert.Reference2Ideal.main_arg1) : IVec Cert.Kernel2Ideal.S64x2048 32) = m ((c.tc : Thread Cert.Kernel2Ideal.nD Cert.Kernel2Ideal.τ).loc Cert.Kernel2Ideal.main_arg1) := e.2.1
  have e2 : (m' ((c.tc : Thread Cert.Reference2Ideal.nD Cert.Reference2Ideal.τ).loc Cert.Reference2Ideal.main_arg2) : IVec Cert.Kernel2Ideal.S64 32) = m ((c.tc : Thread Cert.Kernel2Ideal.nD Cert.Kernel2Ideal.τ).loc Cert.Kernel2Ideal.main_arg2) := e.2.2.1
  refine Eq.trans ?_ (Cert.Kernel2Ideal.Head.result m ρ c (finite_of m c h) b s q).symm
  refine (Cert.Reference2Ideal.Head.result (launchContents m' c) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) b s q).trans ?_
  have hm := Cert.Kernel2Ideal.Head.mask_eq _ _ (good_of m c h) b s q
  rw [hA]
  refine congrArg (fun z : EReal => soft ((Cert.Kernel2Ideal.Head.args m c).o4 ⟨s.val * 64 + b.val, by omega⟩) q + z) ?_
  refine Eq.trans ?_ hm.symm
  rw [show (m' ((c.tc : Thread Cert.Reference2Ideal.nD Cert.Reference2Ideal.τ).loc Cert.Reference2Ideal.main_arg1) : IVec Cert.Kernel2Ideal.S64x2048 32) = m ((c.tc : Thread Cert.Kernel2Ideal.nD Cert.Kernel2Ideal.τ).loc Cert.Kernel2Ideal.main_arg1) from e1, show (m' ((c.tc : Thread Cert.Reference2Ideal.nD Cert.Reference2Ideal.τ).loc Cert.Reference2Ideal.main_arg2) : IVec Cert.Kernel2Ideal.S64 32) = m ((c.tc : Thread Cert.Kernel2Ideal.nD Cert.Kernel2Ideal.τ).loc Cert.Kernel2Ideal.main_arg2) from e2]

/-- The reference's result is the kernel's. -/
theorem equal (h : Cert.Pre_Kernel2Ideal_head_within m) (e : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6) ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7) ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8) ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9) ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10) ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11) ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12) ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13) ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14) ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15) ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) :
    (Cert.Reference2Ideal.Head.resOf (Cert.Reference2Ideal.Value.res_main_v104 (launchContents m' c)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) : Vec Ideal Cert.Kernel2Ideal.S64x2048x61 .f32)
      = Cert.Kernel2Ideal.Gen.W9 m ρ c (Proc.devRef .tc Cert.Kernel2Ideal.main_v20) := by
  have k : ∀ y : Cert.Kernel2Ideal.S64x2048x61.Idx, (Cert.Reference2Ideal.Head.resOf (Cert.Reference2Ideal.Value.res_main_v104 (launchContents m' c)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) y : EReal) = Cert.Kernel2Ideal.Gen.W9 m ρ c (Proc.devRef .tc Cert.Kernel2Ideal.main_v20) y := fun y => by
    idx_vars y
    exact equal_at m ρ m' c h e _ _ _
  exact funext k

end Cert.Head

end
-- ==== Proof.lean ====
module

public import proofs.«01_k».proof.Defs
public import proofs.«01_k».proof.Proof.Gen.Pre_lens_within
public import proofs.«01_k».proof.Proof.Gen.Kernel.Frame
public import proofs.«01_k».proof.Proof.Gen.KernelIdeal.Frame
public import proofs.«01_k».proof.Proof.Gen.KernelIdeal.Loops
public import proofs.«01_k».proof.Proof.Gen.ReferenceIdeal.Run
public import proofs.«01_k».proof.Proof.Gen.Pre_inputs_within
public import proofs.«01_k».proof.Proof.Gen.Kernel0.Frame
public import proofs.«01_k».proof.Proof.Gen.Kernel0Ideal.Frame
public import proofs.«01_k».proof.Proof.Gen.Kernel0Ideal.Loops
public import proofs.«01_k».proof.Proof.Gen.Reference0Ideal.Run
public import proofs.«01_k».proof.Proof.L1.Frames
public import proofs.«01_k».proof.Proof.L1.Array
public import proofs.«01_k».proof.Proof.Ref.Frame
public import proofs.«01_k».proof.Proof.L0.Frames
public import proofs.«01_k».proof.Proof.L0.Array
public import proofs.«01_k».proof.Proof.Ref0.Frame
public import proofs.«01_k».proof.Proof.Gen.Kernel2.Frame
public import proofs.«01_k».proof.Proof.Gen.Kernel2Ideal.Frame
public import proofs.«01_k».proof.Proof.Gen.Reference2Ideal.Run
public import proofs.«01_k».proof.Proof.Head.Equal

/-! # The claim

Each kernel and its reference end with their output as one formula over their own arguments; where the arguments agree
the two formulas are one. -/

@[expose] public section

set_option maxRecDepth 16384

namespace Cert.Proof

open Idealize.ShloMosaic Idealize.ShloMosaic.TcCoe Idealize.SL.Sem Idealize.ShloMosaic.Rounds

instance : Cert.Kernel.Facts := Cert.Kernel.Gen.facts
instance : Cert.KernelIdeal.Facts := Cert.KernelIdeal.Gen.facts
instance : Cert.ReferenceIdeal.Facts := Cert.ReferenceIdeal.Gen.facts
instance : Cert.Pre_lens_within.Facts := Cert.Pre_lens_within.Gen.facts
instance : Cert.Kernel0.Facts := Cert.Kernel0.Gen.facts
instance : Cert.Kernel0Ideal.Facts := Cert.Kernel0Ideal.Gen.facts
instance : Cert.Reference0Ideal.Facts := Cert.Reference0Ideal.Gen.facts
instance : Cert.Pre_inputs_within.Facts := Cert.Pre_inputs_within.Gen.facts

/-! ## The second layer -/

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The precondition bounds every length. -/
theorem lens_le (h : Cert.Pre_KernelIdeal_lens_within m) (c : Dev Cert.KernelIdeal.nD) (b : Fin 64) :
    (m ((c.tc : Thread Cert.KernelIdeal.nD Cert.KernelIdeal.τ).loc Cert.KernelIdeal.main_arg1) (ix1 b) : BitVec 32).toInt ≤ 2048 := by
  have e := congrFun (h c) (ix1 b)
  simp only [Cert.Pre_lens_within.fn, cmpi, broadcastInDim, constantI] at e
  exact IntOp.cmpi_sle.mp e

/-- The two formulas on equal arguments. -/
theorem layer_eq (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Value.G m' c : Vec Ideal Cert.KernelIdeal.S4096x64x256 .f32) = Cert.KernelIdeal.L1.G m c := by
  obtain ⟨e0, e1, e2, e3, e4, e5, e6, e7, e8, e9⟩ := e
  have hU : Cert.ReferenceIdeal.Value.inU m' c = Cert.KernelIdeal.L1.inU m c := by
    funext t b k; exact congrFun e0 _
  have hV : Cert.ReferenceIdeal.Value.inV m' c = Cert.KernelIdeal.L1.inV m c := by
    funext t b k; exact congrFun e0 _
  have hl : ∀ b, (Cert.ReferenceIdeal.Value.lenw m' c b).toInt = Cert.KernelIdeal.L1.len m c b := fun b => by
    show BitVec.toInt _ = BitVec.toInt _
    exact congrArg BitVec.toInt (congrFun e1 _)
  have hwi : Cert.ReferenceIdeal.Value.wih m' c = Cert.KernelIdeal.L1.wih m c := by
    funext d q k; exact congrArg₂ (Cert.Gru.pick d) (congrFun e2 _) (congrFun e6 _)
  have hwh : Cert.ReferenceIdeal.Value.whh m' c = Cert.KernelIdeal.L1.whh m c := by
    funext d q k; exact congrArg₂ (Cert.Gru.pick d) (congrFun e3 _) (congrFun e7 _)
  have hbi : Cert.ReferenceIdeal.Value.bih m' c = Cert.KernelIdeal.L1.bih m c := by
    funext d q; exact congrArg₂ (Cert.Gru.pick d) (congrFun e4 _) (congrFun e8 _)
  have hbh : Cert.ReferenceIdeal.Value.bhh m' c = Cert.KernelIdeal.L1.bhh m c := by
    funext d q; exact congrArg₂ (Cert.Gru.pick d) (congrFun e5 _) (congrFun e9 _)
  have hs : ∀ d b, Cert.ReferenceIdeal.Value.stepOf m' c d b = Cert.KernelIdeal.L1.stepOf m c d b := fun d b => by
    unfold Cert.ReferenceIdeal.Value.stepOf Cert.KernelIdeal.L1.stepOf
    rw [hU, hV, hwi, hwh, hbi, hbh]
  have key : ∀ d t b j, Cert.ReferenceIdeal.Value.layerAt m' c d t b j = Cert.KernelIdeal.L1.layerAt m c d t b j := fun d t b j => by
    unfold Cert.ReferenceIdeal.Value.layerAt Cert.KernelIdeal.L1.layerAt
    rw [hl, hs]
  funext y
  exact key _ _ (y 1) (y 2)

end

/-! ## The first layer -/

section

variable (m : (ℓ : Loc Cert.Kernel0Ideal.nD Cert.Kernel0Ideal.τ Cert.Kernel0Ideal.sig) → Buf (Elt Ideal) ℓ)
variable (m' : (ℓ : Loc Cert.Reference0Ideal.nD Cert.Reference0Ideal.τ Cert.Reference0Ideal.sig) → Buf (Elt Ideal) ℓ)

theorem toNat_lt_of_range {w : BitVec 32} (h0 : 0 ≤ w.toInt) (h1 : w.toInt < 21) : w.toNat < 21 := by
  rw [BitVec.toInt_eq_toNat_cond] at h0 h1
  have := w.isLt
  split at h0 <;> split at h1 <;> omega

theorem and_one : ∀ {a b : BitVec 1}, IntOp.andi a b = 1#1 → a = 1#1 ∧ b = 1#1 := by decide

/-- The precondition puts every token in the table and bounds every length. -/
theorem inputs_ok (h : Cert.Pre_Kernel0Ideal_inputs_within m) (c : Dev Cert.Kernel0Ideal.nD) (b : Fin 64) (t : Fin 2048) :
    (m ((c.tc : Thread Cert.Kernel0Ideal.nD Cert.Kernel0Ideal.τ).loc Cert.Kernel0Ideal.main_arg0) (ix2 b t) : BitVec 32).toNat < 21
      ∧ (m ((c.tc : Thread Cert.Kernel0Ideal.nD Cert.Kernel0Ideal.τ).loc Cert.Kernel0Ideal.main_arg1) (ix1 b) : BitVec 32).toInt ≤ 2048 := by
  have e := congrFun (h c) (ix2 b t)
  simp only [Cert.Pre_inputs_within.fn, cmpi, andi, broadcastInDim, constantI] at e
  obtain ⟨e1, e2⟩ := and_one e
  obtain ⟨e3, e4⟩ := and_one e1
  refine ⟨toNat_lt_of_range (IntOp.cmpi_sge.mp e3) (IntOp.cmpi_slt.mp e4), ?_⟩
  refine le_of_eq_of_le (congrArg BitVec.toInt ?_) (IntOp.cmpi_sle.mp e2)
  refine congrArg (m ((c.tc : Thread Cert.Kernel0Ideal.nD Cert.Kernel0Ideal.τ).loc Cert.Kernel0Ideal.main_arg1)) ?_
  funext a
  match a with
  | ⟨0, _⟩ => rfl

/-- The two formulas on equal arguments. -/
theorem layer0_eq (c : Dev Cert.Kernel0Ideal.nD)
    (e : m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)
      ∧ m' ((c.tc : Thread Cert.Reference0Ideal.nD Cert.Reference0Ideal.τ).loc Cert.Reference0Ideal.main_arg6) = m ((c.tc : Thread Cert.Kernel0Ideal.nD Cert.Kernel0Ideal.τ).loc Cert.Kernel0Ideal.main_arg6)
      ∧ m' ((c.tc : Thread Cert.Reference0Ideal.nD Cert.Reference0Ideal.τ).loc Cert.Reference0Ideal.main_arg7) = m ((c.tc : Thread Cert.Kernel0Ideal.nD Cert.Kernel0Ideal.τ).loc Cert.Kernel0Ideal.main_arg7)
      ∧ m' ((c.tc : Thread Cert.Reference0Ideal.nD Cert.Reference0Ideal.τ).loc Cert.Reference0Ideal.main_arg8) = m ((c.tc : Thread Cert.Kernel0Ideal.nD Cert.Kernel0Ideal.τ).loc Cert.Kernel0Ideal.main_arg8)
      ∧ m' ((c.tc : Thread Cert.Reference0Ideal.nD Cert.Reference0Ideal.τ).loc Cert.Reference0Ideal.main_arg9) = m ((c.tc : Thread Cert.Kernel0Ideal.nD Cert.Kernel0Ideal.τ).loc Cert.Kernel0Ideal.main_arg9)
      ∧ m' ((c.tc : Thread Cert.Reference0Ideal.nD Cert.Reference0Ideal.τ).loc Cert.Reference0Ideal.main_arg10) = m ((c.tc : Thread Cert.Kernel0Ideal.nD Cert.Kernel0Ideal.τ).loc Cert.Kernel0Ideal.main_arg10)) :
    (Cert.Reference0Ideal.Value.G m' c : Vec Ideal Cert.Kernel0Ideal.S4096x64x256 .f32) = Cert.Kernel0Ideal.L0.G m c := by
  obtain ⟨e0, e1, e2, e3, e4, e5, e6, e7, e8, e9, e10⟩ := e
  have ht : Cert.Reference0Ideal.Value.tok m' c = Cert.Kernel0Ideal.L0.tok m c := by
    funext t b; exact congrArg Cert.Gru.tokenOf (congrFun e0 _)
  have he : Cert.Reference0Ideal.Value.emb m' c = Cert.Kernel0Ideal.L0.emb m c := by
    funext v k; exact congrFun e2 _
  have hl : ∀ b, (Cert.Reference0Ideal.Value.lenw m' c b).toInt = Cert.Kernel0Ideal.L0.len m c b := fun b => by
    show BitVec.toInt _ = BitVec.toInt _
    exact congrArg BitVec.toInt (congrFun e1 _)
  have hwi : Cert.Reference0Ideal.Value.wih m' c = Cert.Kernel0Ideal.L0.wih m c := by
    funext d q k; exact congrArg₂ (Cert.Gru.pick d) (congrFun e3 _) (congrFun e7 _)
  have hwh : Cert.Reference0Ideal.Value.whh m' c = Cert.Kernel0Ideal.L0.whh m c := by
    funext d q k; exact congrArg₂ (Cert.Gru.pick d) (congrFun e4 _) (congrFun e8 _)
  have hbi : Cert.Reference0Ideal.Value.bih m' c = Cert.Kernel0Ideal.L0.bih m c := by
    funext d q; exact congrArg₂ (Cert.Gru.pick d) (congrFun e5 _) (congrFun e9 _)
  have hbh : Cert.Reference0Ideal.Value.bhh m' c = Cert.Kernel0Ideal.L0.bhh m c := by
    funext d q; exact congrArg₂ (Cert.Gru.pick d) (congrFun e6 _) (congrFun e10 _)
  have hs : ∀ d b, Cert.Reference0Ideal.Value.stepOf m' c d b = Cert.Kernel0Ideal.L0.stepOf m c d b := fun d b => by
    unfold Cert.Reference0Ideal.Value.stepOf Cert.Kernel0Ideal.L0.stepOf
    rw [ht, he, hwi, hwh, hbi, hbh]
  have key : ∀ d t b j, Cert.Reference0Ideal.Value.layerAt m' c d t b j = Cert.Kernel0Ideal.L0.layerAt m c d t b j := fun d t b j => by
    unfold Cert.Reference0Ideal.Value.layerAt Cert.Kernel0Ideal.L0.layerAt
    rw [hl, hs]
  funext y
  exact key _ _ (y 1) (y 2)

end

theorem claim : Cert.Claim := ⟨Cert.Kernel.Gen.facts, Cert.KernelIdeal.Gen.facts, Cert.ReferenceIdeal.Gen.facts,
  Cert.Kernel0.Gen.facts, Cert.Kernel0Ideal.Gen.facts, Cert.Reference0Ideal.Gen.facts,
  Cert.Kernel2.Gen.facts, Cert.Kernel2Ideal.Gen.facts, Cert.Reference2Ideal.Gen.facts,
  Cert.Pre_lens_within.Gen.facts, Cert.Pre_inputs_within.Gen.facts, Cert.Pre_head_within.Gen.facts,
  fun m g _ => Cert.Kernel.L1.frame m g,
  fun m g _ => Cert.KernelIdeal.L1.frame m g,
  fun m g _ => Cert.KernelIdeal.L1.frame m g,
  fun m g _ => (θ_run _ _ _).mono (fun r h => ⟨fun c => (h.1 c).2, h.2⟩) (Cert.ReferenceIdeal.Value.run_all m g),
  fun m g _ => (θ_run _ _ _).mono (fun r h => ⟨fun c => (h.1 c).2, h.2⟩) (Cert.ReferenceIdeal.Value.run_all m g),
  fun m g _ => Cert.Kernel0.L0.frame m g,
  fun m g _ => Cert.Kernel0Ideal.L0.frame m g,
  fun m g _ => Cert.Kernel0Ideal.L0.frame m g,
  fun m g _ => (θ_run _ _ _).mono (fun r h => ⟨fun c => (h.1 c).2, h.2⟩) (Cert.Reference0Ideal.Value.run_all m g),
  fun m g _ => (θ_run _ _ _).mono (fun r h => ⟨fun c => (h.1 c).2, h.2⟩) (Cert.Reference0Ideal.Value.run_all m g),
  fun m g _ => Cert.Kernel2.Gen.frame m g,
  fun m g _ => Cert.Kernel2Ideal.Gen.frame m g,
  fun m g _ => Cert.Kernel2Ideal.Gen.frame m g,
  fun m g _ => (θ_run _ _ _).mono (fun r h => ⟨fun c => (h c).2, sem_eq_zero_of_no_sems rfl r.2⟩) (Cert.Reference2Ideal.Value.run m g),
  fun m g _ => (θ_run _ _ _).mono (fun r h => ⟨fun c => (h c).2, sem_eq_zero_of_no_sems rfl r.2⟩) (Cert.Reference2Ideal.Value.run m g),
  trivial,
  fun m g m' g' hpre hargs => by
    refine ⟨fun c => Cert.KernelIdeal.L1.G m c, ?_, ?_⟩
    · exact (θ_run _ _ _).mono (fun r h c => ⟨(((h.2.1 c).1 7).trans (Cert.KernelIdeal.L1.result m c)), h.1.1 c⟩)
        (θ_run_and (Cert.KernelIdeal.L1.frame m g) (Cert.KernelIdeal.L1.run_main m g))
    · refine (θ_run _ _ _).mono (fun r h c => ⟨?_, (h.1 c).2⟩) (Cert.ReferenceIdeal.Value.run_all m' g')
      rw [(h.1 c).1, Cert.ReferenceIdeal.Value.result m' c, layer_eq m m' c (hargs c)]
      intro b
      have e := lens_le m hpre c b
      rw [show Cert.ReferenceIdeal.Value.lenw m' c b = m ((c.tc : Thread Cert.KernelIdeal.nD Cert.KernelIdeal.τ).loc Cert.KernelIdeal.main_arg1) (ix1 b) from
        congrFun (hargs c).2.1 _]
      exact e,
  trivial,
  fun m g m' g' hpre hargs => by
    have hT : ∀ c, Cert.Kernel0Ideal.L0.TokensOk m c := fun c b t => (inputs_ok m hpre c b t).1
    refine ⟨fun c => Cert.Kernel0Ideal.L0.G m c, ?_, ?_⟩
    · exact (θ_run _ _ _).mono (fun r h c => ⟨(((h.2.1 c).1 7).trans (Cert.Kernel0Ideal.L0.result m c (hT c))), h.1.1 c⟩)
        (θ_run_and (Cert.Kernel0Ideal.L0.frame m g) (Cert.Kernel0Ideal.L0.run_main m g))
    · refine (θ_run _ _ _).mono (fun r h c => ⟨?_, (h.1 c).2⟩) (Cert.Reference0Ideal.Value.run_all m' g')
      rw [(h.1 c).1, Cert.Reference0Ideal.Value.result m' c, layer0_eq m m' c (hargs c)]
      · intro b t
        rw [show m' ((c.tc : Thread Cert.Reference0Ideal.nD Cert.Reference0Ideal.τ).loc Cert.Reference0Ideal.main_arg0) (ix2 b t) = m ((c.tc : Thread Cert.Kernel0Ideal.nD Cert.Kernel0Ideal.τ).loc Cert.Kernel0Ideal.main_arg0) (ix2 b t) from congrFun (hargs c).1 _]
        exact hT c b t
      · intro b
        have e := (inputs_ok m hpre c b 0).2
        rw [show Cert.Reference0Ideal.Value.lenw m' c b = m ((c.tc : Thread Cert.Kernel0Ideal.nD Cert.Kernel0Ideal.τ).loc Cert.Kernel0Ideal.main_arg1) (ix1 b) from congrFun (hargs c).2.1 _]
        exact e,
  trivial,
  fun m g m' g' hpre hargs => by
    refine ⟨fun c => Cert.Kernel2Ideal.Gen.W9 m g c (Proc.devRef .tc Cert.Kernel2Ideal.main_v20), ?_, ?_⟩
    · exact (θ_run _ _ _).mono (fun r h => h.1) (Cert.Kernel2Ideal.Head.run_out m g)
    · exact (θ_run _ _ _).mono (fun r h c => ⟨(h c).1.trans (Cert.Head.equal m g m' c hpre (hargs c)), (h c).2⟩) (Cert.Reference2Ideal.Value.run m' g')⟩

end Cert.Proof
end
